-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_v164) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x18x64x64 : Shape := ⟨4, ![1, 18, 64, 64]⟩
abbrev S1x32x4 : Shape := ⟨3, ![1, 32, 4]⟩
abbrev S_ : Shape := ⟨0, ![]⟩
abbrev S9x64 : Shape := ⟨2, ![9, 64]⟩
abbrev S9x1x64 : Shape := ⟨3, ![9, 1, 64]⟩
abbrev S9x64x1 : Shape := ⟨3, ![9, 64, 1]⟩
abbrev S9 : Shape := ⟨1, ![9]⟩
abbrev S9x1x1 : Shape := ⟨3, ![9, 1, 1]⟩
abbrev S2x288x128 : Shape := ⟨3, ![2, 288, 128]⟩
abbrev S32x4 : Shape := ⟨2, ![32, 4]⟩
abbrev S9x64x64 : Shape := ⟨3, ![9, 64, 64]⟩
abbrev S288x128 : Shape := ⟨2, ![288, 128]⟩
abbrev S1x288x128 : Shape := ⟨3, ![1, 288, 128]⟩
abbrev S8x288x128 : Shape := ⟨3, ![8, 288, 128]⟩
abbrev S4x288x128 : Shape := ⟨3, ![4, 288, 128]⟩
abbrev S32x8x128 : Shape := ⟨3, ![32, 8, 128]⟩
abbrev S32x128 : Shape := ⟨2, ![32, 128]⟩
abbrev S8x128 : Shape := ⟨2, ![8, 128]⟩
abbrev S1x8x128 : Shape := ⟨3, ![1, 8, 128]⟩
abbrev S1x1 : Shape := ⟨2, ![1, 1]⟩
abbrev S128 : Shape := ⟨1, ![128]⟩
abbrev S1x128 : Shape := ⟨2, ![1, 128]⟩
abbrev S32 : Shape := ⟨1, ![32]⟩
abbrev S32x1 : Shape := ⟨2, ![32, 1]⟩
abbrev S1 : Shape := ⟨1, ![1]⟩
abbrev S1x1x1 : Shape := ⟨3, ![1, 1, 1]⟩
abbrev S1x9x64x64 : Shape := ⟨4, ![1, 9, 64, 64]⟩
abbrev S288x128x4 : Shape := ⟨3, ![288, 128, 4]⟩
abbrev S1x9x64x64x4 : Shape := ⟨5, ![1, 9, 64, 64, 4]⟩

abbrev nBuf : Space → Nat
  | .hbm => 63
  | .vmem => 13
  | .smem => 1
  | _ => 0

abbrev bufTy : (tb : Table) → Fin (tcTables nBuf tb) → BufTy
  | .hbm, ⟨0, _⟩ => ⟨S1x18x64x64, .f32⟩
  | .hbm, ⟨1, _⟩ => ⟨S1x32x4, .f32⟩
  | .hbm, ⟨2, _⟩ => ⟨S_, .i32⟩
  | .hbm, ⟨3, _⟩ => ⟨S9x64, .f32⟩
  | .hbm, ⟨4, _⟩ => ⟨S9x1x64, .f32⟩
  | .hbm, ⟨5, _⟩ => ⟨S9x64, .f32⟩
  | .hbm, ⟨6, _⟩ => ⟨S9x1x64, .f32⟩
  | .hbm, ⟨7, _⟩ => ⟨S9x64, .f32⟩
  | .hbm, ⟨8, _⟩ => ⟨S9x64x1, .f32⟩
  | .hbm, ⟨9, _⟩ => ⟨S9x64, .f32⟩
  | .hbm, ⟨10, _⟩ => ⟨S9x64x1, .f32⟩
  | .hbm, ⟨11, _⟩ => ⟨S9, .f32⟩
  | .hbm, ⟨12, _⟩ => ⟨S9x1x1, .f32⟩
  | .hbm, ⟨13, _⟩ => ⟨S9, .f32⟩
  | .hbm, ⟨14, _⟩ => ⟨S9x1x1, .f32⟩
  | .hbm, ⟨15, _⟩ => ⟨S9, .f32⟩
  | .hbm, ⟨16, _⟩ => ⟨S9x1x1, .f32⟩
  | .hbm, ⟨17, _⟩ => ⟨S2x288x128, .i32⟩
  | .hbm, ⟨18, _⟩ => ⟨S32x4, .f32⟩
  | .hbm, ⟨19, _⟩ => ⟨S9x64x64, .f32⟩
  | .hbm, ⟨20, _⟩ => ⟨S288x128, .f32⟩
  | .hbm, ⟨21, _⟩ => ⟨S9x64x64, .f32⟩
  | .hbm, ⟨22, _⟩ => ⟨S288x128, .f32⟩
  | .hbm, ⟨23, _⟩ => ⟨S9x64x64, .f32⟩
  | .hbm, ⟨24, _⟩ => ⟨S288x128, .f32⟩
  | .hbm, ⟨25, _⟩ => ⟨S9x64x64, .f32⟩
  | .hbm, ⟨26, _⟩ => ⟨S288x128, .f32⟩
  | .hbm, ⟨27, _⟩ => ⟨S9x64x64, .f32⟩
  | .hbm, ⟨28, _⟩ => ⟨S288x128, .f32⟩
  | .hbm, ⟨29, _⟩ => ⟨S9x64x64, .f32⟩
  | .hbm, ⟨30, _⟩ => ⟨S288x128, .f32⟩
  | .hbm, ⟨31, _⟩ => ⟨S_, .f32⟩
  | .hbm, ⟨32, _⟩ => ⟨S288x128, .f32⟩
  | .hbm, ⟨33, _⟩ => ⟨S288x128, .i1⟩
  | .hbm, ⟨34, _⟩ => ⟨S_, .f32⟩
  | .hbm, ⟨35, _⟩ => ⟨S288x128, .f32⟩
  | .hbm, ⟨36, _⟩ => ⟨S288x128, .i1⟩
  | .hbm, ⟨37, _⟩ => ⟨S288x128, .i1⟩
  | .hbm, ⟨38, _⟩ => ⟨S_, .f32⟩
  | .hbm, ⟨39, _⟩ => ⟨S288x128, .f32⟩
  | .hbm, ⟨40, _⟩ => ⟨S288x128, .i1⟩
  | .hbm, ⟨41, _⟩ => ⟨S288x128, .i1⟩
  | .hbm, ⟨42, _⟩ => ⟨S_, .f32⟩
  | .hbm, ⟨43, _⟩ => ⟨S288x128, .f32⟩
  | .hbm, ⟨44, _⟩ => ⟨S288x128, .i1⟩
  | .hbm, ⟨45, _⟩ => ⟨S288x128, .i1⟩
  | .hbm, ⟨46, _⟩ => ⟨S9x64x64, .f32⟩
  | .hbm, ⟨47, _⟩ => ⟨S288x128, .f32⟩
  | .hbm, ⟨48, _⟩ => ⟨S288x128, .f32⟩
  | .hbm, ⟨49, _⟩ => ⟨S1x288x128, .f32⟩
  | .hbm, ⟨50, _⟩ => ⟨S1x288x128, .f32⟩
  | .hbm, ⟨51, _⟩ => ⟨S1x288x128, .f32⟩
  | .hbm, ⟨52, _⟩ => ⟨S1x288x128, .f32⟩
  | .hbm, ⟨53, _⟩ => ⟨S1x288x128, .f32⟩
  | .hbm, ⟨54, _⟩ => ⟨S1x288x128, .f32⟩
  | .hbm, ⟨55, _⟩ => ⟨S1x288x128, .f32⟩
  | .hbm, ⟨56, _⟩ => ⟨S1x288x128, .f32⟩
  | .hbm, ⟨57, _⟩ => ⟨S8x288x128, .f32⟩
  | .hbm, ⟨58, _⟩ => ⟨S288x128, .i32⟩
  | .hbm, ⟨59, _⟩ => ⟨S4x288x128, .f32⟩
  | .hbm, ⟨60, _⟩ => ⟨S1x9x64x64, .i32⟩
  | .hbm, ⟨61, _⟩ => ⟨S288x128x4, .f32⟩
  | .hbm, ⟨62, _⟩ => ⟨S1x9x64x64x4, .f32⟩
  | .local _ .vmem, ⟨0, _⟩ => ⟨S8x288x128, .f32⟩
  | .local _ .vmem, ⟨1, _⟩ => ⟨S2x288x128, .i32⟩
  | .local _ .vmem, ⟨2, _⟩ => ⟨S288x128, .i32⟩
  | .local _ .vmem, ⟨3, _⟩ => ⟨S4x288x128, .f32⟩
  | .local _ .vmem, ⟨4, _⟩ => ⟨S288x128, .f32⟩
  | .local _ .vmem, ⟨5, _⟩ => ⟨S288x128, .f32⟩
  | .local _ .vmem, ⟨6, _⟩ => ⟨S288x128, .f32⟩
  | .local _ .vmem, ⟨7, _⟩ => ⟨S288x128, .f32⟩
  | .local _ .vmem, ⟨8, _⟩ => ⟨S288x128, .f32⟩
  | .local _ .vmem, ⟨9, _⟩ => ⟨S32x8x128, .f32⟩
  | .local _ .vmem, ⟨10, _⟩ => ⟨S32x8x128, .i32⟩
  | .local _ .vmem, ⟨11, _⟩ => ⟨S32x128, .f32⟩
  | .local _ .vmem, ⟨12, _⟩ => ⟨S32x128, .i32⟩
  | .local _ .smem, ⟨0, _⟩ => ⟨S32x4, .f32⟩
  | _, _ => ⟨S1x18x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_cst_3 : Ref sig .tc := ⟨.hbm, 11, rfl⟩
abbrev main_v4 : Ref sig .tc := ⟨.hbm, 12, rfl⟩
abbrev main_cst_4 : Ref sig .tc := ⟨.hbm, 13, rfl⟩
abbrev main_v5 : Ref sig .tc := ⟨.hbm, 14, rfl⟩
abbrev main_cst_5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43_0 : Ref sig .tc := ⟨.hbm, 58, rfl⟩
abbrev main_v43_1 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_222 : BitVec 32 := 0#32
  let c36_i32 : BitVec 32 := 36#32
  let v261 : BitVec 32 := Scalar.addi c0_i32_222 c36_i32
  let c1_i32 : BitVec 32 := 1#32
  ⟨c0_i32_222, v261, c1_i32⟩
def k0_off1 (k0_t1 : Fin k0_t1_loop.trips) : Fin 3 → Nat :=
  let c0_781 : Index := 0#32
  let c0_i32_222 : BitVec 32 := 0#32
  let c1_i32 : BitVec 32 := 1#32
  let arg14 : BitVec 32 := Scf.iv c0_i32_222 c1_i32 k0_t1
  let c8_i32 : BitVec 32 := 8#32
  let v1110 : BitVec 32 := Scalar.muli arg14 c8_i32
  let v1111 : Index := Scalar.indexCast v1110
  let c0_782 : Index := 0#32
  ![0, v1111.toNat, 0]
def k0_off2 (k0_t1 : Fin k0_t1_loop.trips) : Fin 3 → Nat :=
  let c1_783 : Index := 1#32
  let c0_i32_222 : BitVec 32 := 0#32
  let c1_i32 : BitVec 32 := 1#32
  let arg14 : BitVec 32 := Scf.iv c0_i32_222 c1_i32 k0_t1
  let c8_i32 : BitVec 32 := 8#32
  let v1110 : BitVec 32 := Scalar.muli arg14 c8_i32
  let v1114 : Index := Scalar.indexCast v1110
  let c0_784 : Index := 0#32
  ![1, v1114.toNat, 0]
def k0_off3 (k0_t1 : Fin k0_t1_loop.trips) : Fin 3 → Nat :=
  let c2_785 : Index := 2#32
  let c0_i32_222 : BitVec 32 := 0#32
  let c1_i32 : BitVec 32 := 1#32
  let arg14 : BitVec 32 := Scf.iv c0_i32_222 c1_i32 k0_t1
  let c8_i32 : BitVec 32 := 8#32
  let v1110 : BitVec 32 := Scalar.muli arg14 c8_i32
  let v1117 : Index := Scalar.indexCast v1110
  let c0_786 : Index := 0#32
  ![2, v1117.toNat, 0]
def k0_off4 (k0_t1 : Fin k0_t1_loop.trips) : Fin 3 → Nat :=
  let c3_787 : Index := 3#32
  let c0_i32_222 : BitVec 32 := 0#32
  let c1_i32 : BitVec 32 := 1#32
  let arg14 : BitVec 32 := Scf.iv c0_i32_222 c1_i32 k0_t1
  let c8_i32 : BitVec 32 := 8#32
  let v1110 : BitVec 32 := Scalar.muli arg14 c8_i32
  let v1120 : Index := Scalar.indexCast v1110
  let c0_788 : Index := 0#32
  ![3, v1120.toNat, 0]
def k0_off5 (k0_t1 : Fin k0_t1_loop.trips) : Fin 3 → Nat :=
  let c6_789 : Index := 6#32
  let c0_i32_222 : BitVec 32 := 0#32
  let c1_i32 : BitVec 32 := 1#32
  let arg14 : BitVec 32 := Scf.iv c0_i32_222 c1_i32 k0_t1
  let c8_i32 : BitVec 32 := 8#32
  let v1110 : BitVec 32 := Scalar.muli arg14 c8_i32
  let v1123 : Index := Scalar.indexCast v1110
  let c0_790 : Index := 0#32
  ![6, v1123.toNat, 0]
def k0_off6 (k0_t1 : Fin k0_t1_loop.trips) : Fin 3 → Nat :=
  let c7_791 : Index := 7#32
  let c0_i32_222 : BitVec 32 := 0#32
  let c1_i32 : BitVec 32 := 1#32
  let arg14 : BitVec 32 := Scf.iv c0_i32_222 c1_i32 k0_t1
  let c8_i32 : BitVec 32 := 8#32
  let v1110 : BitVec 32 := Scalar.muli arg14 c8_i32
  let v1126 : Index := Scalar.indexCast v1110
  let c0_792 : Index := 0#32
  ![7, v1126.toNat, 0]
def k0_off7 (k0_t1 : Fin k0_t1_loop.trips) : Fin 2 → Nat :=
  let c0_i32_222 : BitVec 32 := 0#32
  let c1_i32 : BitVec 32 := 1#32
  let arg14 : BitVec 32 := Scf.iv c0_i32_222 c1_i32 k0_t1
  let c8_i32 : BitVec 32 := 8#32
  let v1110 : BitVec 32 := Scalar.muli arg14 c8_i32
  let v3080 : Index := Scalar.indexCast v1110
  let c0_1722 : Index := 0#32
  ![v3080.toNat, 0]
@[reducible] def k0_t2_loop : Scf.Loop 32 :=
  let c0_i32_758 : BitVec 32 := 0#32
  let c16_i32 : BitVec 32 := 16#32
  let v1067 : BitVec 32 := Scalar.addi c0_i32_758 c16_i32
  let c1_i32_759 : BitVec 32 := 1#32
  ⟨c0_i32_758, v1067, c1_i32_759⟩
abbrev stage0_0 : Fin 1 → Memref sig .tc .smem S32x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x288x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x288x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S288x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x288x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1x18x64x64 : Shape := ⟨4, ![1, 18, 64, 64]⟩
abbrev S1x32x4 : Shape := ⟨3, ![1, 32, 4]⟩
abbrev S_ : Shape := ⟨0, ![]⟩
abbrev S9x64 : Shape := ⟨2, ![9, 64]⟩
abbrev S9 : Shape := ⟨1, ![9]⟩
abbrev S36864 : Shape := ⟨1, ![36864]⟩
abbrev S9x1x64 : Shape := ⟨3, ![9, 1, 64]⟩
abbrev S9x64x64 : Shape := ⟨3, ![9, 64, 64]⟩
abbrev S9x64x1 : Shape := ⟨3, ![9, 64, 1]⟩
abbrev S9x1x1 : Shape := ⟨3, ![9, 1, 1]⟩
abbrev S32x4 : Shape := ⟨2, ![32, 4]⟩
abbrev S32x1 : Shape := ⟨2, ![32, 1]⟩
abbrev S32 : Shape := ⟨1, ![32]⟩
abbrev S36864x1 : Shape := ⟨2, ![36864, 1]⟩
abbrev S1x32 : Shape := ⟨2, ![1, 32]⟩
abbrev S36864x32 : Shape := ⟨2, ![36864, 32]⟩
abbrev S36864x4 : Shape := ⟨2, ![36864, 4]⟩
abbrev S1x9x64x64x4 : Shape := ⟨5, ![1, 9, 64, 64, 4]⟩
abbrev S1x9x64x64 : Shape := ⟨4, ![1, 9, 64, 64]⟩

abbrev nBuf : Space → Nat
  | .hbm => 253
  | .vmem => 0
  | .smem => 0
  | _ => 0

abbrev hbmTy0_0 (i : Nat) : BufTy := match i % 128 with
  | 0 => ⟨S1x18x64x64, .f32⟩
  | 1 => ⟨S1x32x4, .f32⟩
  | 2 => ⟨S_, .i32⟩
  | 3 => ⟨S9x64, .f32⟩
  | 4 => ⟨S9x64, .f32⟩
  | 5 => ⟨S9x64, .f32⟩
  | 6 => ⟨S9x64, .f32⟩
  | 7 => ⟨S9, .f32⟩
  | 8 => ⟨S9, .f32⟩
  | 9 => ⟨S9, .f32⟩
  | 10 => ⟨S36864, .f32⟩
  | 11 => ⟨S36864, .f32⟩
  | 12 => ⟨S9x1x64, .f32⟩
  | 13 => ⟨S9x64x64, .f32⟩
  | 14 => ⟨S36864, .f32⟩
  | 15 => ⟨S9x64x1, .f32⟩
  | 16 => ⟨S9x64x64, .f32⟩
  | 17 => ⟨S36864, .f32⟩
  | 18 => ⟨S9x1x64, .f32⟩
  | 19 => ⟨S9x64x64, .f32⟩
  | 20 => ⟨S36864, .f32⟩
  | 21 => ⟨S9x64x1, .f32⟩
  | 22 => ⟨S9x64x64, .f32⟩
  | 23 => ⟨S36864, .f32⟩
  | 24 => ⟨S9x1x1, .f32⟩
  | 25 => ⟨S9x64x64, .f32⟩
  | 26 => ⟨S36864, .f32⟩
  | 27 => ⟨S9x1x1, .f32⟩
  | 28 => ⟨S9x64x64, .f32⟩
  | 29 => ⟨S36864, .f32⟩
  | 30 => ⟨S9x1x1, .f32⟩
  | 31 => ⟨S9x64x64, .f32⟩
  | 32 => ⟨S36864, .f32⟩
  | 33 => ⟨S_, .f32⟩
  | 34 => ⟨S36864, .f32⟩
  | 35 => ⟨S36864, .i1⟩
  | 36 => ⟨S_, .f32⟩
  | 37 => ⟨S36864, .f32⟩
  | 38 => ⟨S36864, .i1⟩
  | 39 => ⟨S36864, .i1⟩
  | 40 => ⟨S_, .f32⟩
  | 41 => ⟨S36864, .f32⟩
  | 42 => ⟨S36864, .i1⟩
  | 43 => ⟨S36864, .i1⟩
  | 44 => ⟨S_, .f32⟩
  | 45 => ⟨S36864, .f32⟩
  | 46 => ⟨S36864, .i1⟩
  | 47 => ⟨S36864, .i1⟩
  | 48 => ⟨S32x4, .f32⟩
  | 49 => ⟨S32x1, .f32⟩
  | 50 => ⟨S32, .f32⟩
  | 51 => ⟨S32x1, .f32⟩
  | 52 => ⟨S32, .f32⟩
  | 53 => ⟨S32x1, .f32⟩
  | 54 => ⟨S32, .f32⟩
  | 55 => ⟨S32x1, .f32⟩
  | 56 => ⟨S32, .f32⟩
  | 57 => ⟨S32, .f32⟩
  | 58 => ⟨S_, .f32⟩
  | 59 => ⟨S32, .f32⟩
  | 60 => ⟨S32, .f32⟩
  | 61 => ⟨S32, .f32⟩
  | 62 => ⟨S_, .f32⟩
  | 63 => ⟨S32, .f32⟩
  | 64 => ⟨S32, .f32⟩
  | 65 => ⟨S36864x1, .f32⟩
  | 66 => ⟨S1x32, .f32⟩
  | 67 => ⟨S36864x32, .f32⟩
  | 68 => ⟨S36864x32, .f32⟩
  | 69 => ⟨S36864x32, .f32⟩
  | 70 => ⟨S36864x1, .f32⟩
  | 71 => ⟨S1x32, .f32⟩
  | 72 => ⟨S36864x32, .f32⟩
  | 73 => ⟨S36864x32, .f32⟩
  | 74 => ⟨S36864x32, .f32⟩
  | 75 => ⟨S36864x32, .f32⟩
  | 76 => ⟨S_, .f32⟩
  | 77 => ⟨S36864x32, .f32⟩
  | 78 => ⟨S36864x32, .f32⟩
  | 79 => ⟨S_, .f32⟩
  | 80 => ⟨S36864x32, .f32⟩
  | 81 => ⟨S36864x32, .f32⟩
  | 82 => ⟨S36864x1, .f32⟩
  | 83 => ⟨S1x32, .f32⟩
  | 84 => ⟨S36864x32, .f32⟩
  | 85 => ⟨S36864x32, .f32⟩
  | 86 => ⟨S36864x32, .f32⟩
  | 87 => ⟨S36864x1, .f32⟩
  | 88 => ⟨S1x32, .f32⟩
  | 89 => ⟨S36864x32, .f32⟩
  | 90 => ⟨S36864x32, .f32⟩
  | 91 => ⟨S36864x32, .f32⟩
  | 92 => ⟨S36864x32, .f32⟩
  | 93 => ⟨S_, .f32⟩
  | 94 => ⟨S36864x32, .f32⟩
  | 95 => ⟨S36864x32, .f32⟩
  | 96 => ⟨S_, .f32⟩
  | 97 => ⟨S36864x32, .f32⟩
  | 98 => ⟨S36864x32, .f32⟩
  | 99 => ⟨S36864x32, .f32⟩
  | 100 => ⟨S36864x1, .f32⟩
  | 101 => ⟨S32, .f32⟩
  | 102 => ⟨S1x32, .f32⟩
  | 103 => ⟨S36864x32, .f32⟩
  | 104 => ⟨S36864x32, .f32⟩
  | 105 => ⟨S36864x32, .f32⟩
  | 106 => ⟨S36864x32, .f32⟩
  | 107 => ⟨S36864x32, .f32⟩
  | 108 => ⟨S_, .f32⟩
  | 109 => ⟨S36864x32, .f32⟩
  | 110 => ⟨S36864x32, .i1⟩
  | 111 => ⟨S_, .f32⟩
  | 112 => ⟨S_, .f32⟩
  | 113 => ⟨S36864x32, .f32⟩
  | 114 => ⟨S36864x32, .f32⟩
  | 115 => ⟨S36864x1, .i1⟩
  | 116 => ⟨S_, .f32⟩
  | 117 => ⟨S_, .f32⟩
  | 118 => ⟨S36864x32, .i1⟩
  | 119 => ⟨S36864x32, .f32⟩
  | 120 => ⟨S36864x32, .f32⟩
  | 121 => ⟨S_, .f32⟩
  | 122 => ⟨S36864, .f32⟩
  | 123 => ⟨S36864x32, .i32⟩
  | 124 => ⟨S_, .f32⟩
  | 125 => ⟨S_, .i32⟩
  | 126 => ⟨S36864, .f32⟩
  | 127 => ⟨S36864, .i32⟩
  | _ => ⟨S1x18x64x64, .f32⟩

abbrev hbmTy0_1 (i : Nat) : BufTy := match i % 128 with
  | 0 => ⟨S36864x32, .i32⟩
  | 1 => ⟨S_, .f32⟩
  | 2 => ⟨S_, .i32⟩
  | 3 => ⟨S32, .f32⟩
  | 4 => ⟨S32, .i32⟩
  | 5 => ⟨S_, .i32⟩
  | 6 => ⟨S36864, .i32⟩
  | 7 => ⟨S_, .f32⟩
  | 8 => ⟨S36864, .f32⟩
  | 9 => ⟨S36864, .i1⟩
  | 10 => ⟨S_, .i32⟩
  | 11 => ⟨S_, .i32⟩
  | 12 => ⟨S36864, .i32⟩
  | 13 => ⟨S36864, .i32⟩
  | 14 => ⟨S_, .f32⟩
  | 15 => ⟨S36864, .f32⟩
  | 16 => ⟨S36864, .i1⟩
  | 17 => ⟨S_, .i32⟩
  | 18 => ⟨S_, .i32⟩
  | 19 => ⟨S36864, .i32⟩
  | 20 => ⟨S36864, .i32⟩
  | 21 => ⟨S_, .i32⟩
  | 22 => ⟨S32, .i32⟩
  | 23 => ⟨S32, .i1⟩
  | 24 => ⟨S_, .i32⟩
  | 25 => ⟨S32, .i32⟩
  | 26 => ⟨S32, .i32⟩
  | 27 => ⟨S32, .i32⟩
  | 28 => ⟨S32x1, .i32⟩
  | 29 => ⟨S_, .i32⟩
  | 30 => ⟨S32, .i32⟩
  | 31 => ⟨S36864, .i32⟩
  | 32 => ⟨S_, .i32⟩
  | 33 => ⟨S_, .i32⟩
  | 34 => ⟨S36864, .i32⟩
  | 35 => ⟨S36864, .i32⟩
  | 36 => ⟨S_, .i32⟩
  | 37 => ⟨S36864, .i32⟩
  | 38 => ⟨S36864, .i1⟩
  | 39 => ⟨S_, .f32⟩
  | 40 => ⟨S_, .f32⟩
  | 41 => ⟨S36864, .f32⟩
  | 42 => ⟨S36864, .f32⟩
  | 43 => ⟨S36864, .i32⟩
  | 44 => ⟨S36864, .f32⟩
  | 45 => ⟨S36864, .i32⟩
  | 46 => ⟨S36864, .i32⟩
  | 47 => ⟨S36864, .i32⟩
  | 48 => ⟨S36864, .i32⟩
  | 49 => ⟨S_, .i32⟩
  | 50 => ⟨S36864, .i32⟩
  | 51 => ⟨S36864, .i1⟩
  | 52 => ⟨S_, .i32⟩
  | 53 => ⟨S36864, .i32⟩
  | 54 => ⟨S36864, .i1⟩
  | 55 => ⟨S36864, .i1⟩
  | 56 => ⟨S_, .i32⟩
  | 57 => ⟨S_, .i32⟩
  | 58 => ⟨S36864, .i32⟩
  | 59 => ⟨S36864, .i32⟩
  | 60 => ⟨S_, .i32⟩
  | 61 => ⟨S36864, .i32⟩
  | 62 => ⟨S36864, .i1⟩
  | 63 => ⟨S_, .f32⟩
  | 64 => ⟨S_, .f32⟩
  | 65 => ⟨S36864, .f32⟩
  | 66 => ⟨S36864, .f32⟩
  | 67 => ⟨S36864, .i32⟩
  | 68 => ⟨S36864, .f32⟩
  | 69 => ⟨S36864, .i32⟩
  | 70 => ⟨S36864, .i32⟩
  | 71 => ⟨S36864, .i32⟩
  | 72 => ⟨S36864, .i32⟩
  | 73 => ⟨S_, .i32⟩
  | 74 => ⟨S36864, .i32⟩
  | 75 => ⟨S36864, .i1⟩
  | 76 => ⟨S_, .i32⟩
  | 77 => ⟨S36864, .i32⟩
  | 78 => ⟨S36864, .i1⟩
  | 79 => ⟨S36864, .i1⟩
  | 80 => ⟨S_, .i32⟩
  | 81 => ⟨S_, .i32⟩
  | 82 => ⟨S36864, .i32⟩
  | 83 => ⟨S36864, .i32⟩
  | 84 => ⟨S_, .i32⟩
  | 85 => ⟨S36864, .i32⟩
  | 86 => ⟨S36864, .i1⟩
  | 87 => ⟨S_, .i32⟩
  | 88 => ⟨S36864, .i32⟩
  | 89 => ⟨S36864, .i32⟩
  | 90 => ⟨S36864, .i32⟩
  | 91 => ⟨S36864x1, .i32⟩
  | 92 => ⟨S36864x4, .f32⟩
  | 93 => ⟨S36864x1, .f32⟩
  | 94 => ⟨S36864, .f32⟩
  | 95 => ⟨S36864, .f32⟩
  | 96 => ⟨S36864, .f32⟩
  | 97 => ⟨S36864x1, .f32⟩
  | 98 => ⟨S36864, .f32⟩
  | 99 => ⟨S36864, .f32⟩
  | 100 => ⟨S36864, .f32⟩
  | 101 => ⟨S36864x1, .f32⟩
  | 102 => ⟨S36864, .f32⟩
  | 103 => ⟨S36864, .f32⟩
  | 104 => ⟨S36864, .f32⟩
  | 105 => ⟨S36864x1, .f32⟩
  | 106 => ⟨S36864, .f32⟩
  | 107 => ⟨S36864, .f32⟩
  | 108 => ⟨S36864, .f32⟩
  | 109 => ⟨S36864x1, .f32⟩
  | 110 => ⟨S36864x1, .f32⟩
  | 111 => ⟨S36864x1, .f32⟩
  | 112 => ⟨S36864x1, .f32⟩
  | 113 => ⟨S36864x4, .f32⟩
  | 114 => ⟨S_, .i32⟩
  | 115 => ⟨S36864, .i32⟩
  | 116 => ⟨S36864, .i1⟩
  | 117 => ⟨S36864x1, .i1⟩
  | 118 => ⟨S_, .f32⟩
  | 119 => ⟨S_, .f32⟩
  | 120 => ⟨S36864x4, .i1⟩
  | 121 => ⟨S36864x4, .f32⟩
  | 122 => ⟨S36864x4, .f32⟩
  | 123 => ⟨S1x9x64x64x4, .f32⟩
  | 124 => ⟨S1x9x64x64, .i32⟩
  | _ => ⟨S1x18x64x64, .f32⟩

abbrev hbmTy (i : Nat) : BufTy := match i / 128 with
  | 0 => hbmTy0_0 i
  | 1 => hbmTy0_1 i
  | _ => ⟨S1x18x64x64, .f32⟩

abbrev bufTy : (tb : Table) → Fin (tcTables nBuf tb) → BufTy
  | .hbm, ⟨i, _⟩ => hbmTy i
  | _, _ => ⟨S1x18x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_cst_3 : Ref sig .tc := ⟨.hbm, 7, rfl⟩
abbrev main_cst_4 : Ref sig .tc := ⟨.hbm, 8, rfl⟩
abbrev main_cst_5 : Ref sig .tc := ⟨.hbm, 9, rfl⟩
abbrev main_cst_6 : Ref sig .tc := ⟨.hbm, 10, rfl⟩
abbrev main_cst_7 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_8 : Ref sig .tc := ⟨.hbm, 33, rfl⟩
abbrev main_v21 : Ref sig .tc := ⟨.hbm, 34, rfl⟩
abbrev main_v22 : Ref sig .tc := ⟨.hbm, 35, rfl⟩
abbrev main_cst_9 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_11 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_12 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_13 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_14 : Ref sig .tc := ⟨.hbm, 76, rfl⟩
abbrev main_v58 : Ref sig .tc := ⟨.hbm, 77, rfl⟩
abbrev main_v59 : Ref sig .tc := ⟨.hbm, 78, rfl⟩
abbrev main_cst_15 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_16 : Ref sig .tc := ⟨.hbm, 93, rfl⟩
abbrev main_v73 : Ref sig .tc := ⟨.hbm, 94, rfl⟩
abbrev main_v74 : Ref sig .tc := ⟨.hbm, 95, rfl⟩
abbrev main_cst_17 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_18 : Ref sig .tc := ⟨.hbm, 108, rfl⟩
abbrev main_v86 : Ref sig .tc := ⟨.hbm, 109, rfl⟩
abbrev main_v87 : Ref sig .tc := ⟨.hbm, 110, rfl⟩
abbrev main_cst_19 : Ref sig .tc := ⟨.hbm, 111, rfl⟩
abbrev main_call0_v0 : Ref sig .tc := ⟨.hbm, 112, rfl⟩
abbrev main_call0_v1 : Ref sig .tc := ⟨.hbm, 113, rfl⟩
abbrev main_v88 : Ref sig .tc := ⟨.hbm, 114, rfl⟩
abbrev main_v89 : Ref sig .tc := ⟨.hbm, 115, rfl⟩
abbrev main_cst_20 : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_v90 : Ref sig .tc := ⟨.hbm, 120, rfl⟩
abbrev main_cst_21 : Ref sig .tc := ⟨.hbm, 121, rfl⟩
abbrev main_v91 : Ref sig .tc := ⟨.hbm, 122, rfl⟩
abbrev main_call2_v0 : Ref sig .tc := ⟨.hbm, 123, rfl⟩
abbrev main_call2_cst : Ref sig .tc := ⟨.hbm, 124, rfl⟩
abbrev main_call2_c : Ref sig .tc := ⟨.hbm, 125, rfl⟩
abbrev main_call2_v1_0 : Ref sig .tc := ⟨.hbm, 126, rfl⟩
abbrev main_v92 : Ref sig .tc := ⟨.hbm, 127, rfl⟩
abbrev main_call3_v0 : Ref sig .tc := ⟨.hbm, 128, rfl⟩
abbrev main_call3_cst : Ref sig .tc := ⟨.hbm, 129, rfl⟩
abbrev main_call3_c : Ref sig .tc := ⟨.hbm, 130, rfl⟩
abbrev main_call3_v1_0 : Ref sig .tc := ⟨.hbm, 131, rfl⟩
abbrev main_v93 : Ref sig .tc := ⟨.hbm, 132, rfl⟩
abbrev main_c : Ref sig .tc := ⟨.hbm, 133, rfl⟩
abbrev main_v94 : Ref sig .tc := ⟨.hbm, 134, rfl⟩
abbrev main_cst_22 : Ref sig .tc := ⟨.hbm, 135, rfl⟩
abbrev main_v95 : Ref sig .tc := ⟨.hbm, 136, rfl⟩
abbrev main_v96 : Ref sig .tc := ⟨.hbm, 137, rfl⟩
abbrev main_c_23 : Ref sig .tc := ⟨.hbm, 138, rfl⟩
abbrev main_call4_v0 : Ref sig .tc := ⟨.hbm, 139, rfl⟩
abbrev main_call4_v1 : Ref sig .tc := ⟨.hbm, 140, rfl⟩
abbrev main_v97 : Ref sig .tc := ⟨.hbm, 141, rfl⟩
abbrev main_cst_24 : Ref sig .tc := ⟨.hbm, 142, rfl⟩
abbrev main_v98 : Ref sig .tc := ⟨.hbm, 143, rfl⟩
abbrev main_v99 : Ref sig .tc := ⟨.hbm, 144, rfl⟩
abbrev main_c_25 : Ref sig .tc := ⟨.hbm, 145, rfl⟩
abbrev main_call5_v0 : Ref sig .tc := ⟨.hbm, 146, rfl⟩
abbrev main_call5_v1 : Ref sig .tc := ⟨.hbm, 147, rfl⟩
abbrev main_v100 : Ref sig .tc := ⟨.hbm, 148, rfl⟩
abbrev main_c_26 : Ref sig .tc := ⟨.hbm, 149, rfl⟩
abbrev main_v101 : Ref sig .tc := ⟨.hbm, 150, rfl⟩
abbrev main_v102 : Ref sig .tc := ⟨.hbm, 151, rfl⟩
abbrev main_c_27 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_c_28 : Ref sig .tc := ⟨.hbm, 157, rfl⟩
abbrev main_v107 : Ref sig .tc := ⟨.hbm, 158, rfl⟩
abbrev main_v108 : Ref sig .tc := ⟨.hbm, 159, rfl⟩
abbrev main_c_29 : Ref sig .tc := ⟨.hbm, 160, rfl⟩
abbrev main_call6_v0 : Ref sig .tc := ⟨.hbm, 161, rfl⟩
abbrev main_call6_v1 : Ref sig .tc := ⟨.hbm, 162, rfl⟩
abbrev main_v109 : Ref sig .tc := ⟨.hbm, 163, rfl⟩
abbrev main_c_30 : Ref sig .tc := ⟨.hbm, 164, rfl⟩
abbrev main_v110 : Ref sig .tc := ⟨.hbm, 165, rfl⟩
abbrev main_v111 : Ref sig .tc := ⟨.hbm, 166, rfl⟩
abbrev main_cst_31 : Ref sig .tc := ⟨.hbm, 167, rfl⟩
abbrev main_call7_v0 : Ref sig .tc := ⟨.hbm, 168, rfl⟩
abbrev main_call7_v1 : Ref sig .tc := ⟨.hbm, 169, rfl⟩
abbrev main_v112 : Ref sig .tc := ⟨.hbm, 170, rfl⟩
abbrev main_call8_v0 : Ref sig .tc := ⟨.hbm, 171, rfl⟩
abbrev main_call8_v1_0 : Ref sig .tc := ⟨.hbm, 172, rfl⟩
abbrev main_v113 : Ref sig .tc := ⟨.hbm, 173, rfl⟩
abbrev main_call9_v0 : Ref sig .tc := ⟨.hbm, 174, rfl⟩
abbrev main_call9_v1_0 : Ref sig .tc := ⟨.hbm, 175, rfl⟩
abbrev main_v114 : Ref sig .tc := ⟨.hbm, 176, rfl⟩
abbrev main_c_32 : Ref sig .tc := ⟨.hbm, 177, rfl⟩
abbrev main_v115 : Ref sig .tc := ⟨.hbm, 178, rfl⟩
abbrev main_v116 : Ref sig .tc := ⟨.hbm, 179, rfl⟩
abbrev main_c_33 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_c_34 : Ref sig .tc := ⟨.hbm, 184, rfl⟩
abbrev main_call10_v0 : Ref sig .tc := ⟨.hbm, 185, rfl⟩
abbrev main_call10_v1 : Ref sig .tc := ⟨.hbm, 186, rfl⟩
abbrev main_v120 : Ref sig .tc := ⟨.hbm, 187, rfl⟩
abbrev main_c_35 : Ref sig .tc := ⟨.hbm, 188, rfl⟩
abbrev main_v121 : Ref sig .tc := ⟨.hbm, 189, rfl⟩
abbrev main_v122 : Ref sig .tc := ⟨.hbm, 190, rfl⟩
abbrev main_cst_36 : Ref sig .tc := ⟨.hbm, 191, rfl⟩
abbrev main_call11_v0 : Ref sig .tc := ⟨.hbm, 192, rfl⟩
abbrev main_call11_v1 : Ref sig .tc := ⟨.hbm, 193, rfl⟩
abbrev main_v123 : Ref sig .tc := ⟨.hbm, 194, rfl⟩
abbrev main_call12_v0 : Ref sig .tc := ⟨.hbm, 195, rfl⟩
abbrev main_call12_v1_0 : Ref sig .tc := ⟨.hbm, 196, rfl⟩
abbrev main_v124 : Ref sig .tc := ⟨.hbm, 197, rfl⟩
abbrev main_call13_v0 : Ref sig .tc := ⟨.hbm, 198, rfl⟩
abbrev main_call13_v1_0 : Ref sig .tc := ⟨.hbm, 199, rfl⟩
abbrev main_v125 : Ref sig .tc := ⟨.hbm, 200, rfl⟩
abbrev main_c_37 : Ref sig .tc := ⟨.hbm, 201, rfl⟩
abbrev main_v126 : Ref sig .tc := ⟨.hbm, 202, rfl⟩
abbrev main_v127 : Ref sig .tc := ⟨.hbm, 203, rfl⟩
abbrev main_c_38 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_c_39 : Ref sig .tc := ⟨.hbm, 208, rfl⟩
abbrev main_call14_v0 : Ref sig .tc := ⟨.hbm, 209, rfl⟩
abbrev main_call14_v1 : Ref sig .tc := ⟨.hbm, 210, rfl⟩
abbrev main_v131 : Ref sig .tc := ⟨.hbm, 211, rfl⟩
abbrev main_c_40 : Ref sig .tc := ⟨.hbm, 212, rfl⟩
abbrev main_v132 : Ref sig .tc := ⟨.hbm, 213, rfl⟩
abbrev main_v133 : Ref sig .tc := ⟨.hbm, 214, rfl⟩
abbrev main_c_41 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_v158 : Ref sig .tc := ⟨.hbm, 240, rfl⟩
abbrev main_v159 : Ref sig .tc := ⟨.hbm, 241, rfl⟩
abbrev main_c_42 : Ref sig .tc := ⟨.hbm, 242, rfl⟩
abbrev main_v160 : Ref sig .tc := ⟨.hbm, 243, rfl⟩
abbrev main_v161 : Ref sig .tc := ⟨.hbm, 244, rfl⟩
abbrev main_v162 : Ref sig .tc := ⟨.hbm, 245, rfl⟩
abbrev main_cst_43 : Ref sig .tc := ⟨.hbm, 246, rfl⟩
abbrev main_call15_v0 : Ref sig .tc := ⟨.hbm, 247, rfl⟩
abbrev main_call15_v1 : Ref sig .tc := ⟨.hbm, 248, rfl⟩
abbrev main_call15_v2 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩

abbrev nD : Nat := 1
abbrev τ : Topo := Topo.v7x

variable {F : FTy → Type} [FloatOps F]
-- ==== Proof.Uniform.lean ====
/-
  The kernel's body written over a symbolic ground-truth box: the printed text repeats one step thirty-two
  times for the boxes, four times over (initialise, a trip's box step, the column step, the membership step);
  here each step is one program of the box's number, and the body is those steps over the list of boxes. The
  two programs are equal by computation.
-/
module

public import proofs.«01_k».proof.KernelIdeal.P01
public import Idealize.ShloMosaic.Lib.Tactic

@[expose] public section

set_option maxRecDepth 16384

noncomputable section

namespace Cert.Proof.KI

open Cert.KernelIdeal
open Idealize.ShloMosaic Idealize.ShloMosaic.TcCoe Idealize.ShloMosaic.Tactic
open Idealize.SL Idealize.SL.Sem
open Cert.KernelIdeal.Facts₀ Cert.KernelIdeal.Facts

variable {F : FTy → Type} [FloatOps F] [Facts]

/-- The fourteen memrefs the kernel's body is called with, each whole. -/
structure Mems where
  m0 : Memref sig .tc .smem S32x4 .f32
  h0 : m0.IsWhole
  m1 : Memref sig .tc .vmem S8x288x128 .f32
  h1 : m1.IsWhole
  m2 : Memref sig .tc .vmem S2x288x128 .i32
  h2 : m2.IsWhole
  m3 : Memref sig .tc .vmem S288x128 .i32
  h3 : m3.IsWhole
  m4 : Memref sig .tc .vmem S4x288x128 .f32
  h4 : m4.IsWhole
  m5 : Memref sig .tc .vmem S288x128 .f32
  h5 : m5.IsWhole
  m6 : Memref sig .tc .vmem S288x128 .f32
  h6 : m6.IsWhole
  m7 : Memref sig .tc .vmem S288x128 .f32
  h7 : m7.IsWhole
  m8 : Memref sig .tc .vmem S288x128 .f32
  h8 : m8.IsWhole
  m9 : Memref sig .tc .vmem S288x128 .f32
  h9 : m9.IsWhole
  m10 : Memref sig .tc .vmem S32x8x128 .f32
  h10 : m10.IsWhole
  m11 : Memref sig .tc .vmem S32x8x128 .i32
  h11 : m11.IsWhole
  m12 : Memref sig .tc .vmem S32x128 .f32
  h12 : m12.IsWhole
  m13 : Memref sig .tc .vmem S32x128 .i32
  h13 : m13.IsWhole

/-- The programs the body is made of. -/
abbrev P (F : FTy → Type) (α : Type) : Type 1 := Prog (TpuEff nD τ sig (Elt F) Λ₀ .tc) α

/-- The body on these memrefs. -/
abbrev kernelOf (M : Mems) : P F PUnit :=
  cc0__anchor_kernel M.m0 M.h0 M.m1 M.h1 M.m2 M.h2 M.m3 M.h3 M.m4 M.h4 M.m5 M.h5 M.m6 M.h6 M.m7 M.h7 M.m8 M.h8
    M.m9 M.h9 M.m10 M.h10 M.m11 M.h11 M.m12 M.h12 M.m13 M.h13

/-- The thirty-two boxes but the first, in order. -/
abbrev restBoxes : List (Fin 32) :=
  [1, 2, 3, 4, 5, 6, 7, 8, 9, 10, 11, 12, 13, 14, 15, 16, 17, 18, 19, 20, 21, 22, 23, 24, 25, 26, 27, 28, 29, 30, 31]

/-- The thirty-two boxes in order. -/
abbrev allBoxes : List (Fin 32) := 0 :: restBoxes

/-! ## The rectangles -/

theorem inb10 (g : Fin 32) : ∀ a, (![g.val, 0, 0] : Fin 3 → Nat) a + S1x8x128.size a ≤ S32x8x128.size a := by
  intro a; have := g.isLt; fin_cases a <;> simp <;> omega
theorem inb12 (g : Fin 32) : ∀ a, (![g.val, 0] : Fin 2 → Nat) a + S1x128.size a ≤ S32x128.size a := by
  intro a; have := g.isLt; fin_cases a <;> simp <;> omega
theorem inb13 (g : Fin 32) : ∀ a, (![g.val, 0] : Fin 2 → Nat) a + S1x1.size a ≤ S32x128.size a := by
  intro a; have := g.isLt; fin_cases a <;> simp <;> omega
theorem inb0 (g : Fin 32) (j : Fin 4) : ∀ a, (![g.val, j.val] : Fin 2 → Nat) a + S1x1.size a ≤ S32x4.size a := by
  intro a; have := g.isLt; have := j.isLt; fin_cases a <;> simp <;> omega

/-- Box `g`'s plane of the accumulators. -/
abbrev rowR (g : Fin 32) : Rect S32x8x128 := Rect.unit (s := S32x8x128) ![g.val, 0, 0] S1x8x128.size (inb10 g)
/-- Box `g`'s row of the column accumulators, -/
abbrev colR (g : Fin 32) : Rect S32x128 := Rect.unit (s := S32x128) ![g.val, 0] S1x128.size (inb12 g)
/-- and its first element. -/
abbrev firstR (g : Fin 32) : Rect S32x128 := Rect.unit (s := S32x128) ![g.val, 0] S1x1.size (inb13 g)
/-- Box `g`'s coordinate `j`. -/
abbrev boxR (g : Fin 32) (j : Fin 4) : Rect S32x4 := Rect.unit (s := S32x4) ![g.val, j.val] S1x1.size (inb0 g j)
/-- Chunk `k`'s rows of a per-anchor array. -/
abbrev chunkR (k : Fin k0_t1_loop.trips) : Rect S288x128 := Rect.unit (s := S288x128) (k0_off7 k) S8x128.size (k0_off7_inb k)

/-! ## Initialisation -/

/-- The value the running maxima start from. -/
abbrev negInf : FVec F S1x8x128 .f32 :=
  shapeCast S1x8x128 (broadcast S8x128 (Scalar.ofBits (F := F) .f32 0xFF800000#32)) shapeCasts_S8x128_S1x8x128
/-- The index they start from. -/
abbrev zeroIdx : IVec S1x8x128 32 := shapeCast S1x8x128 (broadcast S8x128 (0#32 : BitVec 32)) shapeCasts_S8x128_S1x8x128

/-- Box `g`'s accumulators set to their starting values. -/
def initStep (M : Mems) (g : Fin 32) : P F PUnit := do
  let _ : Vec F S1x8x128 .f32 ← Prog.lift (.load M.m10 (rowR g).toLoadRect (View.loadsAt_vmem h_S1x8x128))
  Prog.lift (.store M.m10 (rowR g) negInf Finset.univ (View.stores_vmem_bits_univ h_S1x8x128 rfl) (.inl rfl))
  let _ : Vec F S1x8x128 .i32 ← Prog.lift (.load M.m11 (rowR g).toLoadRect (View.loadsAt_vmem h_S1x8x128))
  Prog.lift (.store M.m11 (rowR g) zeroIdx Finset.univ (View.stores_vmem_bits_univ h_S1x8x128 rfl) (.inl rfl))

/-- A step for each box of a list, in order. -/
def eachBox (f : Fin 32 → P F PUnit) : List (Fin 32) → P F PUnit
  | [] => .ret ⟨⟩
  | g :: gs => f g >>= fun _ => eachBox f gs

/-- A step for each box of a list, in order, with a value carried from one to the next. -/
def foldBox {σ : Type} (f : Fin 32 → σ → P F σ) : List (Fin 32) → σ → P F σ
  | [], a => .ret a
  | g :: gs, a => f g a >>= fun b => foldBox f gs b

/-! ## One trip of the loop over the chunks -/

/-- Row-major position within a chunk. -/
abbrev chunkBase : IVec S8x128 32 :=
  addi (muli (iota .tc S8x128 32 [0] iota_S8x128_d0_w32) (broadcast S8x128 (128#32 : BitVec 32)))
    (iota .tc S8x128 32 [1] iota_S8x128_d1_w32)

/-- What a trip reads of the anchors: corners, area, whether the anchor is kept, and its number. -/
structure Anchors (F : FTy → Type) where
  ax : FVec F S8x128 .f32
  ay : FVec F S8x128 .f32
  ax2 : FVec F S8x128 .f32
  ay2 : FVec F S8x128 .f32
  area : FVec F S8x128 .f32
  keep : IVec S8x128 1
  lin : IVec S8x128 32

/-- The best box so far of each anchor of the chunk: the overlap and the box. -/
structure Best (F : FTy → Type) where
  ov : FVec F S8x128 .f32
  x : FVec F S8x128 .f32
  y : FVec F S8x128 .f32
  w : FVec F S8x128 .f32
  h : FVec F S8x128 .f32

/-- The overlap of the chunk's anchors with the box `x, y, w, h`, an overlap of zero replaced by a small number. -/
def overlap (A : Anchors F) (x y w h : F .f32) : FVec F S8x128 .f32 :=
  let gx2 := Scalar.subf (Scalar.addf x w) (Scalar.ofBits .f32 0x3F800000#32)
  let gy2 := Scalar.subf (Scalar.addf y h) (Scalar.ofBits .f32 0x3F800000#32)
  let ag := Scalar.mulf w h
  let iw := maximumf (broadcast S8x128 (Scalar.ofBits .f32 0x00000000#32))
    (addf (subf (minimumf A.ax2 (broadcast S8x128 gx2)) (maximumf A.ax (broadcast S8x128 x))) (broadcast S8x128 (Scalar.ofBits .f32 0x3F800000#32)))
  let ih := maximumf (broadcast S8x128 (Scalar.ofBits .f32 0x00000000#32))
    (addf (subf (minimumf A.ay2 (broadcast S8x128 gy2)) (maximumf A.ay (broadcast S8x128 y))) (broadcast S8x128 (Scalar.ofBits .f32 0x3F800000#32)))
  let inter := mulf iw ih
  let iou := divf inter (subf (addf A.area (broadcast S8x128 ag)) inter)
  select (cmpf .oeq iou (broadcast S8x128 (Scalar.ofBits .f32 0x00000000#32))) (broadcast S8x128 (Scalar.ofBits .f32 0x2EDBE6FF#32)) iou

/-- The overlap of the anchors kept, −1 at the others. -/
def masked (A : Anchors F) (ov : FVec F S8x128 .f32) : FVec F S8x128 .f32 :=
  select A.keep ov (broadcast S8x128 (Scalar.ofBits .f32 0xBF800000#32))

/-- The first box is the best so far. -/
def bestFirst (ov : FVec F S8x128 .f32) (x y w h : F .f32) : Best F :=
  ⟨ov, broadcast S8x128 x, broadcast S8x128 y, broadcast S8x128 w, broadcast S8x128 h⟩

/-- A later box is the best so far where its overlap is greater. -/
def bestNext (b : Best F) (ov : FVec F S8x128 .f32) (x y w h : F .f32) : Best F :=
  ⟨select (cmpf .ogt ov b.ov) ov b.ov, select (cmpf .ogt ov b.ov) (broadcast S8x128 x) b.x,
    select (cmpf .ogt ov b.ov) (broadcast S8x128 y) b.y, select (cmpf .ogt ov b.ov) (broadcast S8x128 w) b.w,
    select (cmpf .ogt ov b.ov) (broadcast S8x128 h) b.h⟩

/-- One box of a trip: read the box, update its accumulators, and answer by `upd` of the overlap and the box. -/
def boxStep (M : Mems) (A : Anchors F) (g : Fin 32)
    (upd : FVec F S8x128 .f32 → F .f32 → F .f32 → F .f32 → F .f32 → Best F) : P F (Best F) := do
  let x : Elt F .f32 ← smemLoad M.m0 (boxR g 0) numel1_S1x1 rfl
  let y : Elt F .f32 ← smemLoad M.m0 (boxR g 1) numel1_S1x1 rfl
  let w : Elt F .f32 ← smemLoad M.m0 (boxR g 2) numel1_S1x1 rfl
  let h : Elt F .f32 ← smemLoad M.m0 (boxR g 3) numel1_S1x1 rfl
  let a : Vec F S1x8x128 .f32 ← Prog.lift (.load M.m10 (rowR g).toLoadRect (View.loadsAt_vmem h_S1x8x128))
  let _ : Vec F S1x8x128 .f32 ← Prog.lift (.load M.m10 (rowR g).toLoadRect (View.loadsAt_vmem h_S1x8x128))
  Prog.lift (.store M.m10 (rowR g)
    (shapeCast S1x8x128 (select (cmpf .ogt (masked A (overlap A x y w h)) (shapeCast S8x128 a shapeCasts_S1x8x128_S8x128))
      (masked A (overlap A x y w h)) (shapeCast S8x128 a shapeCasts_S1x8x128_S8x128)) shapeCasts_S8x128_S1x8x128)
    Finset.univ (View.stores_vmem_bits_univ h_S1x8x128 rfl) (.inl rfl))
  let i : Vec F S1x8x128 .i32 ← Prog.lift (.load M.m11 (rowR g).toLoadRect (View.loadsAt_vmem h_S1x8x128))
  let _ : Vec F S1x8x128 .i32 ← Prog.lift (.load M.m11 (rowR g).toLoadRect (View.loadsAt_vmem h_S1x8x128))
  Prog.lift (.store M.m11 (rowR g)
    (shapeCast S1x8x128 (select (cmpf .ogt (masked A (overlap A x y w h)) (shapeCast S8x128 a shapeCasts_S1x8x128_S8x128))
      A.lin (shapeCast S8x128 i shapeCasts_S1x8x128_S8x128)) shapeCasts_S8x128_S1x8x128)
    Finset.univ (View.stores_vmem_bits_univ h_S1x8x128 rfl) (.inl rfl))
  pure (upd (overlap A x y w h) x y w h)

/-- The best of the chunk's anchors stored to its rows of one array. -/
def storeChunk (m : Memref sig .tc .vmem S288x128 .f32) (k : Fin k0_t1_loop.trips) (v : FVec F S8x128 .f32) : P F PUnit := do
  let _ : Vec F S8x128 .f32 ← Prog.lift (.load m (chunkR k).toLoadRect (View.loadsAt_vmem h_S8x128))
  Prog.lift (.store m (chunkR k) (shapeCast S8x128 v shapeCasts_S8x128_S8x128) Finset.univ (View.stores_vmem_bits_univ h_S8x128 rfl) (.inl rfl))

/-- What the trip reads of the anchors. -/
def loadAnchors (M : Mems) (k : Fin k0_t1_loop.trips) : P F (Anchors F) := do
  let ax : Vec F S1x8x128 .f32 ← Prog.lift (.load M.m1 (Rect.unit (s := S8x288x128) (k0_off1 k) S1x8x128.size (k0_off1_inb k)).toLoadRect (View.loadsAt_vmem h_S1x8x128))
  let ay : Vec F S1x8x128 .f32 ← Prog.lift (.load M.m1 (Rect.unit (s := S8x288x128) (k0_off2 k) S1x8x128.size (k0_off2_inb k)).toLoadRect (View.loadsAt_vmem h_S1x8x128))
  let ax2 : Vec F S1x8x128 .f32 ← Prog.lift (.load M.m1 (Rect.unit (s := S8x288x128) (k0_off3 k) S1x8x128.size (k0_off3_inb k)).toLoadRect (View.loadsAt_vmem h_S1x8x128))
  let ay2 : Vec F S1x8x128 .f32 ← Prog.lift (.load M.m1 (Rect.unit (s := S8x288x128) (k0_off4 k) S1x8x128.size (k0_off4_inb k)).toLoadRect (View.loadsAt_vmem h_S1x8x128))
  let area : Vec F S1x8x128 .f32 ← Prog.lift (.load M.m1 (Rect.unit (s := S8x288x128) (k0_off5 k) S1x8x128.size (k0_off5_inb k)).toLoadRect (View.loadsAt_vmem h_S1x8x128))
  let kp : Vec F S1x8x128 .f32 ← Prog.lift (.load M.m1 (Rect.unit (s := S8x288x128) (k0_off6 k) S1x8x128.size (k0_off6_inb k)).toLoadRect (View.loadsAt_vmem h_S1x8x128))
  pure ⟨shapeCast S8x128 ax shapeCasts_S1x8x128_S8x128, shapeCast S8x128 ay shapeCasts_S1x8x128_S8x128,
    shapeCast S8x128 ax2 shapeCasts_S1x8x128_S8x128, shapeCast S8x128 ay2 shapeCasts_S1x8x128_S8x128,
    shapeCast S8x128 area shapeCasts_S1x8x128_S8x128,
    cmpf .one (shapeCast S8x128 kp shapeCasts_S1x8x128_S8x128 : FVec F S8x128 .f32) (broadcast S8x128 (Scalar.ofBits .f32 0x00000000#32)),
    addi chunkBase (broadcast S8x128 (Scalar.muli (Scf.iv 0#32 1#32 k) 1024#32))⟩

/-- One trip. -/
def tripU (M : Mems) (k : Fin k0_t1_loop.trips) : P F PUnit := do
  let A ← loadAnchors M k
  let b ← boxStep M A 0 bestFirst
  let b ← foldBox (fun g b => boxStep M A g (bestNext b)) restBoxes b
  storeChunk M.m5 k b.ov
  storeChunk M.m6 k b.x
  storeChunk M.m7 k b.y
  storeChunk M.m8 k b.w
  storeChunk M.m9 k b.h

/-! ## After the loop: each box's best anchor -/

/-- The greatest of each of the 128 columns of a box's accumulator, -/
def colMax (a : Vec F S1x8x128 .f32) : FVec F S1x128 .f32 :=
  shapeCast S1x128 (multiReduction .maximumf [0] S128 (shapeCast S8x128 a shapeCasts_S1x8x128_S8x128 : FVec F S8x128 .f32)
    0xFF800000#32 reduces_S8x128_S128 (.inl rfl) rfl) shapeCasts_S128_S1x128

/-- and the least number among the anchors that attain it. -/
def colIdx (a : Vec F S1x8x128 .f32) (i : Vec F S1x8x128 .i32) : IVec S1x128 32 :=
  shapeCast S1x128 (multiReductionI .minsi [0] S128
    (select (cmpf .oeq (shapeCast S8x128 a shapeCasts_S1x8x128_S8x128 : FVec F S8x128 .f32)
        (broadcastTo S8x128 (colMax a) broadcasts_S1x128_S8x128))
      (shapeCast S8x128 i shapeCasts_S1x8x128_S8x128 : IVec S8x128 32) (broadcast S8x128 36864#32))
    2147483647#32 reduces_S8x128_S128 rfl) shapeCasts_S128_S1x128

/-- A box's columns. -/
def colStep (M : Mems) (g : Fin 32) : P F PUnit := do
  let a : Vec F S1x8x128 .f32 ← Prog.lift (.load M.m10 (rowR g).toLoadRect (View.loadsAt_vmem h_S1x8x128))
  let i : Vec F S1x8x128 .i32 ← Prog.lift (.load M.m11 (rowR g).toLoadRect (View.loadsAt_vmem h_S1x8x128))
  let _ : Vec F S1x128 .f32 ← Prog.lift (.load M.m12 (colR g).toLoadRect (View.loadsAt_vmem h_S1x128))
  Prog.lift (.store M.m12 (colR g) (shapeCast S1x128 (colMax a) shapeCasts_S1x128_S1x128) Finset.univ (View.stores_vmem_bits_univ h_S1x128 rfl) (.inl rfl))
  let _ : Vec F S1x128 .i32 ← Prog.lift (.load M.m13 (colR g).toLoadRect (View.loadsAt_vmem h_S1x128))
  Prog.lift (.store M.m13 (colR g) (shapeCast S1x128 (colIdx a i) shapeCasts_S1x128_S1x128) Finset.univ (View.stores_vmem_bits_univ h_S1x128 rfl) (.inl rfl))

/-- Of each box, the least number among the anchors that attain the greatest of its columns. -/
def rowIdx (mx : Vec F S32x128 .f32) (ix : Vec F S32x128 .i32) : IVec S32x1 32 :=
  shapeCast S32x1 (multiReductionI .minsi [1] S32
    (select (cmpf .oeq mx (broadcastTo S32x128 (shapeCast S32x1
        (multiReduction .maximumf [1] S32 mx 0xFF800000#32 reduces_S32x128_S32 (.inl rfl) rfl) shapeCasts_S32_S32x1)
        broadcasts_S32x1_S32x128)) ix (broadcast S32x128 36864#32))
    2147483647#32 reduces_S32x128_S32 rfl) shapeCasts_S32_S32x1

abbrev wholeR12 : Rect S32x128 := Rect.unit (s := S32x128) ![0, 0] S32x128.size inb_S32x128_S32x128_0_0
abbrev firstColR : Rect S32x128 := Rect.unit (s := S32x128) ![0, 0] S32x1.size inb_S32x128_S32x1_0_0
abbrev wholeR : Rect S288x128 := Rect.unit (s := S288x128) ![0, 0] S288x128.size inb_S288x128_S288x128_0_0

/-- The boxes' best anchors, into the first column. -/
def rowStep (M : Mems) : P F PUnit := do
  let mx : Vec F S32x128 .f32 ← Prog.lift (.load M.m12 wholeR12.toLoadRect (View.loadsAt_vmem h_S32x128))
  let ix : Vec F S32x128 .i32 ← Prog.lift (.load M.m13 wholeR12.toLoadRect (View.loadsAt_vmem h_S32x128))
  let _ : Vec F S32x1 .i32 ← Prog.lift (.load M.m13 firstColR.toLoadRect (View.loadsAt_vmem h_S32x1))
  Prog.lift (.store M.m13 firstColR (shapeCast S32x1 (rowIdx mx ix) shapeCasts_S32x1_S32x1) Finset.univ (View.stores_vmem_bits_univ h_S32x1 rfl) (.inl rfl))

/-- An anchor's number. -/
def anchorNo : IVec S288x128 32 :=
  addi (muli (iota .tc S288x128 32 [0] iota_S288x128_d0_w32) (broadcast S288x128 (128#32 : BitVec 32)))
    (iota .tc S288x128 32 [1] iota_S288x128_d1_w32)

/-- Whether an anchor is some box's best, one box at a time. -/
def memberStep (M : Mems) (g : Fin 32) (acc : IVec S288x128 1) : P F (IVec S288x128 1) := do
  let b : Vec F S1x1 .i32 ← Prog.lift (.load M.m13 (firstR g).toLoadRect (View.loadsAt_vmem h_S1x1))
  pure (ori acc (cmpi .eq anchorNo (broadcast S288x128 (extractAt ![0, 0] b inpos_S1x1_p0_0 : BitVec 32))))

/-! ## The labels -/

/-- The label before subsampling. -/
def label0 (best : FVec F S288x128 .f32) (isgt keep : IVec S288x128 1) : IVec S288x128 32 :=
  select keep
    (select isgt (broadcast S288x128 1#32)
      (select (cmpf .ole best (broadcast S288x128 (Scalar.ofBits .f32 0x3E99999A#32))) (broadcast S288x128 0#32)
        (select (cmpf .oge best (broadcast S288x128 (Scalar.ofBits .f32 0x3F333333#32))) (broadcast S288x128 1#32)
          (broadcast S288x128 4294967295#32))))
    (broadcast S288x128 4294967295#32)

/-- How many anchors a mask holds. -/
def countOf (mk : IVec S288x128 1) : BitVec 32 :=
  extractAt ![0, 0, 0] (shapeCast S1x1x1 (multiReductionI .add [1, 2] S1
    (shapeCast S1x288x128 (extui 32 mk natLt_1_32) shapeCasts_S288x128_S1x288x128) 0#32 reduces_S1x288x128_S1 rfl)
    shapeCasts_S1_S1x1x1) inpos_S1x1x1_p0_0_0

/-- Half a sum, rounded down. -/
def halve (s : BitVec 32) : BitVec 32 :=
  Scalar.select (Scalar.andi
      (Scalar.cmpi .ne (Scalar.subi (Scalar.extui (Scalar.cmpi .sgt s 0#32) : BitVec 32) (Scalar.extui (Scalar.cmpi .slt s 0#32)))
        (Scalar.subi (Scalar.extui (Scalar.cmpi .sgt (2#32 : BitVec 32) 0#32) : BitVec 32) (Scalar.extui (Scalar.cmpi .slt (2#32 : BitVec 32) 0#32))))
      (Scalar.cmpi .ne (Scalar.remsi s 2#32) 0#32))
    (Scalar.subi (Scalar.divsi s 2#32) 1#32) (Scalar.divsi s 2#32)

/-- One step of the two searches for a threshold: the interval's half that holds the quota's position. -/
def searchStep (bg fg : IVec S288x128 1) (pbg pfg : IVec S288x128 32) (qbg qfg : BitVec 32)
    (r : BitVec 32 × BitVec 32 × BitVec 32 × BitVec 32) : BitVec 32 × BitVec 32 × BitVec 32 × BitVec 32 :=
  let c0 := Scalar.cmpi .sge (countOf (andi bg (cmpi .sle pbg (broadcast S288x128 (halve (Scalar.addi r.1 r.2.1)))))) qbg
  let c1 := Scalar.cmpi .sge (countOf (andi fg (cmpi .sle pfg (broadcast S288x128 (halve (Scalar.addi r.2.2.1 r.2.2.2)))))) qfg
  (Scalar.select c0 r.1 (halve (Scalar.addi r.1 r.2.1)), Scalar.select c0 (halve (Scalar.addi r.1 r.2.1)) r.2.1,
    Scalar.select c1 r.2.2.1 (halve (Scalar.addi r.2.2.1 r.2.2.2)), Scalar.select c1 (halve (Scalar.addi r.2.2.1 r.2.2.2)) r.2.2.2)

/-- The labels of `lab` with those of the mask past the threshold dropped. -/
def dropPast (mk : IVec S288x128 1) (pos : IVec S288x128 32) (thr : BitVec 32) (lab : IVec S288x128 32) : IVec S288x128 32 :=
  select (andi mk (cmpi .sgt pos (broadcast S288x128 thr))) (broadcast S288x128 4294967295#32) lab

abbrev isLabel (lab : IVec S288x128 32) (v : BitVec 32) : IVec S288x128 1 := cmpi .eq lab (broadcast S288x128 v)

/-- A target where the mask holds, zero elsewhere. -/
def maskedTarget (mk : IVec S288x128 1) (v : FVec F S288x128 .f32) : FVec F S288x128 .f32 :=
  select mk v (broadcast S288x128 (Scalar.ofBits .f32 0x00000000#32))

abbrev planeR1 (p : Nat) (h : ∀ a, (![p, 0, 0] : Fin 3 → Nat) a + S1x288x128.size a ≤ S8x288x128.size a) : Rect S8x288x128 :=
  Rect.unit (s := S8x288x128) ![p, 0, 0] S1x288x128.size h
abbrev planeR2 (p : Nat) (h : ∀ a, (![p, 0, 0] : Fin 3 → Nat) a + S1x288x128.size a ≤ S2x288x128.size a) : Rect S2x288x128 :=
  Rect.unit (s := S2x288x128) ![p, 0, 0] S1x288x128.size h
abbrev planeR4 (p : Nat) (h : ∀ a, (![p, 0, 0] : Fin 3 → Nat) a + S1x288x128.size a ≤ S4x288x128.size a) : Rect S4x288x128 :=
  Rect.unit (s := S4x288x128) ![p, 0, 0] S1x288x128.size h

/-- A plane of the anchors, -/
def loadPlane1 (M : Mems) (p : Nat) (h : ∀ a, (![p, 0, 0] : Fin 3 → Nat) a + S1x288x128.size a ≤ S8x288x128.size a) :
    P F (FVec F S288x128 .f32) := do
  let v : Vec F S1x288x128 .f32 ← Prog.lift (.load M.m1 (planeR1 p h).toLoadRect (View.loadsAt_vmem h_S1x288x128))
  pure (shapeCast S288x128 v shapeCasts_S1x288x128_S288x128)

/-- a plane of the positions, -/
def loadPlane2 (M : Mems) (p : Nat) (h : ∀ a, (![p, 0, 0] : Fin 3 → Nat) a + S1x288x128.size a ≤ S2x288x128.size a) :
    P F (IVec S288x128 32) := do
  let v : Vec F S1x288x128 .i32 ← Prog.lift (.load M.m2 (planeR2 p h).toLoadRect (View.loadsAt_vmem h_S1x288x128))
  pure (shapeCast S288x128 v shapeCasts_S1x288x128_S288x128)

/-- a per-anchor array, -/
def loadWhole (m : Memref sig .tc .vmem S288x128 .f32) : P F (Vec F S288x128 .f32) :=
  Prog.lift (.load m wholeR.toLoadRect (View.loadsAt_vmem h_S288x128))

/-- and a plane of the targets written. -/
def storePlane (M : Mems) (p : Nat) (h : ∀ a, (![p, 0, 0] : Fin 3 → Nat) a + S1x288x128.size a ≤ S4x288x128.size a)
    (v : FVec F S288x128 .f32) : P F PUnit := do
  let _ : Vec F S1x288x128 .f32 ← Prog.lift (.load M.m4 (planeR4 p h).toLoadRect (View.loadsAt_vmem h_S1x288x128))
  Prog.lift (.store M.m4 (planeR4 p h) (shapeCast S1x288x128 v shapeCasts_S288x128_S1x288x128) Finset.univ (View.stores_vmem_bits_univ h_S1x288x128 rfl) (.inl rfl))

/-- What the last part reads. -/
structure Reads (F : FTy → Type) where
  keep : IVec S288x128 1
  ax : FVec F S288x128 .f32
  ay : FVec F S288x128 .f32
  aw : FVec F S288x128 .f32
  ah : FVec F S288x128 .f32
  ov : Vec F S288x128 .f32
  x : Vec F S288x128 .f32
  y : Vec F S288x128 .f32
  w : Vec F S288x128 .f32
  h : Vec F S288x128 .f32
  pbg : IVec S288x128 32
  pfg : IVec S288x128 32

def loadReads (M : Mems) : P F (Reads F) := do
  let kp ← loadPlane1 M 7 inb_S8x288x128_S1x288x128_7_0_0
  let ax ← loadPlane1 M 0 inb_S8x288x128_S1x288x128_0_0_0
  let ay ← loadPlane1 M 1 inb_S8x288x128_S1x288x128_1_0_0
  let aw ← loadPlane1 M 4 inb_S8x288x128_S1x288x128_4_0_0
  let ah ← loadPlane1 M 5 inb_S8x288x128_S1x288x128_5_0_0
  let ov ← loadWhole M.m5
  let x ← loadWhole M.m6
  let y ← loadWhole M.m7
  let w ← loadWhole M.m8
  let h ← loadWhole M.m9
  let pbg ← loadPlane2 M 0 inb_S2x288x128_S1x288x128_0_0_0
  let pfg ← loadPlane2 M 1 inb_S2x288x128_S1x288x128_1_0_0
  pure ⟨cmpf .one kp (broadcast S288x128 (Scalar.ofBits .f32 0x00000000#32)), ax, ay, aw, ah, ov, x, y, w, h, pbg, pfg⟩

/-- The labels before subsampling, of what was read. -/
def Reads.lab (R : Reads F) (isgt : IVec S288x128 1) : IVec S288x128 32 := label0 R.ov isgt R.keep

/-- The two quotas. -/
def quotaBg (lab : IVec S288x128 32) : BitVec 32 := Scalar.minsi (countOf (isLabel lab 0#32)) 170#32
def quotaFg (lab : IVec S288x128 32) : BitVec 32 := Scalar.minsi (countOf (isLabel lab 1#32)) 85#32

/-- The search's loop. -/
def search (R : Reads F) (lab : IVec S288x128 32) : P F (BitVec 32 × BitVec 32 × BitVec 32 × BitVec 32) :=
  Scf.Loop.for k0_t2_loop k0_t2_ok (4294967295#32, 36863#32, 4294967295#32, 36863#32) fun _ r =>
    pure (searchStep (isLabel lab 0#32) (isLabel lab 1#32) R.pbg R.pfg (quotaBg lab) (quotaFg lab) r)

/-- The labels, of the thresholds found. -/
def labelOf (R : Reads F) (lab : IVec S288x128 32) (r : BitVec 32 × BitVec 32 × BitVec 32 × BitVec 32) : IVec S288x128 32 :=
  dropPast (isLabel lab 1#32) R.pfg r.2.2.2 (dropPast (isLabel lab 0#32) R.pbg r.2.1 lab)

/-- The results stored, but for the last two planes of the targets. -/
def store1 (M : Mems) (R : Reads F) (lab : IVec S288x128 32) : P F PUnit := do
  let _ : Vec F S288x128 .i32 ← Prog.lift (.load M.m3 wholeR.toLoadRect (View.loadsAt_vmem h_S288x128))
  Prog.lift (.store M.m3 wholeR lab Finset.univ (View.stores_vmem_bits_univ h_S288x128 rfl) (.inl rfl))
  storePlane M 0 inb_S4x288x128_S1x288x128_0_0_0 (maskedTarget (isLabel lab 1#32) (divf (subf R.x R.ax) R.aw))

def store2 (M : Mems) (R : Reads F) (lab : IVec S288x128 32) : P F PUnit := do
  storePlane M 1 inb_S4x288x128_S1x288x128_1_0_0 (maskedTarget (isLabel lab 1#32) (divf (subf R.y R.ay) R.ah))
  storePlane M 2 inb_S4x288x128_S1x288x128_2_0_0 (maskedTarget (isLabel lab 1#32) (log (divf R.w R.aw)))

def store3 (M : Mems) (R : Reads F) (lab : IVec S288x128 32) : P F PUnit :=
  storePlane M 3 inb_S4x288x128_S1x288x128_3_0_0 (maskedTarget (isLabel lab 1#32) (log (divf R.h R.ah)))

/-- The loop over the chunks. -/
def chunks (M : Mems) : P F PUnit :=
  Scf.Loop.for k0_t1_loop k0_t1_ok ⟨⟩ fun k _ => tripU M k

/-- The body. -/
def bodyU (M : Mems) : P F PUnit := do
  eachBox (initStep M) allBoxes
  chunks M
  eachBox (colStep M) allBoxes
  rowStep M
  let isgt ← foldBox (memberStep M) allBoxes (broadcast S288x128 0#1)
  let R ← loadReads M
  let r ← search R (R.lab isgt)
  store1 M R (labelOf R (R.lab isgt) r)
  store2 M R (labelOf R (R.lab isgt) r)
  store3 M R (labelOf R (R.lab isgt) r)

end Cert.Proof.KI
-- ==== Proof.Runs.lean ====
/-
  Running a program over the body's fourteen memrefs, contents known: `Runs M p s v s'` says that a core that
  owns the memrefs at contents `s` runs `p` to the value `v` and the contents `s'`. The rules are those of a
  straight-line program and of a counted loop.
-/
module

public import proofs.«01_k».proof.Proof.Uniform
public import Idealize.ShloMosaic.Lib.Tactic
public import Idealize.ShloMosaic.Lib.Exec
public import Idealize.ShloMosaic.Lib.Pipeline.FrameBody

@[expose] public section

set_option maxRecDepth 16384

noncomputable section

namespace Cert.Proof.KI

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

local notation "𝕄" => MT nD τ sig Unit (Elt F) ℕ (UR sig nD τ) ℕ

abbrev 𝒱₀ : Variants := Variants.none

/-- The contents of the fourteen memrefs. -/
structure St (F : FTy → Type) where
  a0 : Vec F S32x4 .f32
  a1 : Vec F S8x288x128 .f32
  a2 : Vec F S2x288x128 .i32
  a3 : Vec F S288x128 .i32
  a4 : Vec F S4x288x128 .f32
  a5 : Vec F S288x128 .f32
  a6 : Vec F S288x128 .f32
  a7 : Vec F S288x128 .f32
  a8 : Vec F S288x128 .f32
  a9 : Vec F S288x128 .f32
  a10 : Vec F S32x8x128 .f32
  a11 : Vec F S32x8x128 .i32
  a12 : Vec F S32x128 .f32
  a13 : Vec F S32x128 .i32

/-- Core `c` owns the fourteen memrefs at these contents. -/
def Own (c : Dev nD) (M : Mems) (s : St F) : sProp 𝕄 :=
  iprop(owns (c : Thread nD τ) M.m0 fullShare s.a0 ∗ owns (c : Thread nD τ) M.m1 fullShare s.a1
    ∗ owns (c : Thread nD τ) M.m2 fullShare s.a2 ∗ owns (c : Thread nD τ) M.m3 fullShare s.a3
    ∗ owns (c : Thread nD τ) M.m4 fullShare s.a4 ∗ owns (c : Thread nD τ) M.m5 fullShare s.a5
    ∗ owns (c : Thread nD τ) M.m6 fullShare s.a6 ∗ owns (c : Thread nD τ) M.m7 fullShare s.a7
    ∗ owns (c : Thread nD τ) M.m8 fullShare s.a8 ∗ owns (c : Thread nD τ) M.m9 fullShare s.a9
    ∗ owns (c : Thread nD τ) M.m10 fullShare s.a10 ∗ owns (c : Thread nD τ) M.m11 fullShare s.a11
    ∗ owns (c : Thread nD τ) M.m12 fullShare s.a12 ∗ owns (c : Thread nD τ) M.m13 fullShare s.a13)

/-- `R` is `O x` and, whatever is put in place of `x`, what remains of `R`. -/
def Splits {α : Type} (R : sProp 𝕄) (O : α → sProp 𝕄) (x : α) (R' : α → sProp 𝕄) : Prop :=
  R ⊢ iprop(O x ∗ (∀ y, O y -∗ R' y))

theorem Splits.last {α : Type} {O : α → sProp 𝕄} {x : α} : Splits (F := F) (O x) O x O := by
  unfold Splits
  iintro H
  isplitl [H]; · iexact H
  iintro %y H; iexact H

theorem Splits.left {α : Type} {O : α → sProp 𝕄} {x : α} {R : sProp 𝕄} :
    Splits (F := F) iprop(O x ∗ R) O x (fun y => iprop(O y ∗ R)) := by
  unfold Splits
  iintro ⟨H, HR⟩
  isplitl [H]; · iexact H
  iintro %y H
  isplitl [H]; · iexact H
  iexact HR

theorem Splits.right {α : Type} {O : α → sProp 𝕄} {x : α} {L R : sProp 𝕄} {R' : α → sProp 𝕄} (h : Splits (F := F) R O x R') :
    Splits (F := F) iprop(L ∗ R) O x (fun y => iprop(L ∗ R' y)) := by
  unfold Splits at *
  iintro ⟨HL, HR⟩
  ihave HR := h $$ HR
  icases HR with ⟨H, HR⟩
  isplitl [H]; · iexact H
  iintro %y H
  isplitl [HL]; · iexact HL
  iapply HR; iexact H

/-- One of the fourteen memrefs, with its place in the contents. -/
def Slot {sp : Space} {sh : Shape} {e : EltTy} (m : Mems → Memref sig .tc sp sh e) (get : St F → (sh.Idx → Elt F e))
    (set : St F → (sh.Idx → Elt F e) → St F) : Prop :=
  ∀ (c : Dev nD) (M : Mems) (s : St F),
    Splits (F := F) (Own c M s) (fun x => owns (c : Thread nD τ) (m M) fullShare x) (get s) (fun x => Own c M (set s x))

theorem slot0 : Slot (F := F) Mems.m0 St.a0 (fun s x => { s with a0 := x }) := fun _ _ _ => .left
theorem slot1 : Slot (F := F) Mems.m1 St.a1 (fun s x => { s with a1 := x }) := fun _ _ _ => .right .left
theorem slot2 : Slot (F := F) Mems.m2 St.a2 (fun s x => { s with a2 := x }) := fun _ _ _ => .right <| .right .left
theorem slot3 : Slot (F := F) Mems.m3 St.a3 (fun s x => { s with a3 := x }) := fun _ _ _ => .right <| .right <| .right .left
theorem slot4 : Slot (F := F) Mems.m4 St.a4 (fun s x => { s with a4 := x }) := fun _ _ _ =>
  .right <| .right <| .right <| .right .left
theorem slot5 : Slot (F := F) Mems.m5 St.a5 (fun s x => { s with a5 := x }) := fun _ _ _ =>
  .right <| .right <| .right <| .right <| .right .left
theorem slot6 : Slot (F := F) Mems.m6 St.a6 (fun s x => { s with a6 := x }) := fun _ _ _ =>
  .right <| .right <| .right <| .right <| .right <| .right .left
theorem slot7 : Slot (F := F) Mems.m7 St.a7 (fun s x => { s with a7 := x }) := fun _ _ _ =>
  .right <| .right <| .right <| .right <| .right <| .right <| .right .left
theorem slot8 : Slot (F := F) Mems.m8 St.a8 (fun s x => { s with a8 := x }) := fun _ _ _ =>
  .right <| .right <| .right <| .right <| .right <| .right <| .right <| .right .left
theorem slot9 : Slot (F := F) Mems.m9 St.a9 (fun s x => { s with a9 := x }) := fun _ _ _ =>
  .right <| .right <| .right <| .right <| .right <| .right <| .right <| .right <| .right .left
theorem slot10 : Slot (F := F) Mems.m10 St.a10 (fun s x => { s with a10 := x }) := fun _ _ _ =>
  .right <| .right <| .right <| .right <| .right <| .right <| .right <| .right <| .right <| .right .left
theorem slot11 : Slot (F := F) Mems.m11 St.a11 (fun s x => { s with a11 := x }) := fun _ _ _ =>
  .right <| .right <| .right <| .right <| .right <| .right <| .right <| .right <| .right <| .right <| .right .left
theorem slot12 : Slot (F := F) Mems.m12 St.a12 (fun s x => { s with a12 := x }) := fun _ _ _ =>
  .right <| .right <| .right <| .right <| .right <| .right <| .right <| .right <| .right <| .right <| .right <| .right .left
theorem slot13 : Slot (F := F) Mems.m13 St.a13 (fun s x => { s with a13 := x }) := fun _ _ _ =>
  .right <| .right <| .right <| .right <| .right <| .right <| .right <| .right <| .right <| .right <| .right <| .right <|
    .right .last

/-- `X` with the rectangle's elements replaced by `w`. -/
def put {α : Type} {s : Shape} (X : s.Idx → α) (r : Rect s) (w : r.shape.Idx → α) : s.Idx → α :=
  open Classical in fun y => if h : ∃ x, r.emb x = y then w h.choose else X y

theorem put_emb {α : Type} {s : Shape} (X : s.Idx → α) (r : Rect s) (w : r.shape.Idx → α) (x : r.shape.Idx) :
    put X r w (r.emb x) = w x := by
  have h : ∃ x', r.emb x' = r.emb x := ⟨x, rfl⟩
  rw [put, dif_pos h, r.emb.injective h.choose_spec]

theorem put_off {α : Type} {s : Shape} (X : s.Idx → α) (r : Rect s) (w : r.shape.Idx → α) {y : s.Idx} (h : ∀ x, r.emb x ≠ y) :
    put X r w y = X y := by
  rw [put, dif_neg (by rintro ⟨x, hx⟩; exact h x hx)]

/-- The contents a view reads after a store through one of its rectangles. -/
theorem read_store {κ : Kind} {sp : Space} {s : Shape} {e : EltTy} (v : View sig κ sp s e) (r : Rect s)
    (f : v.ty.Contents (Elt F)) (w : r.shape.Idx → Elt F e) :
    v.read (Elt F) ((v.slice r).write (Elt F) f w Finset.univ) = put (v.read (Elt F) f) r w := by
  funext y
  by_cases h : ∃ x, r.emb x = y
  · obtain ⟨x, rfl⟩ := h
    rw [put_emb, View.read_slice_write_emb _ _ _ (Finset.mem_univ x)]
  · rw [put_off _ _ _ (fun x hx => h ⟨x, hx⟩), View.read_slice_write_of_not_mem]
    intro hm
    obtain ⟨x, -, hx⟩ := Finset.mem_map.mp hm
    exact h ⟨x, hx⟩

/-- A core that owns the memrefs at `s` runs `p` to `v` and `s'`. -/
def Runs {α : Type} (M : Mems) (p : P F α) (s : St F) (v : α) (s' : St F) : Prop :=
  ∀ (c : Dev nD) (Q : α → sProp 𝕄),
    iprop(Own c M s ∗ (Own c M s' -∗ Q v)) ⊢ wp frame (wpE (defs₀ (F := F)) 𝒱₀ (c : Thread nD τ) none) Set.univ p Q

theorem Runs.ret {α : Type} (M : Mems) (s : St F) (v : α) : Runs M (.ret v) s v s := by
  intro c Q
  rw [wp_ret]
  iintro ⟨H, HQ⟩
  imodintro
  iapply HQ; iexact H

theorem Runs.bind {α β : Type} {M : Mems} {p : P F α} {k : α → P F β} {s s' s'' : St F} {v : α} {v' : β}
    (h : Runs M p s v s') (h' : Runs M (k v) s' v' s'') : Runs M (p >>= k) s v' s'' := by
  intro c Q
  rw [wp_bind]
  iintro ⟨H, HQ⟩
  iapply (h c _)
  isplitl [H]; · iexact H
  iintro H
  iapply (h' c _)
  isplitl [H]; · iexact H
  iexact HQ

theorem Runs.congr {α : Type} {M : Mems} {p : P F α} {s s' t' : St F} {v w : α}
    (h : Runs M p s v s') (hv : v = w) (hs : s' = t') : Runs M p s w t' := hv ▸ hs ▸ h

theorem Runs.load {cs : CoreSpace} {sh : Shape} {e : EltTy} {m : Mems → Memref sig .tc cs sh e} {get : St F → (sh.Idx → Elt F e)}
    {set : St F → (sh.Idx → Elt F e) → St F} (hm : Slot m get set) (hset : ∀ s, set s (get s) = s) (M : Mems) (s : St F)
    (r : LoadRect sh) (hl : (m M).view.LoadsAt r) :
    Runs M (Prog.lift (.load (m M) r hl)) s (fun x => get s (r.idx x)) s := by
  intro c Q
  have hm := hm c M s
  unfold Splits at hm
  iintro ⟨H, HQ⟩
  ihave H := hm $$ H
  icases H with ⟨H, Hback⟩
  unfold owns
  icases H with ⟨%f, %hf, H⟩
  iapply (wp_load 𝒱₀ (c : Thread nD τ) none Set.univ (View.setOn_subset_set _ _)) $$ H
  iintro H
  rw [wp_ret]
  imodintro
  rw [show (m M).view.readAt (Elt F) r f = fun x => get s (r.idx x) from funext fun x => by rw [View.readAt_apply, hf]]
  iapply HQ
  ihave H := Hback $$ %(get s)
  dsimp only
  rw [hset]
  iapply H
  iexists f
  isplitr
  · ipureintro; exact hf
  · iexact H

theorem Runs.store {cs : CoreSpace} {sh : Shape} {e : EltTy} {m : Mems → Memref sig .tc cs sh e} {get : St F → (sh.Idx → Elt F e)}
    {set : St F → (sh.Idx → Elt F e) → St F} (hm : Slot m get set) (M : Mems) (s : St F)
    (r : Rect sh) (w : r.shape.Idx → Elt F e) (hx : ((m M).access r).Stores Finset.univ)
    (hu : (Finset.univ : Finset r.shape.Idx) = Finset.univ ∨ ∀ a, r.stride a = 1) :
    Runs M (Prog.lift (.store (m M) r w Finset.univ hx hu)) s ⟨⟩ (set s (put (get s) r w)) := by
  intro c Q
  have hm := hm c M s
  unfold Splits at hm
  iintro ⟨H, HQ⟩
  ihave H := hm $$ H
  icases H with ⟨H, Hback⟩
  unfold owns
  icases H with ⟨%f, %hf, H⟩
  iapply (wp_store 𝒱₀ (c : Thread nD τ) none Set.univ (hx := hx) (hm := hu) (m := m M) (r := r) (w := w)
    (S := (m M).view.set) (f := f) (by
      intro i hi
      obtain ⟨x, -, rfl⟩ := Finset.mem_map.mp hi
      exact (m M).view.emb_mem_set (r.emb x))) $$ H
  iintro H
  rw [wp_ret]
  imodintro
  iapply HQ
  iapply Hback
  iexists _
  isplitr; swap
  · iexact H
  · ipureintro
    rw [← hf]
    exact read_store _ _ _ _

theorem Runs.for {σ : Type} {M : Mems} (loop : Scf.Loop 32) (hok : loop.OK) (body : Fin loop.trips → σ → P F σ)
    (A : Nat → σ) (S : Nat → St F)
    (hbody : ∀ k : Fin loop.trips, Runs M (body k (A k.val)) (S k.val) (A (k.val + 1)) (S (k.val + 1))) :
    Runs M (Scf.Loop.for loop hok (A 0) body) (S 0) (A loop.trips) (S loop.trips) := by
  intro c Q
  iintro ⟨H, HQ⟩
  iapply (Scf.wp_for frame (wpE (defs₀ (F := F)) 𝒱₀ (c : Thread nD τ) none) Set.univ loop.lb loop.ub loop.st hok (A 0) body
    (fun k acc => iprop(⌜acc = A k⌝ ∗ Own c M (S k))) (by
      intro k acc
      iintro ⟨%h, H⟩
      subst h
      iapply (hbody k c _)
      isplitl [H]; · iexact H
      iintro H
      isplitr; · ipureintro; rfl
      iexact H))
  isplitl [H]
  · isplitr; · ipureintro; rfl
    iexact H
  · iintro %acc ⟨%h, H⟩
    subst h
    iapply HQ
    iexact H

end Cert.Proof.KI
-- ==== Proof.Geometry.lean ====
/-
  What the body's rectangles hold: an array given by its planes, chunks or rows, read through a rectangle, and
  with a rectangle's elements replaced.
-/
module

public import proofs.«01_k».proof.Proof.Runs
public import Idealize.ShloMosaic.Lib.ValueLayout
public import Idealize.ShloMosaic.Lib.ValueLayoutCasts
public import Idealize.ShloMosaic.Lib.ValueIdxCore

@[expose] public section

set_option maxRecDepth 16384

noncomputable section

namespace Cert.Proof.KI

open Cert.KernelIdeal
open Idealize.ShloMosaic Idealize.ShloMosaic.TcCoe Idealize.ShloMosaic.Tactic Idealize.ShloMosaic.ValueIdx
open Idealize.SL Idealize.SL.Sem
open Cert.KernelIdeal.Facts₀ Cert.KernelIdeal.Facts

variable {F : FTy → Type} [FloatOps F] [Facts]

variable {α : Type}

theorem emb_eq {s : Shape} (r : Rect s) (x : r.shape.Idx) (y : s.Idx)
    (h : ∀ a, (y a).val = r.off a + r.stride a * (x a).val) : r.emb x = y := by
  funext a
  apply Fin.ext
  rw [Rect.emb_apply, h a]

theorem put_eq {s : Shape} {X Y : s.Idx → α} {r : Rect s} {w : r.shape.Idx → α} (h : ∀ x, Y (r.emb x) = w x)
    (h' : ∀ y, (∀ x, r.emb x ≠ y) → Y y = X y) : put X r w = Y := by
  funext y
  by_cases hy : ∃ x, r.emb x = y
  · obtain ⟨x, rfl⟩ := hy
    rw [put_emb, h]
  · have hy' : ∀ x, r.emb x ≠ y := fun x hx => hy ⟨x, hx⟩
    rw [put_off _ _ _ hy', h' y hy']

theorem ex3 {n0 n1 n2 : Nat} (i : (⟨3, ![n0, n1, n2]⟩ : Shape).Idx) :
    ∃ (a : Fin n0) (b : Fin n1) (c : Fin n2), i = ix3 a b c := ⟨i 0, i 1, i 2, eq_ix3 i⟩
theorem ex2 {n0 n1 : Nat} (i : (⟨2, ![n0, n1]⟩ : Shape).Idx) : ∃ (a : Fin n0) (b : Fin n1), i = ix2 a b :=
  ⟨i 0, i 1, eq_ix2 i⟩

/-! ## Planes of an array -/

/-- The array whose planes are `f`. -/
def pack {n0 n1 n2 : Nat} (f : Fin n0 → (⟨2, ![n1, n2]⟩ : Shape).Idx → α) : (⟨3, ![n0, n1, n2]⟩ : Shape).Idx → α :=
  fun i => f (i 0) (ix2 (i 1) (i 2))

/-- The planes of an array. -/
def planes {n0 n1 n2 : Nat} (X : (⟨3, ![n0, n1, n2]⟩ : Shape).Idx → α) : Fin n0 → (⟨2, ![n1, n2]⟩ : Shape).Idx → α :=
  fun g i => X (ix3 g (i 0) (i 1))

theorem pack_planes {n0 n1 n2 : Nat} (X : (⟨3, ![n0, n1, n2]⟩ : Shape).Idx → α) : pack (planes X) = X := by
  funext i; exact congrArg X (eq_ix3 i).symm

/-- One plane as an array of one plane. -/
def unit1 {n1 n2 : Nat} (v : (⟨2, ![n1, n2]⟩ : Shape).Idx → α) : (⟨3, ![1, n1, n2]⟩ : Shape).Idx → α :=
  fun i => v (ix2 (i 1) (i 2))

theorem shapeCast_to_unit1 {n1 n2 : Nat} (v : (⟨2, ![n1, n2]⟩ : Shape).Idx → α)
    (h : (⟨2, ![n1, n2]⟩ : Shape).ShapeCasts ⟨3, ![1, n1, n2]⟩) : shapeCast ⟨3, ![1, n1, n2]⟩ v h = unit1 v := by
  funext i; obtain ⟨a, b, c, rfl⟩ := ex3 i; rw [shapeCast_ab_1ab_apply]; rfl

theorem shapeCast_of_unit1 {n1 n2 : Nat} (v : (⟨2, ![n1, n2]⟩ : Shape).Idx → α)
    (h : (⟨3, ![1, n1, n2]⟩ : Shape).ShapeCasts ⟨2, ![n1, n2]⟩) : shapeCast ⟨2, ![n1, n2]⟩ (unit1 v) h = v := by
  funext i; obtain ⟨a, b, rfl⟩ := ex2 i; rw [shapeCast_1ab_ab_apply]; rfl

/-- A plane of `pack f`, loaded. -/
theorem load_plane {n0 n1 n2 : Nat} (f : Fin n0 → (⟨2, ![n1, n2]⟩ : Shape).Idx → α) (p : Fin n0) (off : Fin 3 → Nat)
    (h : ∀ a, off a + (⟨3, ![1, n1, n2]⟩ : Shape).size a ≤ (⟨3, ![n0, n1, n2]⟩ : Shape).size a)
    (h0 : off = ![p.val, 0, 0]) :
    (fun x => pack f ((Rect.unit (s := ⟨3, ![n0, n1, n2]⟩) off (⟨3, ![1, n1, n2]⟩ : Shape).size h).toLoadRect.idx x)) = unit1 (f p) := by
  subst h0
  funext x
  have e : (Rect.unit (s := ⟨3, ![n0, n1, n2]⟩) ![p.val, 0, 0] (⟨3, ![1, n1, n2]⟩ : Shape).size h).toLoadRect.idx x
      = ix3 p (x 1) (x 2) := by
    refine emb_eq _ x _ fun a => ?_
    match a with
    | ⟨0, _⟩ =>
      have h0 : (x 0).val < 1 := (x 0).isLt
      change p.val = p.val + 1 * (x 0).val
      omega
    | ⟨1, _⟩ => change (x 1).val = 0 + 1 * (x 1).val; omega
    | ⟨2, _⟩ => change (x 2).val = 0 + 1 * (x 2).val; omega
  rw [e]; rfl

/-- A plane of `pack f`, stored. -/
theorem store_plane {n0 n1 n2 : Nat} (f : Fin n0 → (⟨2, ![n1, n2]⟩ : Shape).Idx → α) (p : Fin n0) (off : Fin 3 → Nat)
    (h : ∀ a, off a + (⟨3, ![1, n1, n2]⟩ : Shape).size a ≤ (⟨3, ![n0, n1, n2]⟩ : Shape).size a)
    (h0 : off = ![p.val, 0, 0]) (v : (⟨2, ![n1, n2]⟩ : Shape).Idx → α) :
    put (pack f) (Rect.unit (s := ⟨3, ![n0, n1, n2]⟩) off (⟨3, ![1, n1, n2]⟩ : Shape).size h) (unit1 v)
      = pack (Function.update f p v) := by
  subst h0
  have key : ∀ x, (Rect.unit (s := ⟨3, ![n0, n1, n2]⟩) ![p.val, 0, 0] (⟨3, ![1, n1, n2]⟩ : Shape).size h).emb x = ix3 p (x 1) (x 2) := by
    intro x
    refine emb_eq _ x _ fun a => ?_
    match a with
    | ⟨0, _⟩ =>
      have h0 : (x 0).val < 1 := (x 0).isLt
      change p.val = p.val + 1 * (x 0).val
      omega
    | ⟨1, _⟩ => change (x 1).val = 0 + 1 * (x 1).val; omega
    | ⟨2, _⟩ => change (x 2).val = 0 + 1 * (x 2).val; omega
  refine put_eq (fun x => ?_) fun y hy => ?_
  · rw [key]
    change Function.update f p v p (ix2 (x 1) (x 2)) = v (ix2 (x 1) (x 2))
    rw [Function.update_self]
  · have hp : y 0 ≠ p := by
      intro hp
      refine hy (ix3 (0 : Fin 1) (y 1) (y 2)) ?_
      rw [key]
      subst hp
      exact (eq_ix3 y).symm
    exact congrFun (Function.update_of_ne (f := f) (a' := p) (v := v) hp) _

/-! ## Rows of an array -/

/-- The array whose rows are `f`. -/
def packR {n0 n1 : Nat} (f : Fin n0 → (⟨2, ![1, n1]⟩ : Shape).Idx → α) : (⟨2, ![n0, n1]⟩ : Shape).Idx → α :=
  fun i => f (i 0) (ix2 (0 : Fin 1) (i 1))

/-- The rows of an array. -/
def rows {n0 n1 : Nat} (X : (⟨2, ![n0, n1]⟩ : Shape).Idx → α) : Fin n0 → (⟨2, ![1, n1]⟩ : Shape).Idx → α :=
  fun g i => X (ix2 g (i 1))

theorem packR_rows {n0 n1 : Nat} (X : (⟨2, ![n0, n1]⟩ : Shape).Idx → α) : packR (rows X) = X := by
  funext i; exact congrArg X (eq_ix2 i).symm

theorem store_row {n0 n1 : Nat} (f : Fin n0 → (⟨2, ![1, n1]⟩ : Shape).Idx → α) (p : Fin n0)
    (h : ∀ a, (![p.val, 0] : Fin 2 → Nat) a + (⟨2, ![1, n1]⟩ : Shape).size a ≤ (⟨2, ![n0, n1]⟩ : Shape).size a)
    (v : (⟨2, ![1, n1]⟩ : Shape).Idx → α) :
    put (packR f) (Rect.unit (s := ⟨2, ![n0, n1]⟩) ![p.val, 0] (⟨2, ![1, n1]⟩ : Shape).size h) v
      = packR (Function.update f p v) := by
  have key : ∀ x, (Rect.unit (s := ⟨2, ![n0, n1]⟩) ![p.val, 0] (⟨2, ![1, n1]⟩ : Shape).size h).emb x = ix2 p (x 1) := by
    intro x
    refine emb_eq _ x _ fun a => ?_
    match a with
    | ⟨0, _⟩ =>
      have h0 : (x 0).val < 1 := (x 0).isLt
      change p.val = p.val + 1 * (x 0).val
      omega
    | ⟨1, _⟩ => change (x 1).val = 0 + 1 * (x 1).val; omega
  refine put_eq (fun x => ?_) fun y hy => ?_
  · rw [key]
    change Function.update f p v p (ix2 (0 : Fin 1) (x 1)) = v x
    rw [Function.update_self]
    have hx : x = ix2 (x 0) (x 1) := eq_ix2 x
    have h0 : x 0 = (0 : Fin 1) := Subsingleton.elim (α := Fin 1) _ _
    exact congrArg v ((congrArg (fun u : Fin 1 => ix2 u (x 1)) h0.symm).trans hx.symm)
  · have hp : y 0 ≠ p := by
      intro hp
      refine hy (ix2 (0 : Fin 1) (y 1)) ?_
      rw [key]
      subst hp
      exact (eq_ix2 y).symm
    exact congrFun (Function.update_of_ne (f := f) (a' := p) (v := v) hp) _

/-! ## Chunks of eight rows -/

/-- The array whose thirty-six chunks are `f`. -/
def packC (f : Fin 36 → S8x128.Idx → α) : S288x128.Idx → α :=
  fun i => f ⟨(i 0).val / 8, by have := (i 0).isLt; change (i 0).val < 288 at this; omega⟩
    (ix2 (n0 := 8) (n1 := 128) ⟨(i 0).val % 8, Nat.mod_lt _ (by decide)⟩ (i 1))

/-- The chunks of an array. -/
def chunksOf (X : S288x128.Idx → α) : Fin 36 → S8x128.Idx → α :=
  fun k i => X (ix2 (n0 := 288) (n1 := 128)
    ⟨8 * k.val + (i 0).val, by have := (i 0).isLt; change (i 0).val < 8 at this; omega⟩ (i 1))

theorem packC_chunksOf (X : S288x128.Idx → α) : packC (chunksOf X) = X := by
  funext i
  refine congrArg X ((eq_ix2 i).symm ▸ ?_)
  refine congrArg (fun u => ix2 (n0 := 288) (n1 := 128) u (i 1)) (Fin.ext ?_)
  change 8 * ((i 0).val / 8) + (i 0).val % 8 = (i 0).val
  omega

/-- A trip's first row. -/
theorem off7 (k : Fin k0_t1_loop.trips) : k0_off7 k = ![8 * k.val, 0] := by
  revert k; decide

theorem chunk_emb (k : Fin k0_t1_loop.trips) (x : S8x128.Idx) (hk : k.val < 36) :
    (chunkR k).emb x = ix2 (n0 := 288) (n1 := 128) ⟨8 * k.val + (x 0).val, by have := (x 0).isLt; change (x 0).val < 8 at this; omega⟩ (x 1) := by
  refine emb_eq (chunkR k) x _ fun a => ?_
  match a with
  | ⟨0, _⟩ =>
    change 8 * k.val + (x 0).val = k0_off7 k 0 + 1 * (x 0).val
    rw [off7]
    change 8 * k.val + (x 0).val = 8 * k.val + 1 * (x 0).val
    omega
  | ⟨1, _⟩ =>
    change (x 1).val = k0_off7 k 1 + 1 * (x 1).val
    rw [off7]
    change (x 1).val = 0 + 1 * (x 1).val
    omega

theorem store_chunk (f : Fin 36 → S8x128.Idx → α) (k : Fin k0_t1_loop.trips) (hk : k.val < 36) (v : S8x128.Idx → α) :
    put (packC f) (chunkR k) v = packC (Function.update f ⟨k.val, hk⟩ v) := by
  refine put_eq (fun x => ?_) fun y hy => ?_
  · have hx : (x 0).val < 8 := (x 0).isLt
    rw [chunk_emb k x hk]
    have e : (⟨(8 * k.val + (x 0).val) / 8, by omega⟩ : Fin 36) = ⟨k.val, hk⟩ := Fin.ext (by
      change (8 * k.val + (x 0).val) / 8 = k.val; omega)
    change Function.update f ⟨k.val, hk⟩ v ⟨(8 * k.val + (x 0).val) / 8, _⟩ _ = v x
    rw [e, Function.update_self]
    refine congrArg v ?_
    have hx2 : x = ix2 (x 0) (x 1) := eq_ix2 x
    rw [hx2]
    refine congrArg (fun u => ix2 (n0 := 8) (n1 := 128) u (x 1)) (Fin.ext ?_)
    change (8 * k.val + (x 0).val) % 8 = (x 0).val
    omega
  · have hlt : (y 0).val < 288 := (y 0).isLt
    have hp : (⟨(y 0).val / 8, by omega⟩ : Fin 36) ≠ ⟨k.val, hk⟩ := by
      intro hp
      have hp : (y 0).val / 8 = k.val := congrArg Fin.val hp
      refine hy (ix2 (n0 := 8) (n1 := 128) ⟨(y 0).val % 8, by omega⟩ (y 1)) ?_
      rw [chunk_emb k _ hk]
      refine Eq.trans ?_ (eq_ix2 y).symm
      refine congrArg (fun u => ix2 (n0 := 288) (n1 := 128) u (y 1)) (Fin.ext ?_)
      change 8 * k.val + (y 0).val % 8 = (y 0).val
      omega
    change Function.update f ⟨k.val, hk⟩ v ⟨(y 0).val / 8, _⟩ _ = f ⟨(y 0).val / 8, _⟩ _
    rw [Function.update_of_ne hp]

/-- A shape cast to the same shape does nothing. -/
theorem shapeCast_same {s : Shape} (x : s.Idx → α) (h : s.ShapeCasts s) : shapeCast s x h = x := by
  funext i; exact shapeCast_apply x h _ _ rfl

/-- A chunk of a plane of an array, -/
def chunkPlane (X : S8x288x128.Idx → α) (p : Fin 8) (k : Fin 36) : S8x128.Idx → α :=
  chunksOf (planes (n0 := 8) (n1 := 288) (n2 := 128) X p) k

/-- loaded. -/
theorem load_chunkPlane (X : S8x288x128.Idx → α) (p : Fin 8) (k : Fin 36) (off : Fin 3 → Nat)
    (h : ∀ a, off a + S1x8x128.size a ≤ S8x288x128.size a) (h0 : off = ![p.val, 8 * k.val, 0]) :
    (fun x => X ((Rect.unit (s := S8x288x128) off S1x8x128.size h).toLoadRect.idx x)) = unit1 (n1 := 8) (n2 := 128) (chunkPlane X p k) := by
  subst h0
  funext x
  have hx : (x 1).val < 8 := (x 1).isLt
  have e : (Rect.unit (s := S8x288x128) ![p.val, 8 * k.val, 0] S1x8x128.size h).toLoadRect.idx x
      = ix3 (n0 := 8) (n1 := 288) (n2 := 128) p ⟨8 * k.val + (x 1).val, by omega⟩ (x 2) := by
    refine emb_eq _ x _ fun a => ?_
    match a with
    | ⟨0, _⟩ =>
      have h0 : (x 0).val < 1 := (x 0).isLt
      change p.val = p.val + 1 * (x 0).val
      omega
    | ⟨1, _⟩ => change 8 * k.val + (x 1).val = 8 * k.val + 1 * (x 1).val; omega
    | ⟨2, _⟩ => change (x 2).val = 0 + 1 * (x 2).val; omega
  rw [e]; rfl

/-- The whole array, loaded, -/
theorem load_whole (X : S288x128.Idx → α) : (fun x => X (wholeR.toLoadRect.idx x)) = X := by
  funext x
  refine congrArg X (emb_eq wholeR x _ fun a => ?_)
  match a with
  | ⟨0, _⟩ => change (x 0).val = 0 + 1 * (x 0).val; omega
  | ⟨1, _⟩ => change (x 1).val = 0 + 1 * (x 1).val; omega

theorem load_whole12 (X : S32x128.Idx → α) : (fun x => X (wholeR12.toLoadRect.idx x)) = X := by
  funext x
  refine congrArg X (emb_eq wholeR12 x _ fun a => ?_)
  match a with
  | ⟨0, _⟩ => change (x 0).val = 0 + 1 * (x 0).val; omega
  | ⟨1, _⟩ => change (x 1).val = 0 + 1 * (x 1).val; omega

/-- and stored. -/
theorem store_whole (X w : S288x128.Idx → α) : put X wholeR w = w := by
  have key : ∀ x : S288x128.Idx, wholeR.emb x = x := fun x => by
    refine emb_eq wholeR x _ fun a => ?_
    match a with
    | ⟨0, _⟩ => change (x 0).val = 0 + 1 * (x 0).val; omega
    | ⟨1, _⟩ => change (x 1).val = 0 + 1 * (x 1).val; omega
  exact put_eq (fun x => by rw [key]) fun y hy => absurd (key y) (hy y)

/-- Box `g`'s coordinate `j`, read. -/
theorem load_box (X : S32x4.Idx → α) (g : Fin 32) (j : Fin 4) (x : (boxR g j).shape.Idx) :
    X ((boxR g j).toLoadRect.idx x) = X (ix2 (n0 := 32) (n1 := 4) g j) := by
  refine congrArg X (emb_eq (boxR g j) x _ fun a => ?_)
  match a with
  | ⟨0, _⟩ =>
    have h0 : (x 0).val < 1 := (x 0).isLt
    change g.val = g.val + 1 * (x 0).val
    omega
  | ⟨1, _⟩ =>
    have h0 : (x 1).val < 1 := (x 1).isLt
    change j.val = j.val + 1 * (x 1).val
    omega

/-- Box `g`'s first element after the first column is replaced. -/
theorem load_first (X : S32x128.Idx → α) (w : S32x1.Idx → α) (g : Fin 32) (x : S1x1.Idx) :
    put X firstColR w ((firstR g).toLoadRect.idx x) = w (ix2 (n0 := 32) (n1 := 1) g 0) := by
  have e : (firstR g).toLoadRect.idx x = firstColR.emb (ix2 (n0 := 32) (n1 := 1) g 0) := by
    have e1 : (firstR g).toLoadRect.idx x = ix2 (n0 := 32) (n1 := 128) g 0 := by
      refine emb_eq (firstR g) x _ fun a => ?_
      match a with
      | ⟨0, _⟩ =>
        have h0 : (x 0).val < 1 := (x 0).isLt
        change g.val = g.val + 1 * (x 0).val
        omega
      | ⟨1, _⟩ =>
        have h0 : (x 1).val < 1 := (x 1).isLt
        change 0 = 0 + 1 * (x 1).val
        omega
    have e2 : firstColR.emb (ix2 (n0 := 32) (n1 := 1) g 0) = ix2 (n0 := 32) (n1 := 128) g 0 := by
      refine emb_eq firstColR _ _ fun a => ?_
      match a with
      | ⟨0, _⟩ => change g.val = 0 + 1 * g.val; omega
      | ⟨1, _⟩ => rfl
    rw [e1, e2]
  rw [e, put_emb]

/-- One element for each of a list of distinct places replaced by a function of what it was. -/
theorem foldl_update {ι β : Type} [DecidableEq ι] (f : ι → β → β) (l : List ι) (hl : l.Nodup) (r : ι → β) :
    l.foldl (fun r g => Function.update r g (f g (r g))) r = fun g => if g ∈ l then f g (r g) else r g := by
  induction l generalizing r with
  | nil => rfl
  | cons g gs ih =>
    rw [List.foldl_cons, ih (List.nodup_cons.mp hl).2]
    have hg := (List.nodup_cons.mp hl).1
    funext i
    by_cases hi : i = g
    · subst hi; simp [hg]
    · simp [hi, Function.update_of_ne hi]

theorem allBoxes_nodup : allBoxes.Nodup := by decide
theorem mem_allBoxes (g : Fin 32) : g ∈ allBoxes := by revert g; decide

theorem foldl_allBoxes {β : Type} (f : Fin 32 → β → β) (r : Fin 32 → β) :
    allBoxes.foldl (fun r g => Function.update r g (f g (r g))) r = fun g => f g (r g) := by
  rw [foldl_update f _ allBoxes_nodup]
  funext g; rw [if_pos (mem_allBoxes g)]

end Cert.Proof.KI
-- ==== Proof.Body.lean ====
/-
  What the body leaves in the two results: the values of its operations over the boxes, the anchors and the
  positions, with no scratch contents in them.
-/
module

public import proofs.«01_k».proof.Proof.Geometry

@[expose] public section

set_option maxRecDepth 16384

noncomputable section

namespace Cert.Proof.KI

open Cert.KernelIdeal
open Idealize.ShloMosaic Idealize.ShloMosaic.TcCoe Idealize.ShloMosaic.Tactic Idealize.ShloMosaic.ValueIdx
open Idealize.SL Idealize.SL.Sem
open Cert.KernelIdeal.Facts₀ Cert.KernelIdeal.Facts

variable {F : FTy → Type} [FloatOps F] [Facts]

/-! ## The values -/

/-- Box `g`'s coordinate `j`. -/
abbrev box (a0 : Vec F S32x4 .f32) (g : Fin 32) (j : Fin 4) : F .f32 := a0 (ix2 (n0 := 32) (n1 := 4) g j)

/-- Chunk `k`'s anchors. -/
def anchors (a1 : Vec F S8x288x128 .f32) (k : Fin 36) : Anchors F :=
  ⟨chunkPlane a1 0 k, chunkPlane a1 1 k, chunkPlane a1 2 k, chunkPlane a1 3 k, chunkPlane a1 6 k,
    cmpf .one (chunkPlane a1 7 k : FVec F S8x128 .f32) (broadcast S8x128 (Scalar.ofBits .f32 0x00000000#32)),
    addi chunkBase (broadcast S8x128 (Scalar.muli (Scf.iv 0#32 1#32 k.val) 1024#32))⟩

/-- The overlap of some anchors with box `g`. -/
abbrev ovBox (A : Anchors F) (a0 : Vec F S32x4 .f32) (g : Fin 32) : FVec F S8x128 .f32 :=
  overlap A (box a0 g 0) (box a0 g 1) (box a0 g 2) (box a0 g 3)

/-- The best box of some anchors. -/
def bests (A : Anchors F) (a0 : Vec F S32x4 .f32) : Best F :=
  restBoxes.foldl (fun b g => bestNext b (ovBox A a0 g) (box a0 g 0) (box a0 g 1) (box a0 g 2) (box a0 g 3))
    (bestFirst (ovBox A a0 0) (box a0 0 0) (box a0 0 1) (box a0 0 2) (box a0 0 3))

/-- One trip's update of a box's accumulators. -/
def upd (A : Anchors F) (o : FVec F S8x128 .f32) (r : FVec F S8x128 .f32 × IVec S8x128 32) : FVec F S8x128 .f32 × IVec S8x128 32 :=
  (select (cmpf .ogt (masked A o) r.1) (masked A o) r.1, select (cmpf .ogt (masked A o) r.1) A.lin r.2)

/-- A box's accumulators after `k` trips. -/
def accs (a0 : Vec F S32x4 .f32) (a1 : Vec F S8x288x128 .f32) (g : Fin 32) : Nat → FVec F S8x128 .f32 × IVec S8x128 32
  | 0 => (broadcast S8x128 (Scalar.ofBits (F := F) .f32 0xFF800000#32), broadcast S8x128 (0#32 : BitVec 32))
  | k + 1 => if h : k < 36 then upd (anchors a1 ⟨k, h⟩) (ovBox (anchors a1 ⟨k, h⟩) a0 g) (accs a0 a1 g k) else accs a0 a1 g k

/-- The columns' maxima, -/
def maxes (a0 : Vec F S32x4 .f32) (a1 : Vec F S8x288x128 .f32) : Vec F S32x128 .f32 :=
  packR (n0 := 32) (n1 := 128) fun g => colMax (unit1 (n1 := 8) (n2 := 128) (accs a0 a1 g 36).1)
/-- and where they are attained. -/
def argmaxes (a0 : Vec F S32x4 .f32) (a1 : Vec F S8x288x128 .f32) : Vec F S32x128 .i32 :=
  packR (n0 := 32) (n1 := 128) fun g => colIdx (F := F) (unit1 (n1 := 8) (n2 := 128) (accs a0 a1 g 36).1) (unit1 (n1 := 8) (n2 := 128) (accs a0 a1 g 36).2)

/-- Box `g`'s best anchor. -/
def bestAnchor (a0 : Vec F S32x4 .f32) (a1 : Vec F S8x288x128 .f32) (g : Fin 32) : BitVec 32 :=
  rowIdx (maxes a0 a1) (argmaxes a0 a1) (ix2 (n0 := 32) (n1 := 1) g 0)

/-- Whether an anchor is some box's best. -/
def isBest (a0 : Vec F S32x4 .f32) (a1 : Vec F S8x288x128 .f32) : IVec S288x128 1 :=
  allBoxes.foldl (fun acc g => ori acc (cmpi .eq anchorNo (broadcast S288x128 (bestAnchor a0 a1 g)))) (broadcast S288x128 0#1)

/-- What the last part reads. -/
def readsOf (a0 : Vec F S32x4 .f32) (a1 : Vec F S8x288x128 .f32) (a2 : Vec F S2x288x128 .i32) : Reads F :=
  ⟨cmpf .one (planes (n0 := 8) (n1 := 288) (n2 := 128) a1 7 : FVec F S288x128 .f32) (broadcast S288x128 (Scalar.ofBits .f32 0x00000000#32)),
    planes (n0 := 8) (n1 := 288) (n2 := 128) a1 0, planes (n0 := 8) (n1 := 288) (n2 := 128) a1 1,
    planes (n0 := 8) (n1 := 288) (n2 := 128) a1 4, planes (n0 := 8) (n1 := 288) (n2 := 128) a1 5,
    packC fun k => (bests (anchors a1 k) a0).ov, packC fun k => (bests (anchors a1 k) a0).x,
    packC fun k => (bests (anchors a1 k) a0).y, packC fun k => (bests (anchors a1 k) a0).w,
    packC fun k => (bests (anchors a1 k) a0).h,
    planes (n0 := 2) (n1 := 288) (n2 := 128) a2 0, planes (n0 := 2) (n1 := 288) (n2 := 128) a2 1⟩

/-- The search after `n` steps. -/
def searchAt (R : Reads F) (lab : IVec S288x128 32) : Nat → BitVec 32 × BitVec 32 × BitVec 32 × BitVec 32
  | 0 => (4294967295#32, 36863#32, 4294967295#32, 36863#32)
  | n + 1 => searchStep (isLabel lab 0#32) (isLabel lab 1#32) R.pbg R.pfg (quotaBg lab) (quotaFg lab) (searchAt R lab n)

/-- The labels, of what was read and whether an anchor is some box's best, -/
def finalLabel (R : Reads F) (isgt : IVec S288x128 1) : IVec S288x128 32 := labelOf R (R.lab isgt) (searchAt R (R.lab isgt) 16)

/-- and the targets. -/
def finalTarget (R : Reads F) (lab : IVec S288x128 32) : Fin 4 → FVec F S288x128 .f32
  | ⟨0, _⟩ => maskedTarget (isLabel lab 1#32) (divf (subf R.x R.ax) R.aw)
  | ⟨1, _⟩ => maskedTarget (isLabel lab 1#32) (divf (subf R.y R.ay) R.ah)
  | ⟨2, _⟩ => maskedTarget (isLabel lab 1#32) (log (divf R.w R.aw))
  | ⟨3, _⟩ => maskedTarget (isLabel lab 1#32) (log (divf R.h R.ah))

/-- What the body leaves in the labels' array, -/
def labels (a0 : Vec F S32x4 .f32) (a1 : Vec F S8x288x128 .f32) (a2 : Vec F S2x288x128 .i32) : Vec F S288x128 .i32 :=
  finalLabel (readsOf a0 a1 a2) (isBest a0 a1)

/-- and in the targets'. -/
def targets (a0 : Vec F S32x4 .f32) (a1 : Vec F S8x288x128 .f32) (a2 : Vec F S2x288x128 .i32) : Vec F S4x288x128 .f32 :=
  pack (n0 := 4) (n1 := 288) (n2 := 128) (finalTarget (readsOf a0 a1 a2) (labels a0 a1 a2))

/-! ## Rules for lists of boxes -/

theorem Runs.eachBox {ρ : Type} {M : Mems} {f : Fin 32 → P F PUnit} (S : ρ → St F) (T : Fin 32 → ρ → ρ)
    (h : ∀ g r, Runs M (f g) (S r) ⟨⟩ (S (T g r))) (l : List (Fin 32)) (r : ρ) :
    Runs M (eachBox f l) (S r) ⟨⟩ (S (l.foldl (fun r g => T g r) r)) := by
  induction l generalizing r with
  | nil => exact Runs.ret _ _ _
  | cons g gs ih => exact Runs.bind (h g r) (ih _)

theorem Runs.foldBox {σ ρ : Type} {M : Mems} {f : Fin 32 → σ → P F σ} (S : ρ → St F) (T : Fin 32 → ρ → ρ) (V : Fin 32 → σ → σ)
    (h : ∀ g b r, Runs M (f g b) (S r) (V g b) (S (T g r))) (l : List (Fin 32)) (b : σ) (r : ρ) :
    Runs M (foldBox f l b) (S r) (l.foldl (fun b g => V g b) b) (S (l.foldl (fun r g => T g r) r)) := by
  induction l generalizing b r with
  | nil => exact Runs.ret _ _ _
  | cons g gs ih => exact Runs.bind (h g b r) (ih _ _)

theorem fst_update {ι β γ : Type} [DecidableEq ι] (r : ι → β × γ) (g : ι) (v : β × γ) :
    (fun i => (Function.update r g v i).1) = Function.update (fun i => (r i).1) g v.1 := by
  funext i; by_cases h : i = g
  · subst h; simp
  · simp [Function.update_of_ne h]

theorem snd_update {ι β γ : Type} [DecidableEq ι] (r : ι → β × γ) (g : ι) (v : β × γ) :
    (fun i => (Function.update r g v i).2) = Function.update (fun i => (r i).2) g v.2 := by
  funext i; by_cases h : i = g
  · subst h; simp
  · simp [Function.update_of_ne h]

/-- The contents with the accumulators at `r`. -/
def withAcc (s : St F) (r : Fin 32 → FVec F S8x128 .f32 × IVec S8x128 32) : St F :=
  { s with a10 := pack (n0 := 32) (n1 := 8) (n2 := 128) fun g => (r g).1, a11 := pack (n0 := 32) (n1 := 8) (n2 := 128) fun g => (r g).2 }

theorem withAcc_planes (s : St F) :
    withAcc s (fun g => (planes (n0 := 32) (n1 := 8) (n2 := 128) s.a10 g, planes (n0 := 32) (n1 := 8) (n2 := 128) s.a11 g)) = s := by
  unfold withAcc
  have h1 := pack_planes (n0 := 32) (n1 := 8) (n2 := 128) s.a10
  have h2 := pack_planes (n0 := 32) (n1 := 8) (n2 := 128) s.a11
  dsimp only
  rw [show (fun g => planes (n0 := 32) (n1 := 8) (n2 := 128) s.a10 g) = planes s.a10 from rfl,
    show (fun g => planes (n0 := 32) (n1 := 8) (n2 := 128) s.a11 g) = planes s.a11 from rfl, h1, h2]

/-- Storing one box's two planes. -/
theorem withAcc_store (s : St F) (r : Fin 32 → FVec F S8x128 .f32 × IVec S8x128 32) (g : Fin 32)
    (v : FVec F S8x128 .f32 × IVec S8x128 32) (w1 : Vec F S1x8x128 .f32) (w2 : Vec F S1x8x128 .i32)
    (h1 : w1 = unit1 (n1 := 8) (n2 := 128) v.1) (h2 : w2 = unit1 (n1 := 8) (n2 := 128) v.2) :
    { withAcc s r with a10 := put (withAcc s r).a10 (rowR g) w1, a11 := put (withAcc s r).a11 (rowR g) w2 }
      = withAcc s (Function.update r g v) := by
  subst h1 h2
  have e1 := store_plane (n0 := 32) (n1 := 8) (n2 := 128) (fun g => (r g).1) g ![g.val, 0, 0] (inb10 g) rfl v.1
  have e2 := store_plane (n0 := 32) (n1 := 8) (n2 := 128) (fun g => (r g).2) g ![g.val, 0, 0] (inb10 g) rfl v.2
  unfold withAcc
  rw [fst_update, snd_update, ← e1, ← e2]

theorem load_acc (s : St F) (r : Fin 32 → FVec F S8x128 .f32 × IVec S8x128 32) (g : Fin 32) :
    (fun x => (withAcc s r).a10 ((rowR g).toLoadRect.idx x)) = unit1 (n1 := 8) (n2 := 128) (r g).1 :=
  load_plane (n0 := 32) (n1 := 8) (n2 := 128) (fun g => (r g).1) g ![g.val, 0, 0] (inb10 g) rfl

theorem load_idx (s : St F) (r : Fin 32 → FVec F S8x128 .f32 × IVec S8x128 32) (g : Fin 32) :
    (fun x => (withAcc s r).a11 ((rowR g).toLoadRect.idx x)) = unit1 (n1 := 8) (n2 := 128) (r g).2 :=
  load_plane (n0 := 32) (n1 := 8) (n2 := 128) (fun g => (r g).2) g ![g.val, 0, 0] (inb10 g) rfl

theorem Runs.initStep (M : Mems) (s : St F) (g : Fin 32) (r : Fin 32 → FVec F S8x128 .f32 × IVec S8x128 32) :
    Runs M (initStep M g) (withAcc s r) ⟨⟩ (withAcc s (Function.update r g
      (broadcast S8x128 (Scalar.ofBits (F := F) .f32 0xFF800000#32), broadcast S8x128 (0#32 : BitVec 32)))) := by
  refine Runs.congr (Runs.bind (Runs.load slot10 (fun _ => rfl) M _ _ _) <| Runs.bind (Runs.store slot10 M _ _ _ _ _) <|
    Runs.bind (Runs.load slot11 (fun _ => rfl) M _ _ _) <| Runs.store slot11 M _ _ _ _ _) rfl ?_
  exact withAcc_store s r g _ _ _ (shapeCast_to_unit1 (n1 := 8) (n2 := 128) _ _) (shapeCast_to_unit1 (n1 := 8) (n2 := 128) _ _)

theorem Runs.smem (M : Mems) (s : St F) (g : Fin 32) (j : Fin 4) :
    Runs M (smemLoad M.m0 (boxR g j) numel1_S1x1 rfl) s (box s.a0 g j) s := by
  refine Runs.congr (Runs.bind (Runs.load slot0 (fun _ => rfl) M _ (boxR g j).toLoadRect
    (View.loadsAt_rect (View.loads_smem_one rfl numel1_S1x1))) (Runs.ret M _ _)) ?_ rfl
  exact load_box s.a0 g j _

theorem Runs.boxStep (M : Mems) (s : St F) (A : Anchors F) (g : Fin 32)
    (u : FVec F S8x128 .f32 → F .f32 → F .f32 → F .f32 → F .f32 → Best F) (r : Fin 32 → FVec F S8x128 .f32 × IVec S8x128 32) :
    Runs M (boxStep M A g u) (withAcc s r) (u (ovBox A s.a0 g) (box s.a0 g 0) (box s.a0 g 1) (box s.a0 g 2) (box s.a0 g 3))
      (withAcc s (Function.update r g (upd A (ovBox A s.a0 g) (r g)))) := by
  refine Runs.bind (Runs.smem M _ g 0) <| Runs.bind (Runs.smem M _ g 1) <| Runs.bind (Runs.smem M _ g 2) <|
    Runs.bind (Runs.smem M _ g 3) <| ?_
  refine Runs.congr (Runs.bind (Runs.load slot10 (fun _ => rfl) M _ _ _) <| Runs.bind (Runs.load slot10 (fun _ => rfl) M _ _ _) <|
    Runs.bind (Runs.store slot10 M _ _ _ _ _) <|
    Runs.bind (Runs.load slot11 (fun _ => rfl) M _ _ _) <| Runs.bind (Runs.load slot11 (fun _ => rfl) M _ _ _) <|
    Runs.bind (Runs.store slot11 M _ _ _ _ _) <| Runs.ret M _ _) rfl ?_
  refine withAcc_store s r g (upd A (ovBox A s.a0 g) (r g)) _ _ ?_ ?_
  · rw [load_acc, shapeCast_of_unit1 (n1 := 8) (n2 := 128), shapeCast_to_unit1 (n1 := 8) (n2 := 128)]
    rfl
  · rw [load_acc, shapeCast_of_unit1 (n1 := 8) (n2 := 128), shapeCast_to_unit1 (n1 := 8) (n2 := 128)]
    refine congrArg (unit1 (n1 := 8) (n2 := 128)) ?_
    exact congrArg (select _ _) ((congrArg (fun v => shapeCast S8x128 v shapeCasts_S1x8x128_S8x128) (load_idx s r g)).trans
      (shapeCast_of_unit1 (n1 := 8) (n2 := 128) _ _))

end Cert.Proof.KI
-- ==== Proof.UniformEq.lean ====
/-
  The printed body is the body over a symbolic box. The two loops do not compute, so the text's own grouping
  around them is followed first, and the grouping is then undone by associativity.
-/
module

public import proofs.«01_k».proof.Proof.Uniform
public import Idealize.ShloMosaic.Lib.Exec

@[expose] public section

set_option maxRecDepth 65536

noncomputable section

namespace Cert.Proof.KI

open Cert.KernelIdeal
open Idealize.ShloMosaic Idealize.ShloMosaic.TcCoe Idealize.ShloMosaic.Tactic
open Idealize.SL Idealize.SL.Sem
open Cert.KernelIdeal.Facts₀ Cert.KernelIdeal.Facts

variable {F : FTy → Type} [FloatOps F] [Facts]

/-- The first box's column maximum and where it is attained: what stands before the cut. -/
def cut1 (M : Mems) : P F (Σ' (_ : FVec F S1x128 .f32), IVec S8x128 1) := do
  let a : Vec F S1x8x128 .f32 ← Prog.lift (.load M.m10 (rowR 0).toLoadRect (View.loadsAt_vmem h_S1x8x128))
  pure ⟨colMax a, cmpf .oeq (shapeCast S8x128 a shapeCasts_S1x8x128_S8x128 : FVec F S8x128 .f32)
        (broadcastTo S8x128 (colMax a) broadcasts_S1x128_S8x128)⟩

/-- The rest of the first box's column step. -/
def cut2 (M : Mems) (v : Σ' (_ : FVec F S1x128 .f32), IVec S8x128 1) : P F PUnit := do
  let i : Vec F S1x8x128 .i32 ← Prog.lift (.load M.m11 (rowR 0).toLoadRect (View.loadsAt_vmem h_S1x8x128))
  let _ : Vec F S1x128 .f32 ← Prog.lift (.load M.m12 (colR 0).toLoadRect (View.loadsAt_vmem h_S1x128))
  Prog.lift (.store M.m12 (colR 0) (shapeCast S1x128 v.1 shapeCasts_S1x128_S1x128) Finset.univ (View.stores_vmem_bits_univ h_S1x128 rfl) (.inl rfl))
  let _ : Vec F S1x128 .i32 ← Prog.lift (.load M.m13 (colR 0).toLoadRect (View.loadsAt_vmem h_S1x128))
  Prog.lift (.store M.m13 (colR 0) (shapeCast S1x128 (shapeCast S1x128 (multiReductionI .minsi [0] S128
    (select v.2 (shapeCast S8x128 i shapeCasts_S1x8x128_S8x128 : IVec S8x128 32) (broadcast S8x128 36864#32))
    2147483647#32 reduces_S8x128_S128 rfl) shapeCasts_S128_S1x128 : IVec S1x128 32) shapeCasts_S1x128_S1x128) Finset.univ (View.stores_vmem_bits_univ h_S1x128 rfl) (.inl rfl))

set_option maxHeartbeats 4000000 in
/-- The printed body with its own grouping. -/
theorem kernel_grouped (M : Mems) : (kernelOf M : P F PUnit) =
    ((((eachBox (initStep M) allBoxes >>= fun _ => chunks M >>= fun _ => cut1 M) >>= fun v => do
        cut2 M v
        eachBox (colStep M) restBoxes
        rowStep M
        let isgt ← foldBox (memberStep M) allBoxes (broadcast S288x128 0#1)
        let R ← loadReads M
        ((search R (R.lab isgt) >>= fun r => store1 M R (labelOf R (R.lab isgt) r) >>= fun _ =>
          pure ⟨isLabel (labelOf R (R.lab isgt) r) 1#32,
            maskedTarget (isLabel (labelOf R (R.lab isgt) r) 1#32) (divf (subf R.y R.ay) R.ah)⟩)
          >>= fun (v : Σ' (_ : IVec S288x128 1), FVec F S288x128 .f32) => do
            storePlane M 1 inb_S4x288x128_S1x288x128_1_0_0 v.2
            storePlane M 2 inb_S4x288x128_S1x288x128_2_0_0 (maskedTarget v.1 (log (divf R.w R.aw)))
            pure (maskedTarget v.1 (log (divf R.h R.ah)))))
      >>= fun v => storePlane M 3 inb_S4x288x128_S1x288x128_3_0_0 v)) := by
  sl_kernel_rfl

/-- The printed body is the body over a symbolic box. -/
theorem kernel_eq (M : Mems) : (kernelOf M : P F PUnit) = bodyU M := by
  rw [kernel_grouped]
  simp only [bind_assoc]
  sl_kernel_rfl

end Cert.Proof.KI
-- ==== Proof.BodyRun.lean ====
/-
  The body's run: the loop over the chunks, the columns, the membership, the search and the stores, each with
  its contents in closed form.
-/
module

public import proofs.«01_k».proof.Proof.Body
public import proofs.«01_k».proof.Proof.UniformEq

@[expose] public section

set_option maxRecDepth 16384

noncomputable section

namespace Cert.Proof.KI

open Cert.KernelIdeal
open Idealize.ShloMosaic Idealize.ShloMosaic.TcCoe Idealize.ShloMosaic.Tactic Idealize.ShloMosaic.ValueIdx
open Idealize.SL Idealize.SL.Sem
open Cert.KernelIdeal.Facts₀ Cert.KernelIdeal.Facts

variable {F : FTy → Type} [FloatOps F] [Facts]

theorem off1 (k : Fin k0_t1_loop.trips) : k0_off1 k = ![0, 8 * k.val, 0] := by revert k; decide
theorem off2 (k : Fin k0_t1_loop.trips) : k0_off2 k = ![1, 8 * k.val, 0] := by revert k; decide
theorem off3 (k : Fin k0_t1_loop.trips) : k0_off3 k = ![2, 8 * k.val, 0] := by revert k; decide
theorem off4 (k : Fin k0_t1_loop.trips) : k0_off4 k = ![3, 8 * k.val, 0] := by revert k; decide
theorem off5 (k : Fin k0_t1_loop.trips) : k0_off5 k = ![6, 8 * k.val, 0] := by revert k; decide
theorem off6 (k : Fin k0_t1_loop.trips) : k0_off6 k = ![7, 8 * k.val, 0] := by revert k; decide

theorem trips1 : k0_t1_loop.trips = 36 := by decide
theorem trips2 : k0_t2_loop.trips = 16 := by decide

theorem lt36 (k : Fin k0_t1_loop.trips) : k.val < 36 := lt_of_lt_of_eq k.isLt trips1

theorem Runs.loadAnchors (M : Mems) (s : St F) (k : Fin k0_t1_loop.trips) :
    Runs M (loadAnchors M k) s (anchors s.a1 ⟨k.val, lt36 k⟩) s := by
  refine Runs.congr (Runs.bind (Runs.load slot1 (fun _ => rfl) M _ _ _) <| Runs.bind (Runs.load slot1 (fun _ => rfl) M _ _ _) <|
    Runs.bind (Runs.load slot1 (fun _ => rfl) M _ _ _) <| Runs.bind (Runs.load slot1 (fun _ => rfl) M _ _ _) <|
    Runs.bind (Runs.load slot1 (fun _ => rfl) M _ _ _) <| Runs.bind (Runs.load slot1 (fun _ => rfl) M _ _ _) <|
    Runs.ret M _ _) ?_ rfl
  have h1 := load_chunkPlane s.a1 0 ⟨k.val, lt36 k⟩ (k0_off1 k) (k0_off1_inb k) (off1 k)
  have h2 := load_chunkPlane s.a1 1 ⟨k.val, lt36 k⟩ (k0_off2 k) (k0_off2_inb k) (off2 k)
  have h3 := load_chunkPlane s.a1 2 ⟨k.val, lt36 k⟩ (k0_off3 k) (k0_off3_inb k) (off3 k)
  have h4 := load_chunkPlane s.a1 3 ⟨k.val, lt36 k⟩ (k0_off4 k) (k0_off4_inb k) (off4 k)
  have h5 := load_chunkPlane s.a1 6 ⟨k.val, lt36 k⟩ (k0_off5 k) (k0_off5_inb k) (off5 k)
  have h6 := load_chunkPlane s.a1 7 ⟨k.val, lt36 k⟩ (k0_off6 k) (k0_off6_inb k) (off6 k)
  rw [h1, h2, h3, h4, h5, h6]
  simp only [shapeCast_of_unit1 (n1 := 8) (n2 := 128)]
  rfl

/-- The best-so-far arrays with `B` in the first `n` chunks and `s`'s in the others. -/
def filled (B : Fin 36 → Vec F S8x128 .f32) (X : Vec F S288x128 .f32) (n : Nat) : Vec F S288x128 .f32 :=
  packC fun c => if c.val < n then B c else chunksOf X c

theorem filled_zero (B : Fin 36 → Vec F S8x128 .f32) (X : Vec F S288x128 .f32) : filled B X 0 = X := by
  unfold filled; simp only [Nat.not_lt_zero, if_false]; exact packC_chunksOf X

theorem filled_all (B : Fin 36 → Vec F S8x128 .f32) (X : Vec F S288x128 .f32) : filled B X 36 = packC B := by
  unfold filled; congr 1; funext c; rw [if_pos c.isLt]

theorem filled_succ (B : Fin 36 → Vec F S8x128 .f32) (X : Vec F S288x128 .f32) (k : Fin k0_t1_loop.trips) (v : Vec F S8x128 .f32)
    (hv : v = B ⟨k.val, lt36 k⟩) (h : S8x128.ShapeCasts S8x128) :
    put (filled B X k.val) (chunkR k) (shapeCast S8x128 v h) = filled B X (k.val + 1) := by
  subst hv
  rw [shapeCast_same]
  unfold filled
  rw [store_chunk _ k (lt36 k)]
  congr 1
  funext c
  by_cases hc : c = ⟨k.val, lt36 k⟩
  · subst hc; rw [Function.update_self, if_pos (Nat.lt_succ_self _)]
  · rw [Function.update_of_ne hc]
    have : c.val ≠ k.val := fun h => hc (Fin.ext h)
    by_cases h1 : c.val < k.val
    · rw [if_pos h1, if_pos (by omega)]
    · rw [if_neg h1, if_neg (by omega)]

/-- The contents after `k` trips. -/
def loopSt (s : St F) (k : Nat) : St F :=
  withAcc { s with
    a5 := filled (fun c => (bests (anchors s.a1 c) s.a0).ov) s.a5 k
    a6 := filled (fun c => (bests (anchors s.a1 c) s.a0).x) s.a6 k
    a7 := filled (fun c => (bests (anchors s.a1 c) s.a0).y) s.a7 k
    a8 := filled (fun c => (bests (anchors s.a1 c) s.a0).w) s.a8 k
    a9 := filled (fun c => (bests (anchors s.a1 c) s.a0).h) s.a9 k } fun g => accs s.a0 s.a1 g k

theorem loopSt_eq (s : St F) (n : Nat) {b5 b6 b7 b8 b9 : Vec F S288x128 .f32} {r : Fin 32 → FVec F S8x128 .f32 × IVec S8x128 32}
    (h5 : b5 = filled (fun c => (bests (anchors s.a1 c) s.a0).ov) s.a5 n)
    (h6 : b6 = filled (fun c => (bests (anchors s.a1 c) s.a0).x) s.a6 n)
    (h7 : b7 = filled (fun c => (bests (anchors s.a1 c) s.a0).y) s.a7 n)
    (h8 : b8 = filled (fun c => (bests (anchors s.a1 c) s.a0).w) s.a8 n)
    (h9 : b9 = filled (fun c => (bests (anchors s.a1 c) s.a0).h) s.a9 n)
    (hr : r = fun g => accs s.a0 s.a1 g n) :
    loopSt s n = withAcc { s with a5 := b5, a6 := b6, a7 := b7, a8 := b8, a9 := b9 } r := by
  subst h5 h6 h7 h8 h9 hr; rfl

theorem accs_succ (a0 : Vec F S32x4 .f32) (a1 : Vec F S8x288x128 .f32) (g : Fin 32) (k : Nat) (h : k < 36) :
    accs a0 a1 g (k + 1) = upd (anchors a1 ⟨k, h⟩) (ovBox (anchors a1 ⟨k, h⟩) a0 g) (accs a0 a1 g k) := by
  rw [accs, dif_pos h]

theorem Runs.init (M : Mems) (s : St F) : Runs M (Cert.Proof.KI.eachBox (Cert.Proof.KI.initStep M) allBoxes) s ⟨⟩ (loopSt s 0) := by
  have h := Runs.eachBox (M := M) (withAcc s) _ (fun g r => Runs.initStep M s g r) allBoxes
    (fun g => (planes (n0 := 32) (n1 := 8) (n2 := 128) s.a10 g, planes (n0 := 32) (n1 := 8) (n2 := 128) s.a11 g))
  rw [withAcc_planes, foldl_allBoxes (fun _ _ => (broadcast S8x128 (Scalar.ofBits (F := F) .f32 0xFF800000#32), broadcast S8x128 (0#32 : BitVec 32)))] at h
  refine Runs.congr h rfl ?_
  unfold loopSt
  simp only [filled_zero]
  rfl

theorem Runs.storeChunk {m : Mems → Memref sig .tc .vmem S288x128 .f32} {get : St F → Vec F S288x128 .f32}
    {set : St F → Vec F S288x128 .f32 → St F} (hm : Slot m get set) (hset : ∀ s, set s (get s) = s) (M : Mems) (s : St F)
    (k : Fin k0_t1_loop.trips) (v : FVec F S8x128 .f32) :
    Runs M (storeChunk (m M) k v) s ⟨⟩ (set s (put (get s) (chunkR k) (shapeCast S8x128 v shapeCasts_S8x128_S8x128))) :=
  Runs.bind (Runs.load hm hset M _ _ _) (Runs.store hm M _ _ _ _ _)

theorem Runs.trip (M : Mems) (s : St F) (k : Fin k0_t1_loop.trips) :
    Runs M (tripU M k) (loopSt s k.val) ⟨⟩ (loopSt s (k.val + 1)) := by
  unfold tripU
  refine Runs.bind (Runs.loadAnchors M _ k) ?_
  refine Runs.bind (Runs.boxStep M _ _ 0 _ _) ?_
  refine Runs.bind (Runs.foldBox (withAcc _) _ _ (fun g b r => Runs.boxStep M _ _ g (bestNext b) r) restBoxes _ _) ?_
  refine Runs.congr (Runs.bind (Runs.storeChunk slot5 (fun _ => rfl) M _ k _) <| Runs.bind (Runs.storeChunk slot6 (fun _ => rfl) M _ k _) <|
    Runs.bind (Runs.storeChunk slot7 (fun _ => rfl) M _ k _) <| Runs.bind (Runs.storeChunk slot8 (fun _ => rfl) M _ k _) <|
    Runs.storeChunk slot9 (fun _ => rfl) M _ k _) rfl ?_
  have e := foldl_allBoxes (fun g r => upd (anchors s.a1 ⟨k.val, lt36 k⟩) (ovBox (anchors s.a1 ⟨k.val, lt36 k⟩) s.a0 g) r)
    (fun g => accs s.a0 s.a1 g k.val)
  have e' : (fun g => upd (anchors s.a1 ⟨k.val, lt36 k⟩) (ovBox (anchors s.a1 ⟨k.val, lt36 k⟩) s.a0 g) (accs s.a0 s.a1 g k.val))
      = fun g => accs s.a0 s.a1 g (k.val + 1) := funext fun g => (accs_succ _ _ _ _ (lt36 k)).symm
  rw [e'] at e
  have f5 := filled_succ (fun c => (bests (anchors s.a1 c) s.a0).ov) s.a5 k (bests (anchors s.a1 ⟨k.val, lt36 k⟩) s.a0).ov rfl shapeCasts_S8x128_S8x128
  have f6 := filled_succ (fun c => (bests (anchors s.a1 c) s.a0).x) s.a6 k (bests (anchors s.a1 ⟨k.val, lt36 k⟩) s.a0).x rfl shapeCasts_S8x128_S8x128
  have f7 := filled_succ (fun c => (bests (anchors s.a1 c) s.a0).y) s.a7 k (bests (anchors s.a1 ⟨k.val, lt36 k⟩) s.a0).y rfl shapeCasts_S8x128_S8x128
  have f8 := filled_succ (fun c => (bests (anchors s.a1 c) s.a0).w) s.a8 k (bests (anchors s.a1 ⟨k.val, lt36 k⟩) s.a0).w rfl shapeCasts_S8x128_S8x128
  have f9 := filled_succ (fun c => (bests (anchors s.a1 c) s.a0).h) s.a9 k (bests (anchors s.a1 ⟨k.val, lt36 k⟩) s.a0).h rfl shapeCasts_S8x128_S8x128
  refine Eq.trans ?_ (loopSt_eq s (k.val + 1) f5 f6 f7 f8 f9 e).symm
  rfl

theorem Runs.chunks (M : Mems) (s : St F) : Runs M (chunks M) (loopSt s 0) ⟨⟩ (loopSt s 36) := by
  have h := Runs.for (M := M) k0_t1_loop k0_t1_ok (fun k _ => tripU (F := F) M k) (fun _ => ⟨⟩) (loopSt s) (fun k => Runs.trip M s k)
  exact Runs.congr h rfl (congrArg (loopSt s) trips1)

end Cert.Proof.KI
-- ==== Proof.BodyTail.lean ====
/-
  The body's run after the loop over the chunks, and the whole body's run.
-/
module

public import proofs.«01_k».proof.Proof.BodyRun

@[expose] public section

set_option maxRecDepth 16384

noncomputable section

namespace Cert.Proof.KI

open Cert.KernelIdeal
open Idealize.ShloMosaic Idealize.ShloMosaic.TcCoe Idealize.ShloMosaic.Tactic Idealize.ShloMosaic.ValueIdx
open Idealize.SL Idealize.SL.Sem
open Cert.KernelIdeal.Facts₀ Cert.KernelIdeal.Facts

variable {F : FTy → Type} [FloatOps F] [Facts]

/-- The contents with the column accumulators at `r`. -/
def withCol (s : St F) (r : Fin 32 → FVec F S1x128 .f32 × IVec S1x128 32) : St F :=
  { s with a12 := packR (n0 := 32) (n1 := 128) fun g => (r g).1, a13 := packR (n0 := 32) (n1 := 128) fun g => (r g).2 }

theorem withCol_rows (s : St F) :
    withCol s (fun g => (rows (n0 := 32) (n1 := 128) s.a12 g, rows (n0 := 32) (n1 := 128) s.a13 g)) = s := by
  unfold withCol
  have h1 := packR_rows (n0 := 32) (n1 := 128) s.a12
  have h2 := packR_rows (n0 := 32) (n1 := 128) s.a13
  dsimp only
  rw [show (fun g => rows (n0 := 32) (n1 := 128) s.a12 g) = rows s.a12 from rfl,
    show (fun g => rows (n0 := 32) (n1 := 128) s.a13 g) = rows s.a13 from rfl, h1, h2]

theorem withCol_store (s : St F) (r : Fin 32 → FVec F S1x128 .f32 × IVec S1x128 32) (g : Fin 32)
    (v : FVec F S1x128 .f32 × IVec S1x128 32) (w1 : Vec F S1x128 .f32) (w2 : Vec F S1x128 .i32) (h1 : w1 = v.1) (h2 : w2 = v.2) :
    { withCol s r with a12 := put (withCol s r).a12 (colR g) w1, a13 := put (withCol s r).a13 (colR g) w2 }
      = withCol s (Function.update r g v) := by
  subst h1 h2
  have e1 := store_row (n0 := 32) (n1 := 128) (fun g => (r g).1) g (inb12 g) v.1
  have e2 := store_row (n0 := 32) (n1 := 128) (fun g => (r g).2) g (inb12 g) v.2
  unfold withCol
  rw [fst_update, snd_update, ← e1, ← e2]

theorem Runs.colStep (M : Mems) (s : St F) (q : Fin 32 → FVec F S8x128 .f32 × IVec S8x128 32) (g : Fin 32)
    (r : Fin 32 → FVec F S1x128 .f32 × IVec S1x128 32) :
    Runs M (colStep M g) (withCol (withAcc s q) r) ⟨⟩ (withCol (withAcc s q) (Function.update r g
      (colMax (unit1 (n1 := 8) (n2 := 128) (q g).1), colIdx (F := F) (unit1 (n1 := 8) (n2 := 128) (q g).1) (unit1 (n1 := 8) (n2 := 128) (q g).2)))) := by
  refine Runs.congr (Runs.bind (Runs.load slot10 (fun _ => rfl) M _ _ _) <| Runs.bind (Runs.load slot11 (fun _ => rfl) M _ _ _) <|
    Runs.bind (Runs.load slot12 (fun _ => rfl) M _ _ _) <| Runs.bind (Runs.store slot12 M _ _ _ _ _) <|
    Runs.bind (Runs.load slot13 (fun _ => rfl) M _ _ _) <| Runs.store slot13 M _ _ _ _ _) rfl ?_
  refine withCol_store (withAcc s q) r g (colMax _, colIdx _ _) _ _ ?_ ?_
  · rw [shapeCast_same]
    exact congrArg colMax (load_acc s q g)
  · rw [shapeCast_same]
    exact congrArg₂ colIdx (load_acc s q g) (load_idx s q g)

theorem Runs.cols (M : Mems) (s : St F) (q : Fin 32 → FVec F S8x128 .f32 × IVec S8x128 32) :
    Runs M (Cert.Proof.KI.eachBox (Cert.Proof.KI.colStep M) allBoxes) (withAcc s q) ⟨⟩ (withCol (withAcc s q) fun g =>
      (colMax (unit1 (n1 := 8) (n2 := 128) (q g).1), colIdx (F := F) (unit1 (n1 := 8) (n2 := 128) (q g).1) (unit1 (n1 := 8) (n2 := 128) (q g).2))) := by
  have h := Runs.eachBox (M := M) (withCol (withAcc s q)) _ (fun g r => Runs.colStep M s q g r) allBoxes
    (fun g => (rows (n0 := 32) (n1 := 128) (withAcc s q).a12 g, rows (n0 := 32) (n1 := 128) (withAcc s q).a13 g))
  rw [withCol_rows, foldl_allBoxes (fun g _ => (colMax (unit1 (n1 := 8) (n2 := 128) (q g).1), colIdx (F := F) (unit1 (n1 := 8) (n2 := 128) (q g).1) (unit1 (n1 := 8) (n2 := 128) (q g).2)))] at h
  exact h

theorem Runs.rowStep (M : Mems) (s : St F) :
    Runs M (rowStep M) s ⟨⟩ { s with a13 := put s.a13 firstColR (rowIdx s.a12 s.a13) } := by
  refine Runs.congr (Runs.bind (Runs.load slot12 (fun _ => rfl) M _ _ _) <| Runs.bind (Runs.load slot13 (fun _ => rfl) M _ _ _) <|
    Runs.bind (Runs.load slot13 (fun _ => rfl) M _ _ _) <| Runs.store slot13 M _ _ _ _ _) rfl ?_
  rw [load_whole12, load_whole12, shapeCast_same]

theorem Runs.memberStep (M : Mems) (s : St F) (X : Vec F S32x128 .i32) (w : IVec S32x1 32) (hs : s.a13 = put X firstColR w)
    (g : Fin 32) (acc : IVec S288x128 1) :
    Runs M (memberStep M g acc) s (ori acc (cmpi .eq anchorNo (broadcast S288x128 (w (ix2 (n0 := 32) (n1 := 1) g 0))))) s := by
  refine Runs.congr (Runs.bind (Runs.load slot13 (fun _ => rfl) M _ _ _) <| Runs.ret M _ _) ?_ rfl
  rw [hs]
  refine congrArg (fun b : BitVec 32 => ori acc (cmpi .eq anchorNo (broadcast S288x128 b))) ?_
  exact load_first X w g _

theorem Runs.members (M : Mems) (s : St F) (X : Vec F S32x128 .i32) (w : IVec S32x1 32) (hs : s.a13 = put X firstColR w)
    (acc : IVec S288x128 1) :
    Runs M (Cert.Proof.KI.foldBox (Cert.Proof.KI.memberStep M) allBoxes acc) s
      (allBoxes.foldl (fun acc g => ori acc (cmpi .eq anchorNo (broadcast S288x128 (w (ix2 (n0 := 32) (n1 := 1) g 0))))) acc) s :=
  Runs.foldBox (ρ := Unit) (fun _ => s) (fun _ r => r) _ (fun g b _ => Runs.memberStep M s X w hs g b) allBoxes acc ()

theorem Runs.loadPlane1 (M : Mems) (s : St F) (p : Fin 8)
    (h : ∀ a, (![p.val, 0, 0] : Fin 3 → Nat) a + S1x288x128.size a ≤ S8x288x128.size a) :
    Runs M (loadPlane1 M p.val h) s (planes (n0 := 8) (n1 := 288) (n2 := 128) s.a1 p) s := by
  refine Runs.congr (Runs.bind (Runs.load slot1 (fun _ => rfl) M _ _ _) <| Runs.ret M _ _) ?_ rfl
  have e := load_plane (n0 := 8) (n1 := 288) (n2 := 128) (planes (n0 := 8) (n1 := 288) (n2 := 128) s.a1) p _ h rfl
  rw [pack_planes] at e
  exact (congrArg (fun v => shapeCast S288x128 v shapeCasts_S1x288x128_S288x128) e).trans (shapeCast_of_unit1 (n1 := 288) (n2 := 128) _ _)

theorem Runs.loadPlane2 (M : Mems) (s : St F) (p : Fin 2)
    (h : ∀ a, (![p.val, 0, 0] : Fin 3 → Nat) a + S1x288x128.size a ≤ S2x288x128.size a) :
    Runs M (loadPlane2 M p.val h) s (planes (n0 := 2) (n1 := 288) (n2 := 128) s.a2 p) s := by
  refine Runs.congr (Runs.bind (Runs.load slot2 (fun _ => rfl) M _ _ _) <| Runs.ret M _ _) ?_ rfl
  have e := load_plane (n0 := 2) (n1 := 288) (n2 := 128) (planes (n0 := 2) (n1 := 288) (n2 := 128) s.a2) p _ h rfl
  rw [pack_planes] at e
  exact (congrArg (fun v => shapeCast S288x128 v shapeCasts_S1x288x128_S288x128) e).trans (shapeCast_of_unit1 (n1 := 288) (n2 := 128) _ _)

theorem Runs.loadWhole {m : Mems → Memref sig .tc .vmem S288x128 .f32} {get : St F → Vec F S288x128 .f32}
    {set : St F → Vec F S288x128 .f32 → St F} (hm : Slot m get set) (hset : ∀ s, set s (get s) = s) (M : Mems) (s : St F) :
    Runs M (loadWhole (m M)) s (get s) s :=
  Runs.congr (Runs.load hm hset M _ _ _) (load_whole (get s)) rfl

theorem Runs.loadReads (M : Mems) (s : St F)
    (h5 : s.a5 = packC fun k => (bests (anchors s.a1 k) s.a0).ov) (h6 : s.a6 = packC fun k => (bests (anchors s.a1 k) s.a0).x)
    (h7 : s.a7 = packC fun k => (bests (anchors s.a1 k) s.a0).y) (h8 : s.a8 = packC fun k => (bests (anchors s.a1 k) s.a0).w)
    (h9 : s.a9 = packC fun k => (bests (anchors s.a1 k) s.a0).h) :
    Runs M (loadReads M) s (readsOf s.a0 s.a1 s.a2) s := by
  refine Runs.congr (Runs.bind (Runs.loadPlane1 M s 7 _) <| Runs.bind (Runs.loadPlane1 M s 0 _) <| Runs.bind (Runs.loadPlane1 M s 1 _) <|
    Runs.bind (Runs.loadPlane1 M s 4 _) <| Runs.bind (Runs.loadPlane1 M s 5 _) <|
    Runs.bind (Runs.loadWhole slot5 (fun _ => rfl) M s) <| Runs.bind (Runs.loadWhole slot6 (fun _ => rfl) M s) <|
    Runs.bind (Runs.loadWhole slot7 (fun _ => rfl) M s) <| Runs.bind (Runs.loadWhole slot8 (fun _ => rfl) M s) <|
    Runs.bind (Runs.loadWhole slot9 (fun _ => rfl) M s) <| Runs.bind (Runs.loadPlane2 M s 0 _) <|
    Runs.bind (Runs.loadPlane2 M s 1 _) <| Runs.ret M _ _) ?_ rfl
  rw [h5, h6, h7, h8, h9]
  rfl

theorem Runs.search (M : Mems) (s : St F) (R : Reads F) (lab : IVec S288x128 32) :
    Runs M (search R lab) s (searchAt R lab 16) s := by
  have h := Runs.for (M := M) k0_t2_loop k0_t2_ok
    (fun _ r => (pure (searchStep (isLabel lab 0#32) (isLabel lab 1#32) R.pbg R.pfg (quotaBg lab) (quotaFg lab) r) : P F _))
    (searchAt R lab) (fun _ => s) (fun k => Runs.ret M s _)
  exact Runs.congr h (congrArg (searchAt R lab) trips2) rfl

/-- The contents with the results at labels `lab` and target planes `f`. -/
def withOut (s : St F) (lab : IVec S288x128 32) (f : Fin 4 → FVec F S288x128 .f32) : St F :=
  { s with a3 := lab, a4 := pack (n0 := 4) (n1 := 288) (n2 := 128) f }

theorem Runs.storePlane (M : Mems) (s : St F) (lab : IVec S288x128 32) (f : Fin 4 → FVec F S288x128 .f32) (p : Fin 4)
    (h : ∀ a, (![p.val, 0, 0] : Fin 3 → Nat) a + S1x288x128.size a ≤ S4x288x128.size a) (v : FVec F S288x128 .f32) :
    Runs M (storePlane M p.val h v) (withOut s lab f) ⟨⟩ (withOut s lab (Function.update f p v)) := by
  refine Runs.congr (Runs.bind (Runs.load slot4 (fun _ => rfl) M _ _ _) <| Runs.store slot4 M _ _ _ _ _) rfl ?_
  have e := store_plane (n0 := 4) (n1 := 288) (n2 := 128) f p _ h rfl v
  unfold withOut
  rw [← e]
  rw [shapeCast_to_unit1 (n1 := 288) (n2 := 128)]

theorem Runs.storeLabels (M : Mems) (s : St F) (lab : IVec S288x128 32) :
    Runs M (do
      let _ : Vec F S288x128 .i32 ← Prog.lift (.load M.m3 wholeR.toLoadRect (View.loadsAt_vmem h_S288x128))
      Prog.lift (.store M.m3 wholeR lab Finset.univ (View.stores_vmem_bits_univ h_S288x128 rfl) (.inl rfl)) : P F PUnit) s ⟨⟩
      (withOut s lab (planes (n0 := 4) (n1 := 288) (n2 := 128) s.a4)) := by
  refine Runs.congr (Runs.bind (Runs.load slot3 (fun _ => rfl) M _ _ _) <| Runs.store slot3 M _ _ _ _ _) rfl ?_
  unfold withOut
  rw [store_whole, pack_planes]

theorem Runs.stores (M : Mems) (s : St F) (R : Reads F) (lab : IVec S288x128 32) :
    Runs M (do store1 M R lab; store2 M R lab; store3 M R lab) s ⟨⟩ (withOut s lab (finalTarget R lab)) := by
  have h1 := Runs.storePlane M s lab (planes (n0 := 4) (n1 := 288) (n2 := 128) s.a4) 0 inb_S4x288x128_S1x288x128_0_0_0 (finalTarget R lab 0)
  have h2 (f) := Runs.storePlane M s lab f 1 inb_S4x288x128_S1x288x128_1_0_0 (finalTarget R lab 1)
  have h3 (f) := Runs.storePlane M s lab f 2 inb_S4x288x128_S1x288x128_2_0_0 (finalTarget R lab 2)
  have h4 (f) := Runs.storePlane M s lab f 3 inb_S4x288x128_S1x288x128_3_0_0 (finalTarget R lab 3)
  have h := Runs.bind (k := fun _ => _) (Runs.storeLabels M s lab)
    (Runs.bind (k := fun _ => _) h1 (Runs.bind (k := fun _ => _) (h2 _) (Runs.bind (k := fun _ => _) (h3 _) (h4 _))))
  refine Runs.congr (p := do store1 M R lab; store2 M R lab; store3 M R lab) h rfl (congrArg (withOut s lab) ?_)
  funext p
  match p with
  | ⟨0, _⟩ => rfl
  | ⟨1, _⟩ => rfl
  | ⟨2, _⟩ => rfl
  | ⟨3, _⟩ => rfl

/-- The contents after the columns and the row. -/
def tailSt (s : St F) (q : Fin 32 → FVec F S8x128 .f32 × IVec S8x128 32) : St F :=
  let t := withCol (withAcc s q) fun g =>
      (colMax (unit1 (n1 := 8) (n2 := 128) (q g).1), colIdx (F := F) (unit1 (n1 := 8) (n2 := 128) (q g).1) (unit1 (n1 := 8) (n2 := 128) (q g).2))
  { t with a13 := put t.a13 firstColR (rowIdx t.a12 t.a13) }

theorem Runs.tail (M : Mems) (s : St F) (h5 : s.a5 = packC fun k => (bests (anchors s.a1 k) s.a0).ov) (h6 : s.a6 = packC fun k => (bests (anchors s.a1 k) s.a0).x)
    (h7 : s.a7 = packC fun k => (bests (anchors s.a1 k) s.a0).y) (h8 : s.a8 = packC fun k => (bests (anchors s.a1 k) s.a0).w)
    (h9 : s.a9 = packC fun k => (bests (anchors s.a1 k) s.a0).h) :
    Runs M (do
        Cert.Proof.KI.eachBox (Cert.Proof.KI.colStep M) allBoxes
        Cert.Proof.KI.rowStep M
        let isgt ← Cert.Proof.KI.foldBox (Cert.Proof.KI.memberStep M) allBoxes (broadcast S288x128 0#1)
        let R ← Cert.Proof.KI.loadReads M
        let r ← Cert.Proof.KI.search R (R.lab isgt)
        store1 M R (labelOf R (R.lab isgt) r)
        store2 M R (labelOf R (R.lab isgt) r)
        store3 M R (labelOf R (R.lab isgt) r)) (withAcc s fun g => accs s.a0 s.a1 g 36) ⟨⟩
      { tailSt s (fun g => accs s.a0 s.a1 g 36) with a3 := labels s.a0 s.a1 s.a2, a4 := targets s.a0 s.a1 s.a2 } :=
  Runs.bind (Runs.cols M s _) <| Runs.bind (Runs.rowStep M _) <|
    Runs.bind (Runs.members M (tailSt s (fun g => accs s.a0 s.a1 g 36)) _ _ rfl _) <|
    Runs.bind (Runs.loadReads M (tailSt s (fun g => accs s.a0 s.a1 g 36)) h5 h6 h7 h8 h9) <|
    Runs.bind (Runs.search M _ _ _) <| Runs.stores M _ _ _

/-- The contents after the body. -/
def bodySt (s : St F) : St F :=
  { tailSt { s with
      a5 := filled (fun c => (bests (anchors s.a1 c) s.a0).ov) s.a5 36
      a6 := filled (fun c => (bests (anchors s.a1 c) s.a0).x) s.a6 36
      a7 := filled (fun c => (bests (anchors s.a1 c) s.a0).y) s.a7 36
      a8 := filled (fun c => (bests (anchors s.a1 c) s.a0).w) s.a8 36
      a9 := filled (fun c => (bests (anchors s.a1 c) s.a0).h) s.a9 36 } (fun g => accs s.a0 s.a1 g 36) with
    a3 := labels s.a0 s.a1 s.a2, a4 := targets s.a0 s.a1 s.a2 }

theorem Runs.body (M : Mems) (s : St F) : Runs M (bodyU M) s ⟨⟩ (bodySt s) :=
  Runs.bind (Runs.init M s) <| Runs.bind (Runs.chunks M s) <|
    Runs.tail M { s with
      a5 := filled (fun c => (bests (anchors s.a1 c) s.a0).ov) s.a5 36
      a6 := filled (fun c => (bests (anchors s.a1 c) s.a0).x) s.a6 36
      a7 := filled (fun c => (bests (anchors s.a1 c) s.a0).y) s.a7 36
      a8 := filled (fun c => (bests (anchors s.a1 c) s.a0).w) s.a8 36
      a9 := filled (fun c => (bests (anchors s.a1 c) s.a0).h) s.a9 36 }
      (filled_all (fun c => (bests (anchors s.a1 c) s.a0).ov) s.a5) (filled_all (fun c => (bests (anchors s.a1 c) s.a0).x) s.a6)
      (filled_all (fun c => (bests (anchors s.a1 c) s.a0).y) s.a7) (filled_all (fun c => (bests (anchors s.a1 c) s.a0).w) s.a8)
      (filled_all (fun c => (bests (anchors s.a1 c) s.a0).h) s.a9)

/-- The printed body's run: the inputs kept, the results at their values. -/
theorem Runs.kernel (M : Mems) (s : St F) : Runs M (kernelOf M) s ⟨⟩ (bodySt s) := by
  rw [kernel_eq]; exact Runs.body M s

end Cert.Proof.KI
-- ==== Proof.Launch.lean ====
/-
  The launch: the body's run gives the pipeline's proof data, and the pipeline's the run of @main.
-/
module

public import proofs.«01_k».proof.Proof.BodyTail
public import proofs.«01_k».proof.Proof.Gen.KernelIdeal.Frame
public import Idealize.ShloMosaic.Lib.Claim

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The memrefs the body is called with. -/
def mems (t : Fin cfg0.N) : Mems :=
  ⟨st0_0 t, hstage0_0 0, st0_1 t, hstage0_1 0, st0_2 t, hstage0_2 0, st0_3 t, hstage0_3 0, st0_4 t, hstage0_4 0,
    Memref.whole cc0_scratch0, Memref.isWhole_whole _, Memref.whole cc0_scratch1, Memref.isWhole_whole _,
    Memref.whole cc0_scratch2, Memref.isWhole_whole _, Memref.whole cc0_scratch3, Memref.isWhole_whole _,
    Memref.whole cc0_scratch4, Memref.isWhole_whole _, Memref.whole cc0_scratch5, Memref.isWhole_whole _,
    Memref.whole cc0_scratch6, Memref.isWhole_whole _, Memref.whole cc0_scratch7, Memref.isWhole_whole _,
    Memref.whole cc0_scratch8, Memref.isWhole_whole _⟩

/-- The pipeline's proof data: the inputs' blocks stay, the results' are the body's values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => labels (iblk m c 0 t) (iblk m c 1 t) (iblk m c 2 t)
    | ⟨4, _⟩ => targets (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = labels (iblk m c 0 t) (iblk m c 1 t) (iblk m c 2 t) := by dsimp only [dats]
theorem after0_4 (c : Dev nD) (t : Fin cfg0.N) :
    (dats m 0 c).after 4 t = targets (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The scratch buffers, each at some contents. -/
def scratch (c : Dev nD) : sProp 𝕄 :=
  iprop((∃ f, owns (c : Thread nD τ) (Memref.whole cc0_scratch0) fullShare f) ∗ (∃ f, owns (c : Thread nD τ) (Memref.whole cc0_scratch1) fullShare f)
    ∗ (∃ f, owns (c : Thread nD τ) (Memref.whole cc0_scratch2) fullShare f) ∗ (∃ f, owns (c : Thread nD τ) (Memref.whole cc0_scratch3) fullShare f)
    ∗ (∃ f, owns (c : Thread nD τ) (Memref.whole cc0_scratch4) fullShare f) ∗ (∃ f, owns (c : Thread nD τ) (Memref.whole cc0_scratch5) fullShare f)
    ∗ (∃ f, owns (c : Thread nD τ) (Memref.whole cc0_scratch6) fullShare f) ∗ (∃ f, owns (c : Thread nD τ) (Memref.whole cc0_scratch7) fullShare f)
    ∗ (∃ f, owns (c : Thread nD τ) (Memref.whole cc0_scratch8) fullShare f))

theorem Φ_eq (c : Dev nD) (t : Fin (cfg0.N + 1)) : (dats m 0 c).Φ t = iprop(scratch c ∗ ∃ r, prngReg c r) := by
  show Pipeline.ΦA spec0 c = _
  unfold Pipeline.ΦA scratch
  rw [scopedRest0_eq]
  simp only [owns_whole]

/-- One call of the body, on the staged blocks and the scratch buffers. -/
theorem body_triple (c : Dev nD) (t : Fin cfg0.N) (x0 : Vec F S32x4 .f32) (x1 : Vec F S8x288x128 .f32) (x2 : Vec F S2x288x128 .i32)
    (Q : PUnit → sProp 𝕄) :
    iprop(scratch (F := F) c ∗ owns (c : Thread nD τ) (mems t).m0 fullShare x0 ∗ owns (c : Thread nD τ) (mems t).m1 fullShare x1
        ∗ owns (c : Thread nD τ) (mems t).m2 fullShare x2 ∗ (∃ f, owns (c : Thread nD τ) (mems t).m3 fullShare f)
        ∗ (∃ f, owns (c : Thread nD τ) (mems t).m4 fullShare f)
        ∗ ((scratch (F := F) c ∗ owns (c : Thread nD τ) (mems t).m0 fullShare x0 ∗ owns (c : Thread nD τ) (mems t).m1 fullShare x1
            ∗ owns (c : Thread nD τ) (mems t).m2 fullShare x2 ∗ owns (c : Thread nD τ) (mems t).m3 fullShare (labels x0 x1 x2)
            ∗ owns (c : Thread nD τ) (mems t).m4 fullShare (targets x0 x1 x2)) -∗ Q ⟨⟩))
      ⊢ wp frame (wpE (defs₀ (F := F)) 𝒱₀ (c : Thread nD τ) none) Set.univ (kernelOf (mems t)) Q := by
  unfold scratch
  iintro ⟨⟨⟨%f5, H5⟩, ⟨%f6, H6⟩, ⟨%f7, H7⟩, ⟨%f8, H8⟩, ⟨%f9, H9⟩, ⟨%f10, H10⟩, ⟨%f11, H11⟩, ⟨%f12, H12⟩, ⟨%f13, H13⟩⟩,
    H0, H1, H2, ⟨%f3, H3⟩, ⟨%f4, H4⟩, HQ⟩
  iapply (Runs.kernel (mems t) ⟨x0, x1, x2, f3, f4, f5, f6, f7, f8, f9, f10, f11, f12, f13⟩ c Q)
  isplitl [H0 H1 H2 H3 H4 H5 H6 H7 H8 H9 H10 H11 H12 H13]
  · unfold Own
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro H
  unfold Own
  icases H with ⟨H0, H1, H2, H3, H4, H5, H6, H7, H8, H9, H10, H11, H12, H13⟩
  iapply HQ
  isplitl [H5 H6 H7 H8 H9 H10 H11 H12 H13]
  · isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = kernelOf (mems t) := by
  unfold defs₀; rw [Defs.onTc_tc]; rfl

theorem body_obligation (c : Dev nD) : BodyObligation (dats (F := F) m 0 c) (defs₀ (F := F)) 𝒱₀ () Set.univ := fun t => by
  rw [bigSep_W0, bigSep_W0, defs₀_row]
  simp only [before0_0, before0_1, before0_2, Φ_eq]
  rw [show (dats m 0 c).owesAt () t.succ = (dats m 0 c).owesAt () t.castSucc from rfl,
    after0_0, after0_1, after0_2, after0_3, after0_4]
  iintro ⟨⟨HS, HP⟩, Ho, ⟨%d0, H0⟩, ⟨%d1, H1⟩, ⟨%d2, H2⟩, ⟨%d3, H3⟩, ⟨%d4, H4⟩⟩
  iapply (body_triple c t (iblk m c 0 t) (iblk m c 1 t) (iblk m c 2 t) _)
  isplitl [HS]; · iexact HS
  isplitl [H0]; · iexact H0
  isplitl [H1]; · iexact H1
  isplitl [H2]; · iexact H2
  isplitl [H3]; · iexists _; iexact H3
  isplitl [H4]; · iexists _; iexact H4
  iintro ⟨HS, H0, H1, H2, H3, H4⟩
  isplitl [HS HP]
  · isplitl [HS]; · iexact HS
    iexact HP
  isplitl [Ho]; · iexact Ho
  isplitl [H0]; · iexact H0
  isplitl [H1]; · iexact H1
  isplitl [H2]; · iexact H2
  isplitl [H3]; · iexact H3
  iexact H4

/-- What a run ends with: the pipeline's arrays and the later lines' buffers. -/
abbrev Post (r : PUnit × MemSt nD τ sig (Elt F)) : Prop :=
  Pipeline.FramePost cfgs (dats m) 0 (Pipeline.afterTail₀ cfgs (dats m) 0 (V0 m) [hostOps1]) r

-- `θ_run_frame_around`'s implicit arguments are found by unifying its conclusion with this one, which takes unfolding
-- plain definitions in a metavariable's type
set_option backward.isDefEq.respectTransparency.types false in
theorem run_main_quiescent : θ_run defs (onTc (τ := τ) (main (F := F))) (s₀ m ρ) (fun r => Post m r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

theorem run_main : θ_run defs (onTc (τ := τ) (main (F := F))) (s₀ m ρ) (Post m) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Proof.KI

end
-- ==== Proof.Frames.lean ====
/-
  The three frames.
-/
module

public import proofs.«01_k».proof.Defs
public import proofs.«01_k».proof.Proof.Launch
public import proofs.«01_k».proof.Proof.Gen.Kernel
public import proofs.«01_k».proof.Proof.Gen.KernelIdeal
public import proofs.«01_k».proof.Proof.Gen.ReferenceIdeal
public import Idealize.ShloMosaic.Lib.Claim

@[expose] public section

set_option maxRecDepth 16384

noncomputable section

namespace Cert.Proof

open Idealize.ShloMosaic Idealize.ShloMosaic.TcCoe Idealize.ShloMosaic.Tactic Idealize.SL.Sem

theorem frame_KI : Cert.quiescent_KernelIdeal := fun m ρ _ => KI.frame m ρ

theorem frame_RI : Cert.quiescent_ReferenceIdeal := by
  intro m ρ _
  hlo_run
  · exact fun _ => ⟨trivial, trivial, trivial⟩
  · exact sem_eq_zero_of_no_sems (sig := Cert.ReferenceIdeal.sig) (by decide) _

/-- The kernel's frame at the machine's arithmetic, read off the other program's text, which is the same. -/
def frameAtBits : Prop := ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

theorem frame_atBits : frameAtBits := fun m ρ _ => KI.frame m ρ

theorem frame_same : frameAtBits = Cert.quiescent_Kernel := by sl_kernel_rfl

theorem frame_K : Cert.quiescent_Kernel := frame_same ▸ frame_atBits

end Cert.Proof
-- ==== Proof.KernelRead.lean ====
/-
  The kernel's program's results, read off its run: what the region finds in its input arrays, and the results as the
  body's labels and targets of these.
-/
module

public import proofs.«01_k».proof.Defs
public import proofs.«01_k».proof.Proof.Launch
public import Idealize.ShloMosaic.Lib.Pipeline.Value
public import Idealize.ShloMosaic.Lib.Claim
public import Idealize.ShloMosaic.Lib.StableHlo.RunRead

@[expose] public section

set_option maxRecDepth 16384

noncomputable section

namespace Cert.Proof.KI

open Cert.KernelIdeal Cert.KernelIdeal.Facts₀
open Idealize.ShloMosaic Idealize.ShloMosaic.TcCoe Idealize.ShloMosaic.Tactic Idealize.SL.Sem

variable [Cert.KernelIdeal.Facts]

/-! ## What the lines before the region compute -/

/-- A table of one value for each anchor shape and column, over all the anchors, -/
def byColumn (t : FVec Ideal S9x64 .f32) : FVec Ideal S288x128 .f32 :=
  shapeCast S288x128 (broadcastInDim S9x64x64 ![0, 1, 2] bcast_S9x1x64_S9x64x64_0_1_2
    (broadcastInDim S9x1x64 ![0, 2] bcast_S9x64_S9x1x64_0_2 t)) shapeCasts_S9x64x64_S288x128
/-- one for each shape and row, -/
def byRow (t : FVec Ideal S9x64 .f32) : FVec Ideal S288x128 .f32 :=
  shapeCast S288x128 (broadcastInDim S9x64x64 ![0, 1, 2] bcast_S9x64x1_S9x64x64_0_1_2
    (broadcastInDim S9x64x1 ![0, 1] bcast_S9x64_S9x64x1_0_1 t)) shapeCasts_S9x64x64_S288x128
/-- and one for each shape. -/
def byShape (t : FVec Ideal S9 .f32) : FVec Ideal S288x128 .f32 :=
  shapeCast S288x128 (broadcastInDim S9x64x64 ![0, 1, 2] bcast_S9x1x1_S9x64x64_0_1_2
    (broadcastInDim S9x1x1 ![0] bcast_S9_S9x1x1_0 t)) shapeCasts_S9x64x64_S288x128

def ax : FVec Ideal S288x128 .f32 := byColumn fun i => FloatOps.ofBits .f32 (lit0 (S9x64.rowMajor i))
def ax2 : FVec Ideal S288x128 .f32 := byColumn fun i => FloatOps.ofBits .f32 (lit1 (S9x64.rowMajor i))
def ay : FVec Ideal S288x128 .f32 := byRow fun i => FloatOps.ofBits .f32 (lit2 (S9x64.rowMajor i))
def ay2 : FVec Ideal S288x128 .f32 := byRow fun i => FloatOps.ofBits .f32 (lit3 (S9x64.rowMajor i))
def aw : FVec Ideal S288x128 .f32 := byShape fun i => FloatOps.ofBits .f32 (lit4 (S9.rowMajor i))
def ah : FVec Ideal S288x128 .f32 := byShape fun i => FloatOps.ofBits .f32 (lit5 (S9.rowMajor i))
def area : FVec Ideal S288x128 .f32 := byShape fun i => FloatOps.ofBits .f32 (lit6 (S9.rowMajor i))

/-- A number at every anchor. -/
abbrev all (w : BitVec 32) : FVec Ideal S288x128 .f32 := broadcastInDim S288x128 ![] bcast_S_S288x128 (constant S_ .f32 w)

/-- Whether an anchor lies within the image. -/
def keep : IVec S288x128 1 :=
  andi (andi (andi (cmpf .oge ax (all 0x00000000#32)) (cmpf .oge ay (all 0x00000000#32))) (cmpf .ole ax2 (all 0x427C0000#32)))
    (cmpf .ole ay2 (all 0x427C0000#32))

/-- One plane. -/
def plane (v : FVec Ideal S288x128 .f32) : FVec Ideal S1x288x128 .f32 := broadcastInDim S1x288x128 ![1, 2] bcast_S288x128_S1x288x128_1_2 v

/-- The anchors' planes. -/
def cons : Vec Ideal S8x288x128 .f32 :=
  concatenate S8x288x128 0 [⟨S1x288x128, plane ax⟩, ⟨S1x288x128, plane ay⟩, ⟨S1x288x128, plane ax2⟩, ⟨S1x288x128, plane ay2⟩,
    ⟨S1x288x128, plane aw⟩, ⟨S1x288x128, plane ah⟩, ⟨S1x288x128, plane area⟩, ⟨S1x288x128, plane (uitofp .f32 keep)⟩]
    concatenates_S1x288x128_S1x288x128_S1x288x128_S1x288x128_S1x288x128_S1x288x128_S1x288x128_S1x288x128_S8x288x128_d0

/-- The boxes, -/
def boxes (b : FVec Ideal S1x32x4 .f32) : Vec Ideal S32x4 .f32 := shapeCast S32x4 b shapeCasts_S1x32x4_S32x4
/-- and the anchors' positions in the two draws' orders. -/
def positions : Vec Ideal S2x288x128 .i32 := fun i => lit7 (S2x288x128.rowMajor i)

/-- The program's first result, -/
def outLabel (b : FVec Ideal S1x32x4 .f32) : Vec Ideal S1x9x64x64 .i32 :=
  shapeCast S1x9x64x64 (labels (boxes b) cons positions) shapeCasts_S288x128_S1x9x64x64
/-- and its second. -/
def outTarget (b : FVec Ideal S1x32x4 .f32) : Vec Ideal S1x9x64x64x4 .f32 :=
  shapeCast S1x9x64x64x4 (transpose S288x128x4 [1, 2, 0] (targets (boxes b) cons positions) transposes_S4x288x128_S288x128x4_1_2_0)
    shapeCasts_S288x128x4_S1x9x64x64x4

variable (m : (ℓ : Loc nD τ sig) → Buf (Elt Ideal) ℓ)

set_option maxHeartbeats 4000000 in
theorem entry_boxes (c : Dev nD) : Gen.V m c main_v7 = boxes (m ((c.tc : Thread nD τ).loc main_arg1)) := by
  entry_read
  sl_kernel_rfl

set_option maxHeartbeats 4000000 in
theorem entry_cons (c : Dev nD) : Gen.V m c main_v42 = cons := by
  entry_read
  sl_kernel_rfl

set_option maxHeartbeats 4000000 in
theorem entry_positions (c : Dev nD) : Gen.V m c main_c = positions := by
  entry_read
  sl_kernel_rfl

/-! ## The blocks: each the whole of its array -/

section Blocks
open Cert.KernelIdeal.Gen

theorem blk0 (c : Dev nD) (t : Fin cfg0.N) : iblk m c 0 t = boxes (m ((c.tc : Thread nD τ).loc main_arg1)) := by
  rw [← entry_boxes]
  obtain rfl := fin_N0 t
  refine funext fun (x : S32x4.Idx) => ?_
  exact congrArg (V m c main_v7) (emb_eq (win0_0.rect t0_0) x x fun a => by
    match a with
    | ⟨0, _⟩ => show (x 0).val = 0 + 1 * (x 0).val; omega
    | ⟨1, _⟩ => show (x 1).val = 0 + 1 * (x 1).val; omega)

theorem blk1 (c : Dev nD) (t : Fin cfg0.N) : iblk m c 1 t = cons := by
  rw [← entry_cons m c]
  obtain rfl := fin_N0 t
  refine funext fun (x : S8x288x128.Idx) => ?_
  exact congrArg (V m c main_v42) (emb_eq (win0_1.rect t0_0) x x fun a => by
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega)

theorem blk2 (c : Dev nD) (t : Fin cfg0.N) : iblk m c 2 t = positions := by
  rw [← entry_positions m c]
  obtain rfl := fin_N0 t
  refine funext fun (x : S2x288x128.Idx) => ?_
  exact congrArg (V m c main_c) (emb_eq (win0_2.rect t0_0) x x fun a => by
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega)

theorem flushed3 (c : Dev nD) (t : Fin cfg0.N) : (dats m 0 c).flushed 3 t
    = ((cfg0.win 3).blk t).view.read (Elt Ideal) (labels (boxes (m ((c.tc : Thread nD τ).loc main_arg1))) cons positions) := by
  show (cfg0.win 3).cut (grid0.coords t) ((dats m 0 c).after 3 t) = _
  rw [after0_3, blk0, blk1, blk2]
  obtain rfl := fin_N0 t
  refine funext fun (x : S288x128.Idx) => ?_
  exact congrArg (labels (boxes (m ((c.tc : Thread nD τ).loc main_arg1))) cons positions)
    (emb_eq (win0_3.rect t0_0) x x fun a => by
      match a with
      | ⟨0, _⟩ => show (x 0).val = 0 + 1 * (x 0).val; omega
      | ⟨1, _⟩ => show (x 1).val = 0 + 1 * (x 1).val; omega).symm

theorem flushed4 (c : Dev nD) (t : Fin cfg0.N) : (dats m 0 c).flushed 4 t
    = ((cfg0.win 4).blk t).view.read (Elt Ideal) (targets (boxes (m ((c.tc : Thread nD τ).loc main_arg1))) cons positions) := by
  show (cfg0.win 4).cut (grid0.coords t) ((dats m 0 c).after 4 t) = _
  rw [after0_4, blk0, blk1, blk2]
  obtain rfl := fin_N0 t
  refine funext fun (x : S4x288x128.Idx) => ?_
  exact congrArg (targets (boxes (m ((c.tc : Thread nD τ).loc main_arg1))) cons positions)
    (emb_eq (win0_4.rect t0_0) x x fun a => by
      match a with
      | ⟨0, _⟩ => show (x 0).val = 0 + 1 * (x 0).val; omega
      | ⟨1, _⟩ => show (x 1).val = 0 + 1 * (x 1).val; omega
      | ⟨2, _⟩ => show (x 2).val = 0 + 1 * (x 2).val; omega).symm

theorem cover3 (i : S288x128.Idx) : ∃ t : Fin cfg0.N, (cfg0.win 3).flush t = true ∧ i ∈ ((cfg0.win 3).blk t).view.set := by
  refine ⟨t0_0, flush0_3 _, ?_⟩
  show i ∈ ((View.whole main_v43_0).slice (win0_3.rect t0_0)).set
  rw [View.set_slice_whole, Rect.mem_set_unit]
  intro a
  match a with
  | ⟨0, _⟩ => have h : (i 0).val < 288 := (i 0).isLt; show 0 ≤ (i 0).val ∧ (i 0).val < 0 + 288; omega
  | ⟨1, _⟩ => have h : (i 1).val < 128 := (i 1).isLt; show 0 ≤ (i 1).val ∧ (i 1).val < 0 + 128; omega

theorem cover4 (i : S4x288x128.Idx) : ∃ t : Fin cfg0.N, (cfg0.win 4).flush t = true ∧ i ∈ ((cfg0.win 4).blk t).view.set := by
  refine ⟨t0_0, flush0_4 _, ?_⟩
  show i ∈ ((View.whole main_v43_1).slice (win0_4.rect t0_0)).set
  rw [View.set_slice_whole, Rect.mem_set_unit]
  intro a
  match a with
  | ⟨0, _⟩ => have h : (i 0).val < 4 := (i 0).isLt; show 0 ≤ (i 0).val ∧ (i 0).val < 0 + 4; omega
  | ⟨1, _⟩ => have h : (i 1).val < 288 := (i 1).isLt; show 0 ≤ (i 1).val ∧ (i 1).val < 0 + 288; omega
  | ⟨2, _⟩ => have h : (i 2).val < 128 := (i 2).isLt; show 0 ≤ (i 2).val ∧ (i 2).val < 0 + 128; omega

theorem arr3 (c : Dev nD) : (dats m 0 c).arrAt 3 cfg0.N = labels (boxes (m ((c.tc : Thread nD τ).loc main_arg1))) cons positions :=
  (dats m 0 c).arrAt_eq_of_cover 3 _ (fun t _ => flushed3 m c t) cover3
theorem arr4 (c : Dev nD) : (dats m 0 c).arrAt 4 cfg0.N = targets (boxes (m ((c.tc : Thread nD τ).loc main_arg1))) cons positions :=
  (dats m 0 c).arrAt_eq_of_cover 4 _ (fun t _ => flushed4 m c t) cover4

/-! ## The results -/

variable (ρ : Dev nD → PrngReg)

/-- A run of the program leaves the labels in its first result, the targets in its second, and its arguments as they were. -/
theorem run : θ_run defs (onTc (τ := τ) (main (F := Ideal))) ⟨m, fun _ => 0, ρ⟩ (fun r => ∀ c : Dev nD,
      r.2.mem ((c.tc : Thread nD τ).loc main_v44) = outLabel (m ((c.tc : Thread nD τ).loc main_arg1))
      ∧ r.2.mem ((c.tc : Thread nD τ).loc main_v46) = outTarget (m ((c.tc : Thread nD τ).loc main_arg1))) := by
  refine θ_run_mono (run_main m ρ) ?_
  intro r hr c
  constructor
  · refine ((hr c).2 main_v44 (by decide)).trans ?_
    have e := (Pipeline.withArrays_arr spec0 launch0.win.arr_inj c (V0 m c) (fun w => (dats m 0 c).arrAt w cfg0.N) 3).trans (arr3 m c)
    unfold Pipeline.afterTail₀
    change StableHlo.after hostOps1 (Pipeline.withArrays spec0 c (V0 m c) fun w => (dats m 0 c).arrAt w cfg0.N) (Proc.devRef .tc main_v44) = _
    generalize Pipeline.withArrays spec0 c (V0 m c) (fun w => (dats m 0 c).arrAt w cfg0.N) = W at e ⊢
    rw [outLabel, ← e]
    unfold hostOps1
    after_reads_simp
    sl_kernel_rfl
  · refine ((hr c).2 main_v46 (by decide)).trans ?_
    have e := (Pipeline.withArrays_arr spec0 launch0.win.arr_inj c (V0 m c) (fun w => (dats m 0 c).arrAt w cfg0.N) 4).trans (arr4 m c)
    unfold Pipeline.afterTail₀
    change StableHlo.after hostOps1 (Pipeline.withArrays spec0 c (V0 m c) fun w => (dats m 0 c).arrAt w cfg0.N) (Proc.devRef .tc main_v46) = _
    generalize Pipeline.withArrays spec0 c (V0 m c) (fun w => (dats m 0 c).arrAt w cfg0.N) = W at e ⊢
    rw [outTarget, ← e]
    unfold hostOps1
    after_reads_simp
    sl_kernel_rfl

end Blocks

end Cert.Proof.KI

end
-- ==== Proof.RefValues.lean ====
/-
  The reference's values at exact arithmetic, stage by stage: the anchors, the overlaps, the labels before and after
  subsampling, and the targets.
-/
module

public import proofs.«01_k».proof.Defs
public import proofs.«01_k».proof.Proof.Gen.ReferenceIdeal
public import Idealize.ShloMosaic.Lib.Claim

@[expose] public section

set_option maxRecDepth 16384

noncomputable section

namespace Cert.Proof.R

open Cert.ReferenceIdeal Cert.ReferenceIdeal.Facts₀
open Idealize.ShloMosaic Idealize.ShloMosaic.TcCoe Idealize.ShloMosaic.Tactic Idealize.SL.Sem

variable [Cert.ReferenceIdeal.Facts]

/-! ## The anchors -/

/-- A table of one value for each anchor shape and column, over all the anchors, -/
def byColumn (t : FVec Ideal S9x64 .f32) : FVec Ideal S36864 .f32 :=
  shapeCast S36864 (broadcastInDim S9x64x64 ![0, 1, 2] bcast_S9x1x64_S9x64x64_0_1_2
    (broadcastInDim S9x1x64 ![0, 2] bcast_S9x64_S9x1x64_0_2 t)) shapeCasts_S9x64x64_S36864
/-- one for each shape and row, -/
def byRow (t : FVec Ideal S9x64 .f32) : FVec Ideal S36864 .f32 :=
  shapeCast S36864 (broadcastInDim S9x64x64 ![0, 1, 2] bcast_S9x64x1_S9x64x64_0_1_2
    (broadcastInDim S9x64x1 ![0, 1] bcast_S9x64_S9x64x1_0_1 t)) shapeCasts_S9x64x64_S36864
/-- and one for each shape. -/
def byShape (t : FVec Ideal S9 .f32) : FVec Ideal S36864 .f32 :=
  shapeCast S36864 (broadcastInDim S9x64x64 ![0, 1, 2] bcast_S9x1x1_S9x64x64_0_1_2
    (broadcastInDim S9x1x1 ![0] bcast_S9_S9x1x1_0 t)) shapeCasts_S9x64x64_S36864

def ax : FVec Ideal S36864 .f32 := byColumn fun i => FloatOps.ofBits .f32 (lit0 (S9x64.rowMajor i))
def ay : FVec Ideal S36864 .f32 := byRow fun i => FloatOps.ofBits .f32 (lit1 (S9x64.rowMajor i))
def ax2 : FVec Ideal S36864 .f32 := byColumn fun i => FloatOps.ofBits .f32 (lit2 (S9x64.rowMajor i))
def ay2 : FVec Ideal S36864 .f32 := byRow fun i => FloatOps.ofBits .f32 (lit3 (S9x64.rowMajor i))
def aw : FVec Ideal S36864 .f32 := byShape fun i => FloatOps.ofBits .f32 (lit4 (S9.rowMajor i))
def ah : FVec Ideal S36864 .f32 := byShape fun i => FloatOps.ofBits .f32 (lit5 (S9.rowMajor i))
def area : FVec Ideal S36864 .f32 := byShape fun i => FloatOps.ofBits .f32 (lit6 (S9.rowMajor i))

/-- A number at every anchor, -/
abbrev all (w : BitVec 32) : FVec Ideal S36864 .f32 := broadcastInDim S36864 ![] bcast_S_S36864 (constant S_ .f32 w)
/-- and an integer. -/
abbrev allI (w : BitVec 32) : IVec S36864 32 := broadcastInDim S36864 ![] bcast_S_S36864 (constantI S_ 32 w)

/-- Whether an anchor lies within the image. -/
def keep : IVec S36864 1 :=
  andi (andi (andi (cmpf .oge ax (all 0x00000000#32)) (cmpf .oge ay (all 0x00000000#32))) (cmpf .ole ax2 (all 0x427C0000#32)))
    (cmpf .ole ay2 (all 0x427C0000#32))

/-! ## The overlaps -/

/-- The boxes. -/
def boxes (b : FVec Ideal S1x32x4 .f32) : FVec Ideal S32x4 .f32 := shapeCast S32x4 b shapeCasts_S1x32x4_S32x4

/-- The boxes' coordinates. -/
def gx (b : FVec Ideal S32x4 .f32) : FVec Ideal S32 .f32 := shapeCast S32 (extractStridedSlice S32x1 ![0, 0] b slices_S32x4_S32x1_0_0) shapeCasts_S32x1_S32
def gy (b : FVec Ideal S32x4 .f32) : FVec Ideal S32 .f32 := shapeCast S32 (extractStridedSlice S32x1 ![0, 1] b slices_S32x4_S32x1_0_1) shapeCasts_S32x1_S32
def gw (b : FVec Ideal S32x4 .f32) : FVec Ideal S32 .f32 := shapeCast S32 (extractStridedSlice S32x1 ![0, 2] b slices_S32x4_S32x1_0_2) shapeCasts_S32x1_S32
def gh (b : FVec Ideal S32x4 .f32) : FVec Ideal S32 .f32 := shapeCast S32 (extractStridedSlice S32x1 ![0, 3] b slices_S32x4_S32x1_0_3) shapeCasts_S32x1_S32

/-- A value of each anchor, of every pair of an anchor and a box, -/
def ofAnchor {α : Type} (v : S36864.Idx → α) : S36864x32.Idx → α :=
  broadcastInDim S36864x32 ![0, 1] bcast_S36864x1_S36864x32_0_1 (broadcastInDim S36864x1 ![0] bcast_S36864_S36864x1_0 v)
/-- a value of each box, -/
def ofBox (v : FVec Ideal S32 .f32) : FVec Ideal S36864x32 .f32 :=
  broadcastInDim S36864x32 ![0, 1] bcast_S1x32_S36864x32_0_1 (broadcastInDim S1x32 ![1] bcast_S32_S1x32_1 v)
/-- and a number. -/
abbrev pairs (w : BitVec 32) : FVec Ideal S36864x32 .f32 := broadcastInDim S36864x32 ![] bcast_S_S36864x32 (constant S_ .f32 w)

/-- The far side of the boxes. -/
def far (p e : FVec Ideal S32 .f32) : FVec Ideal S32 .f32 :=
  subf (addf p e) (broadcastInDim S32 ![] bcast_S_S32 (constant S_ .f32 0x3F800000#32))

/-- The common length along one axis. -/
def common (a a2 : FVec Ideal S36864 .f32) (p p2 : FVec Ideal S32 .f32) : FVec Ideal S36864x32 .f32 :=
  maximumf (pairs 0x00000000#32) (addf (subf (minimumf (ofAnchor a2) (ofBox p2)) (maximumf (ofAnchor a) (ofBox p))) (pairs 0x3F800000#32))

/-- The common area. -/
def inter (b : FVec Ideal S32x4 .f32) : FVec Ideal S36864x32 .f32 :=
  mulf (common ax ax2 (gx b) (far (gx b) (gw b))) (common ay ay2 (gy b) (far (gy b) (gh b)))

/-- The overlap, -/
def iou (b : FVec Ideal S32x4 .f32) : FVec Ideal S36864x32 .f32 :=
  Host.divf (inter b) (subf (addf (ofAnchor area) (ofBox (mulf (gw b) (gh b)))) (inter b))
/-- zero replaced by a small number, -/
def ov (b : FVec Ideal S32x4 .f32) : FVec Ideal S36864x32 .f32 :=
  select (cmpf .oeq (iou b) (pairs 0x00000000#32)) (pairs 0x2EDBE6FF#32) (iou b)
/-- and −1 at the anchors not kept. -/
def masked (b : FVec Ideal S32x4 .f32) : FVec Ideal S36864x32 .f32 := select (ofAnchor keep) (ov b) (pairs 0xBF800000#32)

/-- The greatest overlap of each anchor, -/
def most (b : FVec Ideal S32x4 .f32) : FVec Ideal S36864 .f32 :=
  Host.reduce FloatOps.maximumf (masked b) (constant S_ .f32 0xFF800000#32) reducesTo_S36864x32_S36864_d1 h_S_
/-- the box that has it, -/
def bestBox (b : FVec Ideal S32x4 .f32) : IVec S36864 32 := fun j =>
  (Host.argReduce reducer_argmax_f32_i32 (ov b) (iotaInDim S36864x32 32 1) (constant S_ .f32 0xFF800000#32 : FVec Ideal S_ .f32) (constantI S_ 32 0#32)
    reducesTo_S36864x32_S36864_d1 h_S_ j).2
/-- and the anchor that each box has the greatest overlap with. -/
def bestAnchor (b : FVec Ideal S32x4 .f32) : IVec S32 32 := fun j =>
  (Host.argReduce reducer_argmax_f32_i32 (masked b) (iotaInDim S36864x32 32 0) (constant S_ .f32 0xFF800000#32 : FVec Ideal S_ .f32) (constantI S_ 32 0#32)
    reducesTo_S36864x32_S32_d0 h_S_ j).2

/-! ## The labels -/

/-- The labels by the greatest overlap, -/
def byOverlap (m : FVec Ideal S36864 .f32) : IVec S36864 32 :=
  select (cmpf .ole m (all 0x3E99999A#32)) (allI 0#32) (select (cmpf .oge m (all 0x3F333333#32)) (allI 1#32) (allI 4294967295#32))

/-- where the boxes' anchors are in an array, -/
def places (i : IVec S32 32) : IVec S32x1 32 :=
  broadcastInDim S32x1 ![0] bcast_S32_S32x1_0 (select (cmpi .slt i (broadcastInDim S32 ![] bcast_S_S32 (constantI S_ 32 0#32)))
    (addi i (broadcastInDim S32 ![] bcast_S_S32 (constantI S_ 32 36864#32))) i)

/-- and with one at the boxes' anchors, of those kept. -/
def label0 (b : FVec Ideal S32x4 .f32) : IVec S36864 32 :=
  select keep (Host.scatter scatter_S36864_S32x1_S32_n_0_0_1 (fun _ b => b) (byOverlap (most b)) (places (bestAnchor b))
    (broadcastInDim S32 ![] bcast_S_S32 (constantI S_ 32 1#32))) (allI 4294967295#32)

/-- The two draws. -/
def drawBg : FVec Ideal S36864 .f32 := fun i => FloatOps.ofBits .f32 (lit7 (S36864.rowMajor i))
def drawFg : FVec Ideal S36864 .f32 := fun i => FloatOps.ofBits .f32 (lit8 (S36864.rowMajor i))

/-- The order of a draw's values of the anchors labelled `v`, the others last, -/
def order (lab : IVec S36864 32) (v : BitVec 32) (u : FVec Ideal S36864 .f32) : IVec S36864 32 :=
  (Host.sort2 S36864 0 comparator_f32_i32_d0 (select (cmpi .eq lab (allI v)) u (all 0x7F800000#32)) (iotaInDim S36864 32 0)).2
/-- and each anchor's place in it. -/
def ranks (o : IVec S36864 32) : IVec S36864 32 := (Host.sort2 S36864 0 comparator_i32_i32_d0 o (iotaInDim S36864 32 0)).2

/-- The labels with those of value `v` whose place is `q` or later dropped. -/
def subsample (lab : IVec S36864 32) (v q : BitVec 32) (u : FVec Ideal S36864 .f32) : IVec S36864 32 :=
  select (andi (cmpi .eq lab (allI v)) (cmpi .sge (ranks (order lab v u)) (allI q))) (allI 4294967295#32) lab

def label1 (b : FVec Ideal S32x4 .f32) : IVec S36864 32 := subsample (label0 b) 0#32 170#32 drawBg
def label2 (b : FVec Ideal S32x4 .f32) : IVec S36864 32 := subsample (label1 b) 1#32 85#32 drawFg

/-! ## The targets -/

/-- Each anchor's box. -/
def chosen (b : FVec Ideal S32x4 .f32) : FVec Ideal S36864x4 .f32 :=
  Host.gather gather_S32x4_S36864x1_S36864x4_1_0_n_n_0_1_14 b
    (broadcastInDim S36864x1 ![0] bcast_S36864_S36864x1_0 (select (cmpi .slt (bestBox b) (allI 0#32)) (addi (bestBox b) (allI 32#32)) (bestBox b)))

def cx (g : FVec Ideal S36864x4 .f32) : FVec Ideal S36864 .f32 := shapeCast S36864 (extractStridedSlice S36864x1 ![0, 0] g slices_S36864x4_S36864x1_0_0) shapeCasts_S36864x1_S36864
def cy (g : FVec Ideal S36864x4 .f32) : FVec Ideal S36864 .f32 := shapeCast S36864 (extractStridedSlice S36864x1 ![0, 1] g slices_S36864x4_S36864x1_0_1) shapeCasts_S36864x1_S36864
def cw (g : FVec Ideal S36864x4 .f32) : FVec Ideal S36864 .f32 := shapeCast S36864 (extractStridedSlice S36864x1 ![0, 2] g slices_S36864x4_S36864x1_0_2) shapeCasts_S36864x1_S36864
def ch (g : FVec Ideal S36864x4 .f32) : FVec Ideal S36864 .f32 := shapeCast S36864 (extractStridedSlice S36864x1 ![0, 3] g slices_S36864x4_S36864x1_0_3) shapeCasts_S36864x1_S36864

abbrev column {α : Type} (v : S36864.Idx → α) : S36864x1.Idx → α := broadcastInDim S36864x1 ![0] bcast_S36864_S36864x1_0 v

/-- The differences from the anchors. -/
def deltas (g : FVec Ideal S36864x4 .f32) : FVec Ideal S36864x4 .f32 :=
  concatenate S36864x4 1 [⟨S36864x1, column (Host.divf (subf (cx g) ax) aw)⟩, ⟨S36864x1, column (Host.divf (subf (cy g) ay) ah)⟩,
    ⟨S36864x1, column (Host.log (Host.divf (cw g) aw))⟩, ⟨S36864x1, column (Host.log (Host.divf (ch g) ah))⟩]
    concatenates_S36864x1_S36864x1_S36864x1_S36864x1_S36864x4_d1

/-- The targets, zero but where the label is one. -/
def target (b : FVec Ideal S32x4 .f32) : FVec Ideal S36864x4 .f32 :=
  select (broadcastInDim S36864x4 ![0, 1] bcast_S36864x1_S36864x4_0_1 (column (cmpi .eq (label2 b) (allI 1#32)))) (deltas (chosen b))
    (broadcastInDim S36864x4 ![] bcast_S_S36864x4 (constant S_ .f32 0x00000000#32))

/-- The reference's first result, -/
def outLabel (b : FVec Ideal S1x32x4 .f32) : Vec Ideal S1x9x64x64 .i32 := shapeCast S1x9x64x64 (label2 (boxes b)) shapeCasts_S36864_S1x9x64x64
/-- and its second. -/
def outTarget (b : FVec Ideal S1x32x4 .f32) : Vec Ideal S1x9x64x64x4 .f32 := shapeCast S1x9x64x64x4 (target (boxes b)) shapeCasts_S36864x4_S1x9x64x64x4

end Cert.Proof.R
-- ==== Proof.Values.lean ====
/-
  The anchors of the two programs are the same: the kernel's planes hold at row `a`, column `c` what the reference's arrays
  hold at `128 a + c`.
-/
module

public import proofs.«01_k».proof.Proof.KernelRead
public import proofs.«01_k».proof.Proof.RefValues
public import Idealize.ShloMosaic.Lib.ValueIdx
public import Idealize.ShloMosaic.Lib.Pipeline.Value
public import Idealize.ShloMosaic.PureOps.Ideal.Laws

@[expose] public section

set_option maxRecDepth 16384

noncomputable section

namespace Cert.Proof

open Idealize.ShloMosaic Idealize.ShloMosaic.ValueIdx

variable [Cert.KernelIdeal.Facts] [Cert.ReferenceIdeal.Facts]

/-- The anchors in rows, -/
abbrev SK : Shape := Cert.KernelIdeal.S288x128
/-- and in one line. -/
abbrev SR : Shape := Cert.ReferenceIdeal.S36864

/-- The number of an anchor, -/
def num (a : Fin 288) (c : Fin 128) : Fin 36864 := ⟨128 * a.val + c.val, by omega⟩

theorem num_surj (n : Fin 36864) : ∃ a c, n = num a c :=
  ⟨⟨n.val / 128, by omega⟩, ⟨n.val % 128, Nat.mod_lt _ (by decide)⟩, Fin.ext (by unfold num; dsimp only; omega)⟩

theorem num_inj {a a' : Fin 288} {c c' : Fin 128} (h : num a c = num a' c') : a = a' ∧ c = c' := by
  have h := congrArg Fin.val h
  unfold num at h
  dsimp only at h
  exact ⟨Fin.ext (by omega), Fin.ext (by omega)⟩

/-- and its place in row-major order. -/
theorem rowMajor_num (a : Fin 288) (c : Fin 128) : (SK.rowMajor (ix2 a c)).val = (SR.rowMajor (ix1 (num a c))).val := by
  rw [Shape.rowMajor_val_two, Shape.rowMajor_val_one]
  show a.val * 128 + c.val = 128 * a.val + c.val
  omega

/-- Two casts of one array at indices of one place. -/
theorem shapeCast_eq {α : Type} {s t u : Shape} (x : s.Idx → α) (h : s.ShapeCasts t) (h' : s.ShapeCasts u) (j : t.Idx) (k : u.Idx)
    (e : (t.rowMajor j).val = (u.rowMajor k).val) : shapeCast t x h j = shapeCast u x h' k := by
  have hn : (t.rowMajor j).val < s.numel := by
    have := (t.rowMajor j).isLt
    have h2 : t.numel = s.numel := h
    omega
  have hi : (s.rowMajor (s.rowMajor.symm ⟨(t.rowMajor j).val, hn⟩)).val = (t.rowMajor j).val := by
    rw [Equiv.apply_symm_apply]
  rw [shapeCast_apply x h j _ hi, shapeCast_apply x h' k _ (hi.trans e)]

theorem byColumn_eq (t : FVec Ideal Cert.KernelIdeal.S9x64 .f32) (a : Fin 288) (c : Fin 128) :
    KI.byColumn t (ix2 a c) = R.byColumn t (ix1 (num a c)) := shapeCast_eq _ _ _ _ _ (rowMajor_num a c)
theorem byRow_eq (t : FVec Ideal Cert.KernelIdeal.S9x64 .f32) (a : Fin 288) (c : Fin 128) :
    KI.byRow t (ix2 a c) = R.byRow t (ix1 (num a c)) := shapeCast_eq _ _ _ _ _ (rowMajor_num a c)
theorem byShape_eq (t : FVec Ideal Cert.KernelIdeal.S9 .f32) (a : Fin 288) (c : Fin 128) :
    KI.byShape t (ix2 a c) = R.byShape t (ix1 (num a c)) := shapeCast_eq _ _ _ _ _ (rowMajor_num a c)

theorem lit_x : Cert.KernelIdeal.lit0 = Cert.ReferenceIdeal.lit0 := by funext i; revert i; decide +kernel
theorem lit_x2 : Cert.KernelIdeal.lit1 = Cert.ReferenceIdeal.lit2 := by funext i; revert i; decide +kernel
theorem lit_y : Cert.KernelIdeal.lit2 = Cert.ReferenceIdeal.lit1 := by funext i; revert i; decide +kernel
theorem lit_y2 : Cert.KernelIdeal.lit3 = Cert.ReferenceIdeal.lit3 := by funext i; revert i; decide +kernel
theorem lit_w : Cert.KernelIdeal.lit4 = Cert.ReferenceIdeal.lit4 := by funext i; revert i; decide +kernel
theorem lit_h : Cert.KernelIdeal.lit5 = Cert.ReferenceIdeal.lit5 := by funext i; revert i; decide +kernel
theorem lit_area : Cert.KernelIdeal.lit6 = Cert.ReferenceIdeal.lit6 := by funext i; revert i; decide +kernel

variable (a : Fin 288) (c : Fin 128)

theorem ax_eq : KI.ax (ix2 a c) = R.ax (ix1 (num a c)) := by
  unfold KI.ax R.ax; rw [lit_x]; exact byColumn_eq _ a c
theorem ax2_eq : KI.ax2 (ix2 a c) = R.ax2 (ix1 (num a c)) := by
  unfold KI.ax2 R.ax2; rw [lit_x2]; exact byColumn_eq _ a c
theorem ay_eq : KI.ay (ix2 a c) = R.ay (ix1 (num a c)) := by
  unfold KI.ay R.ay; rw [lit_y]; exact byRow_eq _ a c
theorem ay2_eq : KI.ay2 (ix2 a c) = R.ay2 (ix1 (num a c)) := by
  unfold KI.ay2 R.ay2; rw [lit_y2]; exact byRow_eq _ a c
theorem aw_eq : KI.aw (ix2 a c) = R.aw (ix1 (num a c)) := by
  unfold KI.aw R.aw; rw [lit_w]; exact byShape_eq _ a c
theorem ah_eq : KI.ah (ix2 a c) = R.ah (ix1 (num a c)) := by
  unfold KI.ah R.ah; rw [lit_h]; exact byShape_eq _ a c
theorem area_eq : KI.area (ix2 a c) = R.area (ix1 (num a c)) := by
  unfold KI.area R.area; rw [lit_area]; exact byShape_eq _ a c

theorem all_apply (w : BitVec 32) (i : SR.Idx) : R.all w i = Ideal.ofBits .f32 w := rfl
theorem allI_apply (w : BitVec 32) (i : SR.Idx) : R.allI w i = w := rfl

theorem keep_eq : KI.keep (ix2 a c) = R.keep (ix1 (num a c)) := by
  have h1 := ax_eq a c; have h2 := ay_eq a c; have h3 := ax2_eq a c; have h4 := ay2_eq a c
  unfold KI.keep R.keep
  show IntOp.andi (IntOp.andi (IntOp.andi (FloatOps.cmpf .oge (KI.ax (ix2 a c)) _) (FloatOps.cmpf .oge (KI.ay (ix2 a c)) _))
    (FloatOps.cmpf .ole (KI.ax2 (ix2 a c)) _)) (FloatOps.cmpf .ole (KI.ay2 (ix2 a c)) _) = _
  rw [h1, h2, h3, h4]
  rfl

/-! ## The planes -/

theorem cons_piece (p : Fin 8) (v : FVec Ideal SK .f32)
    (h : ([KI.ax, KI.ay, KI.ax2, KI.ay2, KI.aw, KI.ah, KI.area, uitofp .f32 KI.keep] : List (FVec Ideal SK .f32))[p.val]? = some v) :
    KI.planes (n0 := 8) (n1 := 288) (n2 := 128) KI.cons p (ix2 a c) = v (ix2 a c) := by
  have e : KI.cons = concatenate Cert.KernelIdeal.S8x288x128 0 (List.ofFn fun q : Fin 8 =>
      (⟨Cert.KernelIdeal.S1x288x128, KI.plane (([KI.ax, KI.ay, KI.ax2, KI.ay2, KI.aw, KI.ah, KI.area, uitofp .f32 KI.keep] : List (FVec Ideal SK .f32)).getD q.val KI.ax)⟩ : (s : Shape) × (s.Idx → Ideal .f32)))
      Cert.KernelIdeal.Facts₀.concatenates_S1x288x128_S1x288x128_S1x288x128_S1x288x128_S1x288x128_S1x288x128_S1x288x128_S1x288x128_S8x288x128_d0 := rfl
  show KI.cons (ix3 (n0 := 8) (n1 := 288) (n2 := 128) p a c) = _
  rw [e]
  refine (concatenate_ofFn_unit_apply (t := Cert.KernelIdeal.S8x288x128) (s₁ := Cert.KernelIdeal.S1x288x128) 0 (fun q : Fin 8 => KI.plane (([KI.ax, KI.ay, KI.ax2, KI.ay2, KI.aw, KI.ah, KI.area, uitofp .f32 KI.keep] : List (FVec Ideal SK .f32)).getD q.val KI.ax)) _ rfl rfl (ix3 (n0 := 8) (n1 := 288) (n2 := 128) p a c) p rfl (ix3 (n0 := 1) (n1 := 288) (n2 := 128) 0 a c) ?_).trans ?_
  · intro b
    match b with
    | ⟨0, _⟩ => intro h; exact absurd rfl h
    | ⟨1, _⟩ => intro _; rfl
    | ⟨2, _⟩ => intro _; rfl
  · rw [List.getD_eq_getElem?_getD, h]
    exact broadcastInDim_apply _ _ _ _ _ fun d => by
      match d with
      | ⟨0, _⟩ => rfl
      | ⟨1, _⟩ => rfl

theorem plane_ax : KI.planes (n0 := 8) (n1 := 288) (n2 := 128) KI.cons 0 (ix2 a c) = R.ax (ix1 (num a c)) := (cons_piece a c 0 _ rfl).trans (ax_eq a c)
theorem plane_ay : KI.planes (n0 := 8) (n1 := 288) (n2 := 128) KI.cons 1 (ix2 a c) = R.ay (ix1 (num a c)) := (cons_piece a c 1 _ rfl).trans (ay_eq a c)
theorem plane_ax2 : KI.planes (n0 := 8) (n1 := 288) (n2 := 128) KI.cons 2 (ix2 a c) = R.ax2 (ix1 (num a c)) := (cons_piece a c 2 _ rfl).trans (ax2_eq a c)
theorem plane_ay2 : KI.planes (n0 := 8) (n1 := 288) (n2 := 128) KI.cons 3 (ix2 a c) = R.ay2 (ix1 (num a c)) := (cons_piece a c 3 _ rfl).trans (ay2_eq a c)
theorem plane_aw : KI.planes (n0 := 8) (n1 := 288) (n2 := 128) KI.cons 4 (ix2 a c) = R.aw (ix1 (num a c)) := (cons_piece a c 4 _ rfl).trans (aw_eq a c)
theorem plane_ah : KI.planes (n0 := 8) (n1 := 288) (n2 := 128) KI.cons 5 (ix2 a c) = R.ah (ix1 (num a c)) := (cons_piece a c 5 _ rfl).trans (ah_eq a c)
theorem plane_area : KI.planes (n0 := 8) (n1 := 288) (n2 := 128) KI.cons 6 (ix2 a c) = R.area (ix1 (num a c)) := (cons_piece a c 6 _ rfl).trans (area_eq a c)

/-- A bit kept as a number and tested against zero is the bit. -/
theorem bit_back (b : BitVec 1) : FloatOps.cmpf (F := Ideal) (φ := .f32) .one (FloatOps.uitofp (F := Ideal) .f32 b) (Ideal.ofBits .f32 0x00000000#32) = b := by
  rw [show (Ideal.ofBits .f32 0x00000000#32 : EReal) = 0 from Idealize.ShloMosaic.Ideal.ofBits_zero_f32]
  rcases BitVec.eq_zero_or_eq_one b with rfl | rfl
  · show BitVec.ofBool (decide (((0#1 : BitVec 1).toNat : EReal) ≠ 0)) = 0#1
    simp
  · show BitVec.ofBool (decide (((1#1 : BitVec 1).toNat : EReal) ≠ 0)) = 1#1
    simp

theorem plane_keep : FloatOps.cmpf (F := Ideal) (φ := .f32) .one (KI.planes (n0 := 8) (n1 := 288) (n2 := 128) KI.cons 7 (ix2 a c)) (Ideal.ofBits .f32 0x00000000#32)
    = R.keep (ix1 (num a c)) := by
  rw [cons_piece a c 7 _ rfl]
  exact (bit_back _).trans (keep_eq a c)

/-! ## The overlaps -/

theorem ofAnchor_apply {α : Type} (v : SR.Idx → α) (n : Fin 36864) (g : Fin 32) : R.ofAnchor v (ix2 n g) = v (ix1 n) :=
  (broadcastInDim_apply _ _ _ _ (ix2 (n0 := 36864) (n1 := 1) n 0) fun d => by
    match d with
    | ⟨0, _⟩ => rfl
    | ⟨1, _⟩ => rfl).trans (broadcastInDim_apply _ _ _ _ _ fun d => by
    match d with
    | ⟨0, _⟩ => rfl)

theorem ofBox_apply (v : FVec Ideal Cert.ReferenceIdeal.S32 .f32) (n : Fin 36864) (g : Fin 32) : R.ofBox v (ix2 n g) = v (ix1 g) :=
  (broadcastInDim_apply _ _ _ _ (ix2 (n0 := 1) (n1 := 32) 0 g) fun d => by
    match d with
    | ⟨0, _⟩ => rfl
    | ⟨1, _⟩ => rfl).trans (broadcastInDim_apply _ _ _ _ _ fun d => by
    match d with
    | ⟨0, _⟩ => rfl)

section Boxes
variable (b : FVec Ideal Cert.ReferenceIdeal.S32x4 .f32) (g : Fin 32)

theorem slice_apply (j : Fin 4) (h : Cert.ReferenceIdeal.S32x4.Slices ![0, j.val] Cert.ReferenceIdeal.S32x1) (h' : Cert.ReferenceIdeal.S32x1.ShapeCasts Cert.ReferenceIdeal.S32) :
    shapeCast Cert.ReferenceIdeal.S32 (extractStridedSlice Cert.ReferenceIdeal.S32x1 ![0, j.val] b h) h' (ix1 g) = b (ix2 g j) := by
  refine (shapeCast_apply _ h' _ (ix2 (n0 := 32) (n1 := 1) g 0) ?_).trans (extractStridedSlice_apply _ _ _ _ _ fun d => ?_)
  · rw [Shape.rowMajor_val_two, Shape.rowMajor_val_one]
    show g.val * 1 + 0 = g.val
    omega
  · match d with
    | ⟨0, _⟩ => exact (Nat.zero_add _).symm
    | ⟨1, _⟩ => rfl

theorem gx_apply : R.gx b (ix1 g) = b (ix2 g 0) := slice_apply b g 0 _ _
theorem gy_apply : R.gy b (ix1 g) = b (ix2 g 1) := slice_apply b g 1 _ _
theorem gw_apply : R.gw b (ix1 g) = b (ix2 g 2) := slice_apply b g 2 _ _
theorem gh_apply : R.gh b (ix1 g) = b (ix2 g 3) := slice_apply b g 3 _ _

/-- The two programs' overlaps are one. -/
theorem ov_apply (A : KI.Anchors Ideal) (i : Cert.KernelIdeal.S8x128.Idx) (n : Fin 36864) (h1 : A.ax i = R.ax (ix1 n)) (h2 : A.ay i = R.ay (ix1 n))
    (h3 : A.ax2 i = R.ax2 (ix1 n)) (h4 : A.ay2 i = R.ay2 (ix1 n)) (h5 : A.area i = R.area (ix1 n)) :
    KI.ovBox A b g i = R.ov b (ix2 n g) := by
  have hi : R.inter b (ix2 n g) = FloatOps.mulf (F := Ideal) (φ := .f32)
      (FloatOps.maximumf (F := Ideal) (φ := .f32) (Ideal.ofBits .f32 0x00000000#32) (FloatOps.addf (F := Ideal) (φ := .f32) (FloatOps.subf (F := Ideal) (φ := .f32)
        (FloatOps.minimumf (F := Ideal) (φ := .f32) (R.ax2 (ix1 n)) (FloatOps.subf (F := Ideal) (φ := .f32) (FloatOps.addf (F := Ideal) (φ := .f32) (b (ix2 g 0)) (b (ix2 g 2))) (Ideal.ofBits .f32 0x3F800000#32)))
        (FloatOps.maximumf (F := Ideal) (φ := .f32) (R.ax (ix1 n)) (b (ix2 g 0)))) (Ideal.ofBits .f32 0x3F800000#32)))
      (FloatOps.maximumf (F := Ideal) (φ := .f32) (Ideal.ofBits .f32 0x00000000#32) (FloatOps.addf (F := Ideal) (φ := .f32) (FloatOps.subf (F := Ideal) (φ := .f32)
        (FloatOps.minimumf (F := Ideal) (φ := .f32) (R.ay2 (ix1 n)) (FloatOps.subf (F := Ideal) (φ := .f32) (FloatOps.addf (F := Ideal) (φ := .f32) (b (ix2 g 1)) (b (ix2 g 3))) (Ideal.ofBits .f32 0x3F800000#32)))
        (FloatOps.maximumf (F := Ideal) (φ := .f32) (R.ay (ix1 n)) (b (ix2 g 1)))) (Ideal.ofBits .f32 0x3F800000#32))) := by
    rw [← gx_apply b g, ← gy_apply b g, ← gw_apply b g, ← gh_apply b g]
    unfold R.inter R.common
    show FloatOps.mulf (F := Ideal) (φ := .f32)
      (FloatOps.maximumf (F := Ideal) (φ := .f32) _ (FloatOps.addf (F := Ideal) (φ := .f32) (FloatOps.subf (F := Ideal) (φ := .f32)
        (FloatOps.minimumf (F := Ideal) (φ := .f32) (R.ofAnchor R.ax2 (ix2 n g)) (R.ofBox (R.far (R.gx b) (R.gw b)) (ix2 n g)))
        (FloatOps.maximumf (F := Ideal) (φ := .f32) (R.ofAnchor R.ax (ix2 n g)) (R.ofBox (R.gx b) (ix2 n g)))) _))
      (FloatOps.maximumf (F := Ideal) (φ := .f32) _ (FloatOps.addf (F := Ideal) (φ := .f32) (FloatOps.subf (F := Ideal) (φ := .f32)
        (FloatOps.minimumf (F := Ideal) (φ := .f32) (R.ofAnchor R.ay2 (ix2 n g)) (R.ofBox (R.far (R.gy b) (R.gh b)) (ix2 n g)))
        (FloatOps.maximumf (F := Ideal) (φ := .f32) (R.ofAnchor R.ay (ix2 n g)) (R.ofBox (R.gy b) (ix2 n g)))) _)) = _
    rw [ofAnchor_apply, ofAnchor_apply, ofAnchor_apply, ofAnchor_apply, ofBox_apply, ofBox_apply, ofBox_apply, ofBox_apply]
    rfl
  have hu : R.iou b (ix2 n g) = FloatOps.divf (F := Ideal) (φ := .f32) (R.inter b (ix2 n g)) (FloatOps.subf (F := Ideal) (φ := .f32)
      (FloatOps.addf (F := Ideal) (φ := .f32) (R.area (ix1 n)) (FloatOps.mulf (F := Ideal) (φ := .f32) (b (ix2 g 2)) (b (ix2 g 3)))) (R.inter b (ix2 n g))) := by
    rw [← gw_apply b g, ← gh_apply b g]
    unfold R.iou
    show FloatOps.divf (F := Ideal) (φ := .f32) (R.inter b (ix2 n g)) (FloatOps.subf (F := Ideal) (φ := .f32)
      (FloatOps.addf (F := Ideal) (φ := .f32) (R.ofAnchor R.area (ix2 n g)) (R.ofBox (mulf (R.gw b) (R.gh b)) (ix2 n g))) (R.inter b (ix2 n g))) = _
    rw [ofAnchor_apply, ofBox_apply]
    rfl
  have ho : R.ov b (ix2 n g) = Scalar.select (FloatOps.cmpf (F := Ideal) (φ := .f32) .oeq (R.iou b (ix2 n g)) (Ideal.ofBits .f32 0x00000000#32))
      (Ideal.ofBits .f32 0x2EDBE6FF#32) (R.iou b (ix2 n g)) := rfl
  rw [ho, hu, hi, ← h1, ← h2, ← h3, ← h4, ← h5]
  rfl

end Boxes

theorem masked_apply (b : FVec Ideal Cert.ReferenceIdeal.S32x4 .f32) (n : Fin 36864) (g : Fin 32) :
    R.masked b (ix2 n g) = Scalar.select (R.keep (ix1 n)) (R.ov b (ix2 n g)) (Ideal.ofBits .f32 0xBF800000#32) := by
  rw [← ofAnchor_apply R.keep n g]; rfl

/-! ## The chunks -/

/-- The number of a chunk's slot. -/
def slot (k : Fin 36) (r : Fin 8) (l : Fin 128) : Fin 36864 := ⟨1024 * k.val + 128 * r.val + l.val, by omega⟩

theorem slot_num (k : Fin 36) (r : Fin 8) (l : Fin 128) (h : 8 * k.val + r.val < 288) : num ⟨8 * k.val + r.val, h⟩ l = slot k r l :=
  Fin.ext (by unfold num slot; dsimp only; omega)

section Chunk
variable (k : Fin 36) (r : Fin 8) (l : Fin 128)

theorem chunk_ov (b : FVec Ideal Cert.ReferenceIdeal.S32x4 .f32) (g : Fin 32) :
    KI.ovBox (KI.anchors KI.cons k) b g (ix2 r l) = R.ov b (ix2 (slot k r l) g) := by
  have hk : 8 * k.val + r.val < 288 := by omega
  rw [← slot_num k r l hk]
  exact ov_apply b g _ _ _ (plane_ax _ _) (plane_ay _ _) (plane_ax2 _ _) (plane_ay2 _ _) (plane_area _ _)

theorem chunk_keep : (KI.anchors KI.cons k).keep (ix2 r l) = R.keep (ix1 (slot k r l)) := by
  have hk : 8 * k.val + r.val < 288 := by omega
  rw [← slot_num k r l hk]
  exact plane_keep _ _

theorem chunk_lin : (KI.anchors KI.cons k).lin (ix2 r l) = BitVec.ofNat 32 (slot k r l).val := by
  have h0 : iota .tc Cert.KernelIdeal.S8x128 32 [0] Cert.KernelIdeal.Facts₀.iota_S8x128_d0_w32 (ix2 r l) = BitVec.ofNat 32 r.val :=
    iota_single_apply _ _ _ _ _ _
  have h1 : iota .tc Cert.KernelIdeal.S8x128 32 [1] Cert.KernelIdeal.Facts₀.iota_S8x128_d1_w32 (ix2 r l) = BitVec.ofNat 32 l.val :=
    iota_single_apply _ _ _ _ _ _
  show iota .tc Cert.KernelIdeal.S8x128 32 [0] _ (ix2 r l) * 128#32 + iota .tc Cert.KernelIdeal.S8x128 32 [1] _ (ix2 r l) + (0#32 + BitVec.ofNat 32 k.val * 1#32) * 1024#32 = _
  rw [h0, h1]
  apply BitVec.eq_of_toNat_eq
  have := k.isLt; have := r.isLt; have := l.isLt
  unfold slot
  simp only [BitVec.toNat_add, BitVec.toNat_mul, BitVec.toNat_ofNat]
  omega

theorem chunk_masked (b : FVec Ideal Cert.ReferenceIdeal.S32x4 .f32) (g : Fin 32) :
    KI.masked (KI.anchors KI.cons k) (KI.ovBox (KI.anchors KI.cons k) b g) (ix2 r l) = R.masked b (ix2 (slot k r l) g) := by
  rw [masked_apply, ← chunk_keep, ← chunk_ov]
  rfl

end Chunk

end Cert.Proof

end
-- ==== Proof.Best.lean ====
/-
  The first index of a greatest value: what finds it by folds over pieces in any order, ties broken by the index, finds
  the same one.
-/
module

public import proofs.«01_k».proof.Defs
public import Idealize.ShloMosaic.Lib.ValueIdx
public import Idealize.ShloMosaic.PureOps.Reduce

@[expose] public section

noncomputable section

namespace Cert.Proof.Best

open Idealize.ShloMosaic

/-- Of the values at the indices in `S`: the greatest, and the first index that has it. Of no values, or of values that are
    all −∞, the index may be zero whether in `S` or not. -/
structure Top {n : Nat} (x : Fin n → EReal) (S : Fin n → Prop) (v : EReal) (w : BitVec 32) : Prop where
  le : ∀ i, S i → x i ≤ v
  first : ∀ i, S i → x i = v → w.toNat ≤ i.val
  hit : (v = ⊥ ∧ w = 0#32) ∨ ∃ i, S i ∧ v = x i ∧ w = BitVec.ofNat 32 i.val

theorem toNat_ofNat {i : Nat} (h : i < 36864) : (BitVec.ofNat 32 i).toNat = i := by
  rw [BitVec.toNat_ofNat]; exact Nat.mod_eq_of_lt (by omega)

variable {n : Nat} {x : Fin n → EReal}

theorem Top.le_of (hn : 0 < n) (hn' : n ≤ 36864) {v : EReal} {w w' : BitVec 32} (h : Top x (fun _ => True) v w)
    (h' : Top x (fun _ => True) v w') : w.toNat ≤ w'.toNat := by
  rcases h'.hit with ⟨hv, hw⟩ | ⟨i, -, hv, hw⟩
  · have h0 := h.first ⟨0, hn⟩ trivial (le_antisymm (h.le _ trivial) (hv ▸ bot_le))
    rw [hw]; exact h0
  · have := h.first i trivial hv.symm
    rw [hw, toNat_ofNat (by omega)]; exact this

/-- There is one such index. -/
theorem Top.unique (hn : 0 < n) (hn' : n ≤ 36864) {v v' : EReal} {w w' : BitVec 32} (h : Top x (fun _ => True) v w)
    (h' : Top x (fun _ => True) v' w') : w = w' := by
  have le : ∀ {v v' : EReal} {w w' : BitVec 32}, Top x (fun _ => True) v w → Top x (fun _ => True) v' w' → v ≤ v' := by
    intro v v' w w' h h'
    rcases h.hit with ⟨hv, -⟩ | ⟨i, -, hv, -⟩
    · rw [hv]; exact bot_le
    · rw [hv]; exact h'.le i trivial
  obtain rfl := le_antisymm (le h h') (le h' h)
  exact BitVec.eq_of_toNat_eq (le_antisymm (h.le_of hn hn' h') (h'.le_of hn hn' h))

theorem Top.congr {S S' : Fin n → Prop} {v : EReal} {w : BitVec 32} (h : Top x S v w) (e : ∀ i, S i ↔ S' i) : Top x S' v w := by
  obtain rfl : S = S' := funext fun i => propext (e i)
  exact h

theorem Top.lt (hn : 0 < n) (hn' : n ≤ 36864) {S : Fin n → Prop} {v : EReal} {w : BitVec 32} (h : Top x S v w) : w.toNat < n := by
  rcases h.hit with ⟨-, hw⟩ | ⟨i, -, -, hw⟩
  · rw [hw]; exact hn
  · rw [hw, toNat_ofNat (by omega)]; exact i.isLt

/-- Of no indices. -/
theorem Top.empty : Top x (fun _ => False) ⊥ 0#32 := ⟨fun _ h => h.elim, fun _ h => h.elim, .inl ⟨rfl, rfl⟩⟩

/-- One more index, past the others. -/
theorem Top.step (hn' : n ≤ 36864) {S : Fin n → Prop} {v : EReal} {w : BitVec 32} (h : Top x S v w) (j : Fin n) (hS : ∀ i, S i → i < j) :
    Top x (fun i => S i ∨ i = j) (if v < x j then x j else v) (if v < x j then BitVec.ofNat 32 j.val else w) := by
  by_cases hj : v < x j
  · rw [if_pos hj, if_pos hj]
    refine ⟨?_, ?_, .inr ⟨j, .inr rfl, rfl, rfl⟩⟩
    · rintro i (hi | rfl)
      · exact (h.le i hi).trans hj.le
      · exact le_refl _
    · rintro i (hi | rfl) he
      · exact absurd (he ▸ h.le i hi) (not_le.mpr hj)
      · rw [toNat_ofNat (by omega)]
  · rw [if_neg hj, if_neg hj]
    refine ⟨?_, ?_, ?_⟩
    · rintro i (hi | rfl)
      · exact h.le i hi
      · exact not_lt.mp hj
    · rintro i (hi | rfl) he
      · exact h.first i hi he
      · rcases h.hit with ⟨-, hw⟩ | ⟨k, hk, -, hw⟩
        · rw [hw]; exact Nat.zero_le _
        · rw [hw, toNat_ofNat (by omega)]; exact (hS k hk).le
    · rcases h.hit with hv | ⟨k, hk, hv, hw⟩
      · exact .inl hv
      · exact .inr ⟨k, .inl hk, hv, hw⟩

/-- Pieces joined: the greatest of the pieces' greatest, and the least of the indices of the pieces that have it. -/
theorem Top.join {m : Nat} (hm : 0 < m) (hn : 0 < n) (hn' : n ≤ 36864) {S : Fin m → Fin n → Prop} {A : Fin m → EReal} {I : Fin m → BitVec 32}
    (h : ∀ r, Top x (S r) (A r) (I r)) {v : EReal} {w : BitVec 32} (hv : ∀ r, A r ≤ v) (hv' : v = ⊥ ∨ ∃ r, v = A r)
    (hw : ∀ r, w.toInt ≤ (if A r = v then I r else 36864#32).toInt)
    (hw' : w = 2147483647#32 ∨ ∃ r, w = if A r = v then I r else 36864#32) : Top x (fun i => ∃ r, S r i) v w := by
  have hI : ∀ r, (I r).toInt = (I r).toNat := fun r => by
    have := (h r).lt hn hn'
    rw [BitVec.toInt_eq_toNat_of_lt (by omega)]
  obtain ⟨r0, h0⟩ : ∃ r, A r = v := by
    rcases hv' with e | ⟨r, e⟩
    · exact ⟨⟨0, hm⟩, le_antisymm (hv _) (e ▸ bot_le)⟩
    · exact ⟨r, e.symm⟩
  have hle := hw r0
  rw [if_pos h0, hI r0] at hle
  have hlt := (h r0).lt hn hn'
  obtain ⟨r1, e⟩ : ∃ r, w = if A r = v then I r else 36864#32 := by
    rcases hw' with e | e
    · rw [e, show (2147483647#32 : BitVec 32).toInt = 2147483647 from by decide] at hle; omega
    · exact e
  by_cases h1 : A r1 = v
  · rw [if_pos h1] at e
    refine ⟨?_, ?_, ?_⟩
    · rintro i ⟨r, hi⟩
      exact ((h r).le i hi).trans (hv r)
    · rintro i ⟨r, hi⟩ he
      have hr : A r = v := le_antisymm (hv r) (he ▸ (h r).le i hi)
      have h2 := hw r
      rw [if_pos hr, hI r, e, hI r1] at h2
      have h3 := (h r).first i hi (he.trans hr.symm)
      rw [e]; omega
    · rcases (h r1).hit with ⟨a, b⟩ | ⟨i, hi, a, b⟩
      · exact .inl ⟨h1 ▸ a, e.trans b⟩
      · exact .inr ⟨i, ⟨r1, hi⟩, h1 ▸ a, e.trans b⟩
  · rw [if_neg h1] at e
    rw [e, show (36864#32 : BitVec 32).toInt = 36864 from by decide] at hle; omega

/-! ## The reference's fold -/

/-- The greater of two values with its index; of equal ones, the lesser index. -/
def pick (a b : EReal × BitVec 32) : EReal × BitVec 32 :=
  (if b.1 < a.1 then a.1 else b.1, if b.1 < a.1 ∨ (a.1 = b.1 ∧ a.2.toInt < b.2.toInt) then a.2 else b.2)

/-- A pair comes no later than another. -/
def Past (p q : EReal × BitVec 32) : Prop := q.1 < p.1 ∨ (q.1 = p.1 ∧ p.2.toInt ≤ q.2.toInt)

theorem Past.trans {p q r : EReal × BitVec 32} (h : Past p q) (h' : Past q r) : Past p r := by
  rcases h with h | ⟨h, h2⟩ <;> rcases h' with h' | ⟨h', h3⟩
  · exact .inl (h'.trans h)
  · exact .inl (h' ▸ h)
  · exact .inl (h ▸ h')
  · exact .inr ⟨h'.trans h, h2.trans h3⟩

theorem pick_spec (a b : EReal × BitVec 32) : (pick a b = a ∨ pick a b = b) ∧ Past (pick a b) a ∧ Past (pick a b) b := by
  rcases lt_trichotomy b.1 a.1 with h | h | h
  · have e : pick a b = a := by unfold pick; rw [if_pos h, if_pos (.inl h)]
    rw [e]; exact ⟨.inl rfl, .inr ⟨rfl, le_refl _⟩, .inl h⟩
  · by_cases h2 : a.2.toInt < b.2.toInt
    · have e : pick a b = a := by unfold pick; rw [if_neg (h ▸ lt_irrefl _), if_pos (.inr ⟨h.symm, h2⟩), h]
      rw [e]; exact ⟨.inl rfl, .inr ⟨rfl, le_refl _⟩, .inr ⟨h, h2.le⟩⟩
    · have e : pick a b = b := by unfold pick; rw [if_neg (h ▸ lt_irrefl _), if_neg (by rintro (h3 | h3); exact absurd h3 (h ▸ lt_irrefl _); exact h2 h3.2)]
      rw [e]; exact ⟨.inr rfl, .inr ⟨h.symm, not_lt.mp h2⟩, .inr ⟨rfl, le_refl _⟩⟩
  · have e : pick a b = b := by
      unfold pick; rw [if_neg (not_lt.mpr h.le), if_neg (by rintro (h3 | h3); exact absurd h3 (not_lt.mpr h.le); exact absurd h3.1 h.ne)]
    rw [e]; exact ⟨.inr rfl, .inl h, .inr ⟨rfl, le_refl _⟩⟩

theorem foldl_pick (L : List (EReal × BitVec 32)) (a : EReal × BitVec 32) :
    (L.foldl pick a = a ∨ L.foldl pick a ∈ L) ∧ Past (L.foldl pick a) a ∧ ∀ q ∈ L, Past (L.foldl pick a) q := by
  induction L generalizing a with
  | nil => exact ⟨.inl rfl, .inr ⟨rfl, le_refl _⟩, fun _ h => absurd h List.not_mem_nil⟩
  | cons b L ih =>
    obtain ⟨h1, h2, h3⟩ := ih (pick a b)
    obtain ⟨k1, k2, k3⟩ := pick_spec a b
    rw [List.foldl_cons]
    refine ⟨?_, h2.trans k2, fun q hq => ?_⟩
    · rcases h1 with h1 | h1
      · rcases k1 with k1 | k1
        · exact .inl (h1.trans k1)
        · exact .inr (by rw [h1, k1]; exact List.mem_cons_self)
      · exact .inr (List.mem_cons_of_mem _ h1)
    · rcases List.mem_cons.mp hq with rfl | hq
      · exact h2.trans k3
      · exact h3 q hq

/-- Its result, over all the values in any order. -/
theorem foldl_pick_top (hn' : n ≤ 36864) (L : List (EReal × BitVec 32)) (h : ∀ p ∈ L, ∃ i : Fin n, p = (x i, BitVec.ofNat 32 i.val))
    (h' : ∀ i : Fin n, (x i, BitVec.ofNat 32 i.val) ∈ L) :
    Top x (fun _ => True) (L.foldl pick (⊥, 0#32)).1 (L.foldl pick (⊥, 0#32)).2 := by
  obtain ⟨h1, h2, h3⟩ := foldl_pick L (⊥, 0#32)
  have hi : ∀ i : Fin n, (BitVec.ofNat 32 i.val).toInt = i.val := fun i => by
    rw [BitVec.toInt_eq_toNat_of_lt (by rw [toNat_ofNat (by omega)]; omega), toNat_ofNat (by omega)]
  have hit : ((L.foldl pick (⊥, 0#32)).1 = ⊥ ∧ (L.foldl pick (⊥, 0#32)).2 = 0#32)
      ∨ ∃ i : Fin n, True ∧ (L.foldl pick (⊥, 0#32)).1 = x i ∧ (L.foldl pick (⊥, 0#32)).2 = BitVec.ofNat 32 i.val := by
    rcases h1 with e | e
    · exact .inl (by rw [e]; exact ⟨rfl, rfl⟩)
    · obtain ⟨i, e⟩ := h _ e
      exact .inr ⟨i, trivial, by rw [e], by rw [e]⟩
  have hint : (L.foldl pick (⊥, 0#32)).2.toInt = (L.foldl pick (⊥, 0#32)).2.toNat := by
    rcases hit with ⟨-, e⟩ | ⟨i, -, -, e⟩
    · rw [e]; rfl
    · rw [e, hi i, toNat_ofNat (by omega)]
  refine ⟨fun i _ => ?_, fun i _ he => ?_, hit⟩
  · rcases h3 _ (h' i) with h | h
    · exact h.le
    · exact h.1.le
  · rcases h3 _ (h' i) with h | h
    · exact absurd h (he ▸ lt_irrefl _)
    · have := h.2
      rw [hint, hi i] at this
      omega

/-! ## The folds over a set -/

theorem fold_max {ι : Type} (F : Finset ι) (f : ι → EReal) (a : EReal) (op : EReal → EReal → EReal) [Std.Commutative op] [Std.Associative op]
    (hop : ∀ a b, op a b = max a b) :
    (∀ i ∈ F, f i ≤ F.fold op a f) ∧ (F.fold op a f = a ∨ ∃ i ∈ F, F.fold op a f = f i) := by
  classical
  induction F using Finset.induction with
  | empty => exact ⟨fun i hi => absurd hi (Finset.notMem_empty i), .inl rfl⟩
  | insert j F hj ih =>
    rw [Finset.fold_insert hj, hop]
    obtain ⟨h1, h2⟩ := ih
    refine ⟨fun i hi => ?_, ?_⟩
    · rcases Finset.mem_insert.mp hi with rfl | hi
      · exact le_max_left _ _
      · exact (h1 i hi).trans (le_max_right _ _)
    · rcases max_choice (f j) (F.fold op a f) with e | e
      · exact .inr ⟨j, Finset.mem_insert_self _ _, e⟩
      · rcases h2 with h2 | ⟨i, hi, h2⟩
        · exact .inl (e.trans h2)
        · exact .inr ⟨i, Finset.mem_insert_of_mem hi, e.trans h2⟩

theorem minsi_spec (a b : BitVec 32) : (IntOp.minsi a b = a ∨ IntOp.minsi a b = b) ∧ (IntOp.minsi a b).toInt ≤ a.toInt
    ∧ (IntOp.minsi a b).toInt ≤ b.toInt := by
  unfold IntOp.minsi
  by_cases h : a.toInt < b.toInt
  · rw [if_pos (by rw [BitVec.slt_iff_toInt_lt]; exact h)]; exact ⟨.inl rfl, le_refl _, h.le⟩
  · rw [if_neg (by rw [BitVec.slt_iff_toInt_lt]; exact h)]; exact ⟨.inr rfl, not_lt.mp h, le_refl _⟩

theorem fold_min {ι : Type} (F : Finset ι) (f : ι → BitVec 32) (a : BitVec 32) :
    (∀ i ∈ F, (F.fold IKind.minsi.op a f).toInt ≤ (f i).toInt) ∧ (F.fold IKind.minsi.op a f = a ∨ ∃ i ∈ F, F.fold IKind.minsi.op a f = f i) := by
  classical
  induction F using Finset.induction with
  | empty => exact ⟨fun i hi => absurd hi (Finset.notMem_empty i), .inl rfl⟩
  | insert j F hj ih =>
    rw [Finset.fold_insert hj]
    obtain ⟨h1, h2⟩ := ih
    obtain ⟨k1, k2, k3⟩ := minsi_spec (f j) (F.fold IKind.minsi.op a f)
    refine ⟨fun i hi => ?_, ?_⟩
    · rcases Finset.mem_insert.mp hi with rfl | hi
      · exact k2
      · exact le_trans k3 (h1 i hi)
    · rcases k1 with e | e
      · exact .inr ⟨j, Finset.mem_insert_self _ _, e⟩
      · rcases h2 with h2 | ⟨i, hi, h2⟩
        · exact .inl (e.trans h2)
        · exact .inr ⟨i, Finset.mem_insert_of_mem hi, e.trans h2⟩

end Cert.Proof.Best

end
-- ==== Proof.Anchor.lean ====
/-
  The anchor each box overlaps most: the kernel's search over chunks, then rows, then columns finds the reference's.
-/
module

public import proofs.«01_k».proof.Proof.Values
public import proofs.«01_k».proof.Proof.Best
public import Idealize.ShloMosaic.Lib.ValueLayoutCasts

@[expose] public section

set_option maxRecDepth 16384

noncomputable section

namespace Cert.Proof

open Idealize.ShloMosaic Idealize.ShloMosaic.ValueIdx

theorem negInf : (Ideal.ofBits .f32 0xFF800000#32 : EReal) = ⊥ := by
  show Ideal.ieee 8 23 0xFF800000#32 = ⊥
  unfold Ideal.ieee
  dsimp only
  rw [if_pos (by decide), if_pos (by decide), if_pos (by decide)]

theorem broadcastTo_a1_ab_apply {α : Type} {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    by_cases h1 : a = 1
    · rw [if_pos h1]; have := p.isLt; omega
    · rw [if_neg h1]
  | ⟨1, _⟩ => rfl

theorem select_of {α : Type} (p : Prop) [Decidable p] (a b : α) : Scalar.select (BitVec.ofBool (decide p)) a b = if p then a else b := by
  by_cases h : p
  · rw [if_pos h, decide_eq_true h]; rfl
  · rw [if_neg h, decide_eq_false h]; rfl

/-! ## Dropping an axis -/

theorem drop0 {n0 n1 : Nat} (h : (⟨2, ![n0, n1]⟩ : Shape).ReducesTo [0] ⟨1, ![n1]⟩) (a : Fin n0) (c : Fin n1) : h.drop (ix2 a c) = ix1 c := by
  refine funext fun (d : Fin 1) => Fin.ext ?_
  match d with
  | ⟨0, _⟩ => exact Shape.ReducesTo.drop_apply_val h (ix2 a c) 0
theorem drop1 {n0 n1 : Nat} (h : (⟨2, ![n0, n1]⟩ : Shape).ReducesTo [1] ⟨1, ![n0]⟩) (a : Fin n0) (c : Fin n1) : h.drop (ix2 a c) = ix1 a := by
  refine funext fun (d : Fin 1) => Fin.ext ?_
  match d with
  | ⟨0, _⟩ => exact Shape.ReducesTo.drop_apply_val h (ix2 a c) 0
theorem drop0' {n0 n1 : Nat} (h : (⟨2, ![n0, n1]⟩ : Shape).Reduces [0] ⟨1, ![n1]⟩) (a : Fin n0) (c : Fin n1) : h.drop (ix2 a c) = ix1 c := by
  refine funext fun (d : Fin 1) => Fin.ext ?_
  match d with
  | ⟨0, _⟩ => exact Shape.Reduces.drop_apply_val h (ix2 a c) 0
theorem drop1' {n0 n1 : Nat} (h : (⟨2, ![n0, n1]⟩ : Shape).Reduces [1] ⟨1, ![n0]⟩) (a : Fin n0) (c : Fin n1) : h.drop (ix2 a c) = ix1 a := by
  refine funext fun (d : Fin 1) => Fin.ext ?_
  match d with
  | ⟨0, _⟩ => exact Shape.Reduces.drop_apply_val h (ix2 a c) 0
theorem ix1_inj {n : Nat} {a b : Fin n} (h : (ix1 a : (⟨1, ![n]⟩ : Shape).Idx) = ix1 b) : a = b := congrFun h (0 : Fin 1)

/-! ## The reference -/

section Reference
variable [Cert.ReferenceIdeal.Facts]
open Cert.ReferenceIdeal

theorem pick_of {α β : Type} (p q s : Prop) [Decidable p] [Decidable q] [Decidable s] (x y : α) (u v : β) :
    (Scalar.select (IntOp.ori (BitVec.ofBool (decide p)) 0#1) x y,
      Scalar.select (IntOp.ori (IntOp.ori (BitVec.ofBool (decide p)) 0#1) (IntOp.andi (BitVec.ofBool (decide q)) (BitVec.ofBool (decide s)))) u v)
      = (if p then x else y, if p ∨ (q ∧ s) then u else v) := by
  by_cases h1 : p <;> by_cases h2 : q <;> by_cases h3 : s <;> simp only [h1, h2, h3, decide_true, decide_false, if_true, if_false, true_or, false_or,
    and_true, and_false, or_false] <;> rfl

theorem reducer_eq : reducer_argmax_f32_i32 (F := Ideal) = Best.pick := by
  funext a b
  have h3 : FloatOps.cmpf (F := Ideal) (φ := .f32) .une a.1 a.1 = 0#1 := by
    show BitVec.ofBool (decide (a.1 ≠ a.1)) = 0#1
    simp
  unfold reducer_argmax_f32_i32
  dsimp only
  rw [h3]
  show (Scalar.select (IntOp.ori (BitVec.ofBool (decide ((b.1 : EReal) < a.1))) 0#1) a.1 b.1,
    Scalar.select (IntOp.ori (IntOp.ori (BitVec.ofBool (decide ((b.1 : EReal) < a.1))) 0#1)
      (IntOp.andi (BitVec.ofBool (decide ((a.1 : EReal) = b.1))) (BitVec.ofBool (a.2.slt b.2)))) a.2 b.2) = _
  have hs : a.2.slt b.2 = decide (a.2.toInt < b.2.toInt) := by
    by_cases h : a.2.toInt < b.2.toInt
    · rw [decide_eq_true h]; exact BitVec.slt_iff_toInt_lt.mpr h
    · rw [decide_eq_false h]; exact Bool.eq_false_iff.mpr fun h' => h (BitVec.slt_iff_toInt_lt.mp h')
  rw [hs]
  unfold Best.pick
  exact pick_of _ _ _ _ _ _ _

/-- An index of the greatest along an axis, as the reference finds it. -/
theorem arg_top {n : Nat} (hn' : n ≤ 36864) {s t : Shape} {axes : List (Fin s.rank)} (x : FVec Ideal s .f32) (y : IVec s 32) (h : s.ReducesTo axes t) (j : t.Idx)
    (e : Fin n → s.Idx) (he : ∀ i : s.Idx, h.drop i = j ↔ ∃ k, i = e k) (hy : ∀ k, y (e k) = BitVec.ofNat 32 k.val) :
    ∃ v, Best.Top (fun k => x (e k)) (fun _ => True) v
      (Host.argReduce reducer_argmax_f32_i32 x y (constant S_ .f32 0xFF800000#32 : FVec Ideal S_ .f32) (constantI S_ 32 0#32) h Facts₀.h_S_ j).2 := by
  rw [Ideal.argReduce_eq_reduce2, Host.reduce2_eq_foldl_fiber, reducer_eq]
  refine ⟨((Host.argReduceFiber x y h j).foldl Best.pick (⊥, 0#32)).1, ?_⟩
  have hi : ((constant S_ .f32 0xFF800000#32 : FVec Ideal S_ .f32) (Shape.Idx.first Facts₀.h_S_), constantI S_ 32 0#32 (Shape.Idx.first Facts₀.h_S_))
      = ((⊥ : EReal), 0#32) := Prod.ext negInf rfl
  rw [hi]
  refine Best.foldl_pick_top (x := fun k => x (e k)) hn' _ ?_ ?_
  · intro p hp
    obtain ⟨m, hm, rfl⟩ := List.mem_map.mp hp
    obtain ⟨k, hk⟩ := (he _).mp (of_decide_eq_true (List.mem_filter.mp hm).2)
    exact ⟨k, by rw [hk, hy]⟩
  · intro k
    refine List.mem_map.mpr ⟨s.rowMajor (e k), List.mem_filter.mpr ⟨List.mem_finRange _, ?_⟩, ?_⟩
    · rw [Equiv.symm_apply_apply]
      exact decide_eq_true ((he _).mpr ⟨k, rfl⟩)
    · rw [Equiv.symm_apply_apply, hy]

theorem R.bestAnchor_top (b : FVec Ideal S32x4 .f32) (g : Fin 32) :
    ∃ v, Best.Top (fun n : Fin 36864 => (R.masked b (ix2 n g) : EReal)) (fun _ => True) v (R.bestAnchor b (ix1 g)) := by
  unfold R.bestAnchor
  refine arg_top (n := 36864) le_rfl (R.masked b) (iotaInDim S36864x32 32 0) Facts₀.reducesTo_S36864x32_S32_d0 (ix1 g) (fun n => ix2 n g) ?_ ?_
  · intro i
    obtain ⟨n, g', rfl⟩ := KI.ex2 (n0 := 36864) (n1 := 32) i
    constructor
    · intro h
      have := ix1_inj ((drop0 _ n g').symm.trans h)
      exact ⟨n, by rw [this]⟩
    · rintro ⟨k, hk⟩
      have : g' = g := congrFun hk (1 : Fin 2)
      rw [this]; exact drop0 _ n g
  · intro k; rfl

theorem R.bestBox_top (b : FVec Ideal S32x4 .f32) (n : Fin 36864) :
    ∃ v, Best.Top (fun g : Fin 32 => (R.ov b (ix2 n g) : EReal)) (fun _ => True) v (R.bestBox b (ix1 n)) := by
  unfold R.bestBox
  refine arg_top (n := 32) (by decide) (R.ov b) (iotaInDim S36864x32 32 1) Facts₀.reducesTo_S36864x32_S36864_d1 (ix1 n) (fun g => ix2 n g) ?_ ?_
  · intro i
    obtain ⟨n', g', rfl⟩ := KI.ex2 (n0 := 36864) (n1 := 32) i
    constructor
    · intro h
      have := ix1_inj ((drop1 _ n' g').symm.trans h)
      exact ⟨g', by rw [this]⟩
    · rintro ⟨k, hk⟩
      have : n' = n := congrFun hk (0 : Fin 2)
      rw [this]; exact drop1 _ n g'
  · intro k; rfl

end Reference

/-! ## The kernel -/

section Kernel
variable [Cert.KernelIdeal.Facts]
open Cert.KernelIdeal Cert.KernelIdeal.Facts₀

abbrev cube (A : FVec Ideal S8x128 .f32) : Vec Ideal S1x8x128 .f32 := KI.unit1 (n1 := 8) (n2 := 128) A
abbrev cubeI (I : IVec S8x128 32) : Vec Ideal S1x8x128 .i32 := KI.unit1 (n1 := 8) (n2 := 128) I

/-- The greatest of a column, -/
theorem colMax_spec (A : FVec Ideal S8x128 .f32) (l : Fin 128) :
    (∀ r : Fin 8, (A (ix2 r l) : EReal) ≤ KI.colMax (F := Ideal) (cube A) (ix2 (n0 := 1) (n1 := 128) 0 l))
    ∧ (KI.colMax (F := Ideal) (cube A) (ix2 (n0 := 1) (n1 := 128) 0 l) = (⊥ : EReal)
      ∨ ∃ r : Fin 8, KI.colMax (F := Ideal) (cube A) (ix2 (n0 := 1) (n1 := 128) 0 l) = (A (ix2 r l) : EReal)) := by
  have e : KI.colMax (F := Ideal) (cube A) (ix2 (n0 := 1) (n1 := 128) 0 l)
      = (Finset.univ.filter fun i => reduces_S8x128_S128.drop i = ix1 l).fold (FloatOps.maximumf (F := Ideal) (φ := .f32)) (Ideal.ofBits .f32 0xFF800000#32) A := by
    unfold KI.colMax
    rw [shapeCast_a_1a_apply]
    refine (multiReduction_maximumf_eq_fold _ _ _ _ _ _).trans ?_
    rw [KI.shapeCast_of_unit1]
    rfl
  rw [e]
  obtain ⟨h1, h2⟩ := Best.fold_max (Finset.univ.filter fun i => reduces_S8x128_S128.drop i = ix1 l) A (Ideal.ofBits .f32 0xFF800000#32)
    (FloatOps.maximumf (F := Ideal) (φ := .f32)) (fun _ _ => rfl)
  refine ⟨fun r => h1 _ (Finset.mem_filter.mpr ⟨Finset.mem_univ _, drop0' _ r l⟩), ?_⟩
  rcases h2 with h2 | ⟨i, hi, h2⟩
  · exact .inl (h2.trans negInf)
  · obtain ⟨r, l', rfl⟩ := KI.ex2 (n0 := 8) (n1 := 128) i
    have := ix1_inj ((drop0' _ r l').symm.trans (Finset.mem_filter.mp hi).2)
    subst this
    exact .inr ⟨r, h2⟩

/-- and the least number of those that have it. -/
theorem colIdx_spec (A : FVec Ideal S8x128 .f32) (I : IVec S8x128 32) (l : Fin 128) :
    (∀ r : Fin 8, (KI.colIdx (F := Ideal) (cube A) (cubeI I) (ix2 (n0 := 1) (n1 := 128) 0 l)).toInt
      ≤ (if (A (ix2 r l) : EReal) = KI.colMax (F := Ideal) (cube A) (ix2 (n0 := 1) (n1 := 128) 0 l) then I (ix2 r l) else 36864#32).toInt)
    ∧ (KI.colIdx (F := Ideal) (cube A) (cubeI I) (ix2 (n0 := 1) (n1 := 128) 0 l) = 2147483647#32
      ∨ ∃ r : Fin 8, KI.colIdx (F := Ideal) (cube A) (cubeI I) (ix2 (n0 := 1) (n1 := 128) 0 l)
        = if (A (ix2 r l) : EReal) = KI.colMax (F := Ideal) (cube A) (ix2 (n0 := 1) (n1 := 128) 0 l) then I (ix2 r l) else 36864#32) := by
  generalize hM : KI.colMax (F := Ideal) (cube A) = M
  have e : KI.colIdx (F := Ideal) (cube A) (cubeI I) (ix2 (n0 := 1) (n1 := 128) 0 l)
      = (Finset.univ.filter fun i => reduces_S8x128_S128.drop i = ix1 l).fold IKind.minsi.op 2147483647#32
        (select (cmpf .oeq A (broadcastTo S8x128 M broadcasts_S1x128_S8x128)) I (broadcast S8x128 36864#32)) := by
    unfold KI.colIdx
    rw [shapeCast_a_1a_apply, hM]
    refine (multiReductionI_eq_fold _ _ _ _ rfl _).trans ?_
    rw [KI.shapeCast_of_unit1, KI.shapeCast_of_unit1]
    rfl
  have hf : ∀ r : Fin 8, select (cmpf .oeq A (broadcastTo S8x128 M broadcasts_S1x128_S8x128)) I (broadcast S8x128 36864#32) (ix2 r l)
      = if (A (ix2 r l) : EReal) = M (ix2 (n0 := 1) (n1 := 128) 0 l) then I (ix2 r l) else 36864#32 := by
    intro r
    rw [select_apply, cmpf_apply, broadcastTo_1b_ab_apply]
    exact select_of _ _ _
  rw [e]
  obtain ⟨h1, h2⟩ := Best.fold_min (Finset.univ.filter fun i => reduces_S8x128_S128.drop i = ix1 l)
    (select (cmpf .oeq A (broadcastTo S8x128 M broadcasts_S1x128_S8x128)) I (broadcast S8x128 36864#32)) 2147483647#32
  refine ⟨fun r => hf r ▸ h1 _ (Finset.mem_filter.mpr ⟨Finset.mem_univ _, drop0' _ r l⟩), ?_⟩
  rcases h2 with h2 | ⟨i, hi, h2⟩
  · exact .inl h2
  · obtain ⟨r, l', rfl⟩ := KI.ex2 (n0 := 8) (n1 := 128) i
    have := ix1_inj ((drop0' _ r l').symm.trans (Finset.mem_filter.mp hi).2)
    subst this
    exact .inr ⟨r, h2.trans (hf r)⟩

/-- Of each row, the least number of those that have the greatest. -/
theorem rowIdx_spec (A : FVec Ideal S32x128 .f32) (I : IVec S32x128 32) (g : Fin 32) : ∃ v : EReal,
    (∀ l : Fin 128, (A (ix2 g l) : EReal) ≤ v) ∧ (v = ⊥ ∨ ∃ l : Fin 128, v = A (ix2 g l))
    ∧ (∀ l : Fin 128, (KI.rowIdx (F := Ideal) A I (ix2 (n0 := 32) (n1 := 1) g 0)).toInt ≤ (if (A (ix2 g l) : EReal) = v then I (ix2 g l) else 36864#32).toInt)
    ∧ (KI.rowIdx (F := Ideal) A I (ix2 (n0 := 32) (n1 := 1) g 0) = 2147483647#32
      ∨ ∃ l : Fin 128, KI.rowIdx (F := Ideal) A I (ix2 (n0 := 32) (n1 := 1) g 0) = if (A (ix2 g l) : EReal) = v then I (ix2 g l) else 36864#32) := by
  obtain ⟨M, hM⟩ : ∃ M : FVec Ideal S32 .f32, M = multiReduction .maximumf [1] S32 A 0xFF800000#32 reduces_S32x128_S32 (.inl rfl) rfl := ⟨_, rfl⟩
  have eM : M (ix1 g) = (Finset.univ.filter fun i => reduces_S32x128_S32.drop i = ix1 g).fold (FloatOps.maximumf (F := Ideal) (φ := .f32)) (Ideal.ofBits .f32 0xFF800000#32) A := by
    rw [hM]
    exact multiReduction_maximumf_eq_fold _ _ _ _ _ _
  have e : KI.rowIdx (F := Ideal) A I (ix2 (n0 := 32) (n1 := 1) g 0)
      = (Finset.univ.filter fun i => reduces_S32x128_S32.drop i = ix1 g).fold IKind.minsi.op 2147483647#32
        (select (cmpf .oeq A (broadcastTo S32x128 (shapeCast S32x1 M shapeCasts_S32_S32x1) broadcasts_S32x1_S32x128)) I (broadcast S32x128 36864#32)) := by
    unfold KI.rowIdx
    rw [shapeCast_a_a1_apply, ← hM]
    exact multiReductionI_eq_fold _ _ _ _ rfl _
  have hf : ∀ l : Fin 128, select (cmpf .oeq A (broadcastTo S32x128 (shapeCast S32x1 M shapeCasts_S32_S32x1) broadcasts_S32x1_S32x128)) I (broadcast S32x128 36864#32) (ix2 g l)
      = if (A (ix2 g l) : EReal) = M (ix1 g) then I (ix2 g l) else 36864#32 := by
    intro l
    rw [select_apply, cmpf_apply, broadcastTo_a1_ab_apply, shapeCast_a_a1_apply]
    exact select_of _ _ _
  obtain ⟨k1, k2⟩ := Best.fold_max (Finset.univ.filter fun i => reduces_S32x128_S32.drop i = ix1 g) A (Ideal.ofBits .f32 0xFF800000#32)
    (FloatOps.maximumf (F := Ideal) (φ := .f32)) (fun _ _ => rfl)
  obtain ⟨h1, h2⟩ := Best.fold_min (Finset.univ.filter fun i => reduces_S32x128_S32.drop i = ix1 g)
    (select (cmpf .oeq A (broadcastTo S32x128 (shapeCast S32x1 M shapeCasts_S32_S32x1) broadcasts_S32x1_S32x128)) I (broadcast S32x128 36864#32)) 2147483647#32
  rw [← eM] at k1 k2
  rw [e]
  refine ⟨M (ix1 g), fun l => k1 _ (Finset.mem_filter.mpr ⟨Finset.mem_univ _, drop1' _ g l⟩), ?_,
    fun l => hf l ▸ h1 _ (Finset.mem_filter.mpr ⟨Finset.mem_univ _, drop1' _ g l⟩), ?_⟩
  · rcases k2 with k2 | ⟨i, hi, k2⟩
    · exact .inl (k2.trans negInf)
    · obtain ⟨g', l, rfl⟩ := KI.ex2 (n0 := 32) (n1 := 128) i
      have := ix1_inj ((drop1' _ g' l).symm.trans (Finset.mem_filter.mp hi).2)
      subst this
      exact .inr ⟨l, k2⟩
  · rcases h2 with h2 | ⟨i, hi, h2⟩
    · exact .inl h2
    · obtain ⟨g', l, rfl⟩ := KI.ex2 (n0 := 32) (n1 := 128) i
      have := ix1_inj ((drop1' _ g' l).symm.trans (Finset.mem_filter.mp hi).2)
      subst this
      exact .inr ⟨l, h2.trans (hf l)⟩

variable [Cert.ReferenceIdeal.Facts]

section Box
variable (b : FVec Ideal Cert.ReferenceIdeal.S32x4 .f32) (g : Fin 32)

/-- A box's masked overlaps. -/
abbrev overlaps (n : Fin 36864) : EReal := R.masked b (ix2 n g)

theorem accs_top (r : Fin 8) (l : Fin 128) (k : Nat) (hk : k ≤ 36) :
    Best.Top (overlaps b g) (fun i => ∃ c : Fin 36, c.val < k ∧ i = slot c r l) ((KI.accs b KI.cons g k).1 (ix2 r l)) ((KI.accs b KI.cons g k).2 (ix2 r l)) := by
  induction k with
  | zero =>
    have h0 : (KI.accs b KI.cons g 0).1 (ix2 r l) = (⊥ : EReal) := negInf
    rw [h0]
    exact Best.Top.empty.congr fun i => ⟨fun h => h.elim, fun ⟨c, h, _⟩ => absurd h (Nat.not_lt_zero _)⟩
  | succ k ih =>
    have ih := ih (by omega)
    have hk' : k < 36 := by omega
    have hs := ih.step le_rfl (slot ⟨k, hk'⟩ r l) (by
      rintro i ⟨c, hc, rfl⟩
      show 1024 * c.val + 128 * r.val + l.val < 1024 * k + 128 * r.val + l.val
      omega)
    have e : KI.accs b KI.cons g (k + 1) = KI.upd (KI.anchors KI.cons ⟨k, hk'⟩) (KI.ovBox (KI.anchors KI.cons ⟨k, hk'⟩) b g) (KI.accs b KI.cons g k) := by
      rw [KI.accs, dif_pos hk']
    have e1 : (KI.accs b KI.cons g (k + 1)).1 (ix2 r l) = if ((KI.accs b KI.cons g k).1 (ix2 r l) : EReal) < overlaps b g (slot ⟨k, hk'⟩ r l)
        then overlaps b g (slot ⟨k, hk'⟩ r l) else (KI.accs b KI.cons g k).1 (ix2 r l) := by
      rw [e]
      refine Eq.trans ?_ (select_of _ _ _)
      unfold overlaps
      rw [← chunk_masked ⟨k, hk'⟩ r l b g]
      rfl
    have e2 : (KI.accs b KI.cons g (k + 1)).2 (ix2 r l) = if ((KI.accs b KI.cons g k).1 (ix2 r l) : EReal) < overlaps b g (slot ⟨k, hk'⟩ r l)
        then BitVec.ofNat 32 (slot ⟨k, hk'⟩ r l).val else (KI.accs b KI.cons g k).2 (ix2 r l) := by
      rw [e]
      refine Eq.trans ?_ (select_of _ _ _)
      unfold overlaps
      rw [← chunk_masked ⟨k, hk'⟩ r l b g, ← chunk_lin]
      rfl
    rw [e1, e2]
    refine hs.congr fun i => ⟨?_, ?_⟩
    · rintro (⟨c, hc, rfl⟩ | rfl)
      · exact ⟨c, by omega, rfl⟩
      · exact ⟨⟨k, hk'⟩, Nat.lt_succ_self k, rfl⟩
    · rintro ⟨c, hc, rfl⟩
      rcases Nat.lt_or_eq_of_le (Nat.lt_succ_iff.mp hc) with h | h
      · exact .inl ⟨c, h, rfl⟩
      · exact .inr (by rw [show c = ⟨k, hk'⟩ from Fin.ext h])

theorem cols_top (l : Fin 128) :
    Best.Top (overlaps b g) (fun i => ∃ r : Fin 8, ∃ c : Fin 36, c.val < 36 ∧ i = slot c r l) (KI.maxes b KI.cons (ix2 g l)) (KI.argmaxes b KI.cons (ix2 g l)) :=
  Best.Top.join (by decide) (by decide) le_rfl (fun r => accs_top b g r l 36 le_rfl) (colMax_spec _ l).1 (colMax_spec _ l).2
    (colIdx_spec _ _ l).1 (colIdx_spec _ _ l).2

/-- Each box's best anchor is the reference's. -/
theorem bestAnchor_eq : KI.bestAnchor b KI.cons g = R.bestAnchor b (ix1 g) := by
  obtain ⟨v, h1, h2, h3, h4⟩ := rowIdx_spec (KI.maxes b KI.cons) (KI.argmaxes b KI.cons) g
  have h := Best.Top.join (x := overlaps b g) (m := 128) (by decide) (by decide) le_rfl (fun l => cols_top b g l) h1 h2 h3 h4
  obtain ⟨v', h'⟩ := R.bestAnchor_top b g
  refine Best.Top.unique (by decide) le_rfl (h.congr fun i => ⟨fun _ => trivial, fun _ => ?_⟩) h'
  refine ⟨⟨i.val % 128, Nat.mod_lt _ (by decide)⟩, ⟨i.val / 128 % 8, Nat.mod_lt _ (by decide)⟩, ⟨i.val / 1024, by omega⟩, by dsimp only; omega, Fin.ext ?_⟩
  show i.val = 1024 * (i.val / 1024) + 128 * (i.val / 128 % 8) + i.val % 128
  omega

end Box

end Kernel

end Cert.Proof

end
-- ==== Proof.BestBox.lean ====
/-
  The box each anchor overlaps most: what the kernel keeps, box by box, is the overlap and the coordinates of the
  reference's.
-/
module

public import proofs.«01_k».proof.Proof.Anchor

@[expose] public section

set_option maxRecDepth 16384

noncomputable section

namespace Cert.Proof

open Idealize.ShloMosaic Idealize.ShloMosaic.ValueIdx

variable [Cert.KernelIdeal.Facts]

section Chain
open Cert.KernelIdeal
variable (b : FVec Ideal S32x4 .f32) (A : KI.Anchors Ideal) (i : S8x128.Idx)

/-- What is kept after the first `m` boxes is of one of them, the first that has the greatest overlap. -/
def KeptOf (m : Nat) (B : KI.Best Ideal) (g : Fin 32) : Prop :=
  g.val < m ∧ B.ov i = KI.ovBox A b g i ∧ B.x i = b (ix2 g 0) ∧ B.y i = b (ix2 g 1) ∧ B.w i = b (ix2 g 2) ∧ B.h i = b (ix2 g 3)
  ∧ ∀ g' : Fin 32, g'.val < m → (KI.ovBox A b g' i : EReal) ≤ KI.ovBox A b g i ∧ ((KI.ovBox A b g' i : EReal) = KI.ovBox A b g i → g.val ≤ g'.val)

theorem kept_first : KeptOf b A i 1 (KI.bestFirst (KI.ovBox A b 0) (KI.box b 0 0) (KI.box b 0 1) (KI.box b 0 2) (KI.box b 0 3)) 0 :=
  ⟨by decide, rfl, rfl, rfl, rfl, rfl, fun g' h => by
    have : g' = 0 := Fin.ext (by change g'.val = 0; omega)
    subst this
    exact ⟨le_rfl, fun _ => le_rfl⟩⟩

theorem kept_next (B : KI.Best Ideal) (g g1 : Fin 32) (h : KeptOf b A i g1.val B g) :
    ∃ g', KeptOf b A i (g1.val + 1) (KI.bestNext B (KI.ovBox A b g1) (KI.box b g1 0) (KI.box b g1 1) (KI.box b g1 2) (KI.box b g1 3)) g' := by
  obtain ⟨h0, ho, hx, hy, hw, hh, hm⟩ := h
  have hc : cmpf .ogt (KI.ovBox A b g1) B.ov i = BitVec.ofBool (decide ((KI.ovBox A b g i : EReal) < KI.ovBox A b g1 i)) := by
    rw [← ho]; rfl
  have sel : ∀ u v : FVec Ideal S8x128 .f32, select (cmpf .ogt (KI.ovBox A b g1) B.ov) u v i
      = if (KI.ovBox A b g i : EReal) < KI.ovBox A b g1 i then u i else v i := by
    intro u v
    rw [select_apply, hc]
    exact select_of _ _ _
  by_cases hlt : (KI.ovBox A b g i : EReal) < KI.ovBox A b g1 i
  · refine ⟨g1, Nat.lt_succ_self _, (sel _ _).trans (if_pos hlt), (sel _ _).trans (if_pos hlt), (sel _ _).trans (if_pos hlt),
      (sel _ _).trans (if_pos hlt), (sel _ _).trans (if_pos hlt), fun g' hg' => ?_⟩
    rcases Nat.lt_or_eq_of_le (Nat.lt_succ_iff.mp hg') with h | h
    · have := ((hm g' h).1).trans_lt hlt
      exact ⟨this.le, fun e => absurd e this.ne⟩
    · rw [Fin.ext h]; exact ⟨le_rfl, fun _ => le_rfl⟩
  · refine ⟨g, by omega, ((sel _ _).trans (if_neg hlt)).trans ho, ((sel _ _).trans (if_neg hlt)).trans hx, ((sel _ _).trans (if_neg hlt)).trans hy,
      ((sel _ _).trans (if_neg hlt)).trans hw, ((sel _ _).trans (if_neg hlt)).trans hh, fun g' hg' => ?_⟩
    rcases Nat.lt_or_eq_of_le (Nat.lt_succ_iff.mp hg') with h | h
    · exact hm g' h
    · rw [Fin.ext h]; exact ⟨not_lt.mp hlt, fun _ => by omega⟩

theorem kept_fold (l : List (Fin 32)) : ∀ (m : Nat) (B : KI.Best Ideal) (g : Fin 32), l.map Fin.val = List.range' m l.length → KeptOf b A i m B g →
    ∃ g', KeptOf b A i (m + l.length)
      (l.foldl (fun B g => KI.bestNext B (KI.ovBox A b g) (KI.box b g 0) (KI.box b g 1) (KI.box b g 2) (KI.box b g 3)) B) g' := by
  induction l with
  | nil => exact fun m B g _ h => ⟨g, h⟩
  | cons g1 l ih =>
    intro m B g hl h
    rw [List.map_cons, List.length_cons, List.range'_succ, List.cons.injEq] at hl
    obtain ⟨rfl, hl⟩ := hl
    obtain ⟨g', h'⟩ := kept_next b A i B g g1 h
    obtain ⟨g'', h''⟩ := ih _ _ g' hl h'
    refine ⟨g'', ?_⟩
    rw [List.foldl_cons, List.length_cons, show g1.val + (l.length + 1) = g1.val + 1 + l.length by omega]
    exact h''

theorem kept_all : ∃ g, KeptOf b A i 32 (KI.bests A b) g :=
  kept_fold b A i KI.restBoxes 1 _ 0 (by decide) (kept_first b A i)

end Chain

variable [Cert.ReferenceIdeal.Facts]

section Place
variable (b : FVec Ideal Cert.ReferenceIdeal.S32x4 .f32)

/-- The greatest overlap of an anchor kept. -/
theorem most_eq (n : Fin 36864) (g : Fin 32) (hk : R.keep (ix1 n) = 1#1) (hm : ∀ g', (R.ov b (ix2 n g') : EReal) ≤ R.ov b (ix2 n g)) :
    R.most b (ix1 n) = R.ov b (ix2 n g) := by
  have hov : ∀ g', R.masked b (ix2 n g') = R.ov b (ix2 n g') := fun g' => by rw [masked_apply, hk]; rfl
  unfold R.most
  refine (Host.reduce_eq_fold _ _ _ _ _ _).trans ?_
  obtain ⟨h1, h2⟩ := Best.fold_max (Finset.univ.filter fun i => Cert.ReferenceIdeal.Facts₀.reducesTo_S36864x32_S36864_d1.drop i = ix1 n) (R.masked b)
    (Ideal.ofBits .f32 0xFF800000#32) (FloatOps.maximumf (F := Ideal) (φ := .f32)) (fun _ _ => rfl)
  refine le_antisymm ?_ ?_
  · rcases h2 with h2 | ⟨i, hi, h2⟩
    · exact (h2.trans negInf).le.trans bot_le
    · obtain ⟨n', g', rfl⟩ := KI.ex2 (n0 := 36864) (n1 := 32) i
      have := ix1_inj ((drop1 _ n' g').symm.trans (Finset.mem_filter.mp hi).2)
      subst this
      exact h2.le.trans ((hov g').le.trans (hm g'))
  · exact (hov g).symm.le.trans (h1 _ (Finset.mem_filter.mpr ⟨Finset.mem_univ _, drop1 _ n g⟩))

/-- An anchor of the kernel's arrays is of one chunk. -/
theorem num_slot (a : Fin 288) (c : Fin 128) (h : a.val / 8 < 36) : slot ⟨a.val / 8, h⟩ ⟨a.val % 8, Nat.mod_lt _ (by decide)⟩ c = num a c :=
  Fin.ext (by unfold num slot; dsimp only; omega)

/-- What the kernel keeps of each anchor. -/
theorem reads_best (a2 : Vec Ideal Cert.KernelIdeal.S2x288x128 .i32) (a : Fin 288) (c : Fin 128) : ∃ g : Fin 32,
    (KI.readsOf b KI.cons a2).ov (ix2 a c) = R.ov b (ix2 (num a c) g)
    ∧ (KI.readsOf b KI.cons a2).x (ix2 a c) = b (ix2 g 0) ∧ (KI.readsOf b KI.cons a2).y (ix2 a c) = b (ix2 g 1)
    ∧ (KI.readsOf b KI.cons a2).w (ix2 a c) = b (ix2 g 2) ∧ (KI.readsOf b KI.cons a2).h (ix2 a c) = b (ix2 g 3)
    ∧ (∀ g', (R.ov b (ix2 (num a c) g') : EReal) ≤ R.ov b (ix2 (num a c) g)) ∧ R.bestBox b (ix1 (num a c)) = BitVec.ofNat 32 g.val := by
  have hk : a.val / 8 < 36 := by omega
  obtain ⟨g, -, ho, hx, hy, hw, hh, hm⟩ := kept_all b (KI.anchors KI.cons ⟨a.val / 8, hk⟩) (ix2 (n0 := 8) (n1 := 128) ⟨a.val % 8, Nat.mod_lt _ (by decide)⟩ c)
  have hov : ∀ g', KI.ovBox (KI.anchors KI.cons ⟨a.val / 8, hk⟩) b g' (ix2 (n0 := 8) (n1 := 128) ⟨a.val % 8, Nat.mod_lt _ (by decide)⟩ c) = R.ov b (ix2 (num a c) g') := by
    intro g'
    rw [chunk_ov, num_slot]
  simp only [hov] at ho hm
  refine ⟨g, ho, hx, hy, hw, hh, fun g' => (hm g' g'.isLt).1, ?_⟩
  obtain ⟨v, hv⟩ := R.bestBox_top b (num a c)
  refine Best.Top.unique (by decide) (by decide) hv (v' := R.ov b (ix2 (num a c) g)) ⟨fun g' _ => (hm g' g'.isLt).1, fun g' _ e => ?_, .inr ⟨g, trivial, rfl, rfl⟩⟩
  rw [Best.toNat_ofNat (by omega)]
  exact (hm g' g'.isLt).2 e

end Place

end Cert.Proof

end
-- ==== Proof.Search.lean ====
/-
  The search for a threshold: after sixteen halvings, the anchors of a mask past the threshold are those that the quota
  or more of the mask's anchors come before.
-/
module

public import proofs.«01_k».proof.Defs
public import proofs.«01_k».proof.Proof.Body
public import Idealize.ShloMosaic.Lib.ValueIdx
public import Idealize.ShloMosaic.Lib.WordCmp
public import Idealize.ShloMosaic.Lib.Affine
public import Idealize.ShloMosaic.Lib.StableHlo.Predicate

@[expose] public section

set_option maxRecDepth 16384

noncomputable section

namespace Cert.Proof.KI

open Cert.KernelIdeal Cert.KernelIdeal.Facts₀
open Idealize.ShloMosaic Idealize.ShloMosaic.ValueIdx Idealize.ShloMosaic.WordCmp

variable [Cert.KernelIdeal.Facts]

theorem bit_eq_one {p : Prop} [Decidable p] : BitVec.ofBool (decide p) = 1#1 ↔ p := by
  by_cases h : p <;> simp [h]

/-! ## Counting -/

theorem fold_addi {ι : Type} (F : Finset ι) (f : ι → BitVec 32) (P : ι → Prop) [DecidablePred P]
    (hf : ∀ i, f i = if P i then 1#32 else 0#32) : F.fold IKind.add.op 0#32 f = BitVec.ofNat 32 (F.filter P).card := by
  classical
  induction F using Finset.induction with
  | empty => rfl
  | insert j F hj ih =>
    rw [Finset.fold_insert hj, ih, hf, Finset.filter_insert]
    by_cases h : P j
    · rw [if_pos h, if_pos h, Finset.card_insert_of_notMem (by simp [hj])]
      show 1#32 + BitVec.ofNat 32 _ = _
      rw [← BitVec.ofNat_add, Nat.add_comm]
    · rw [if_neg h, if_neg h]
      show 0#32 + BitVec.ofNat 32 _ = _
      rw [BitVec.zero_add]

/-- The anchors of a mask. -/
abbrev members (mk : IVec S288x128 1) : Finset S288x128.Idx := Finset.univ.filter fun i => mk i = 1#1

theorem card_idx : Fintype.card S288x128.Idx = 36864 := by
  rw [Fintype.card_congr (idxEquiv2 (n0 := 288) (n1 := 128)), Fintype.card_prod, Fintype.card_fin, Fintype.card_fin]

theorem card_le (p : S288x128.Idx → Prop) [DecidablePred p] : (Finset.univ.filter p).card ≤ 36864 :=
  (Finset.card_le_univ _).trans card_idx.le

/-- The count of a mask. -/
theorem countOf_eq (mk : IVec S288x128 1) : countOf mk = BitVec.ofNat 32 (members mk).card := by
  unfold countOf
  have e : ∀ (v : IVec S1 32) (h : S1.ShapeCasts S1x1x1) (h' : (![0, 0, 0] : Fin 3 → Nat) = ![0, 0, 0]),
      extractAt ![0, 0, 0] (shapeCast S1x1x1 v h) inpos_S1x1x1_p0_0_0 = v (ix1 (n := 1) 0) := by
    intro v h _
    exact shapeCast_apply v h _ _ ((Nat.lt_one_iff.mp (S1.rowMajor _).isLt).trans (Nat.lt_one_iff.mp (S1x1x1.rowMajor _).isLt).symm)
  refine (e _ _ rfl).trans ((multiReductionI_eq_fold _ _ _ _ rfl _).trans ?_)
  refine (fold_addi _ _ (fun i : S1x288x128.Idx => mk (ix2 (n0 := 288) (n1 := 128) (i 1) (i 2)) = 1#1) (fun i => by
    obtain ⟨a, b, c, rfl⟩ := ex3 (n0 := 1) (n1 := 288) (n2 := 128) i
    rw [shapeCast_ab_1ab_apply, extui_apply]
    rcases BitVec.eq_zero_or_eq_one (mk (ix2 (n0 := 288) (n1 := 128) b c)) with h | h
    · rw [h, if_neg (by simp [h])]; rfl
    · rw [h, if_pos (by simp [h])]; rfl)).trans ?_
  congr 1
  rw [Finset.filter_filter]
  refine Finset.card_nbij' (fun i : S1x288x128.Idx => ix2 (n0 := 288) (n1 := 128) (i 1) (i 2))
    (fun i => ix3 (n0 := 1) (n1 := 288) (n2 := 128) 0 (i 0) (i 1)) ?_ ?_ ?_ ?_
  · intro i hi
    have := (Finset.mem_filter.mp hi).2.2
    exact Finset.mem_filter.mpr ⟨Finset.mem_univ _, this⟩
  · intro i hi
    have := (Finset.mem_filter.mp hi).2
    refine Finset.mem_filter.mpr ⟨Finset.mem_univ _, ?_, by rw [eq_ix2 (n0 := 288) (n1 := 128) i] at this; exact this⟩
    refine funext fun (a : Fin 1) => Fin.ext ?_
    have key : ∀ x y : Fin 1, x.val = y.val := by decide
    match a with
    | ⟨0, _⟩ => exact key _ _
  · intro i _
    obtain ⟨a, b, c, rfl⟩ := ex3 (n0 := 1) (n1 := 288) (n2 := 128) i
    obtain rfl : a = 0 := Subsingleton.elim _ _
    rfl
  · intro i _
    exact (eq_ix2 (n0 := 288) (n1 := 128) i).symm

/-! ## Halving -/

theorem toInt_of_lt {a : Nat} (h : a < 2147483648) : (BitVec.ofNat 32 a).toInt = a := by
  rw [BitVec.toInt_eq_toNat_of_lt (by rw [BitVec.toNat_ofNat]; omega), BitVec.toNat_ofNat]; omega

theorem halve_eq (s : BitVec 32) (h : -1 ≤ s.toInt) : (halve s).toInt = s.toInt / 2 := by
  by_cases h1 : s = 4294967295#32
  · subst h1; decide
  by_cases h0 : s = 0#32
  · subst h0; decide
  have hlt := BitVec.toInt_lt (x := s)
  have hpos : 0 < s.toInt := by
    have e0 : s.toInt ≠ 0 := fun e => h0 (BitVec.toInt_inj.mp (e.trans (by decide)))
    have e1 : s.toInt ≠ -1 := fun e => h1 (BitVec.toInt_inj.mp (e.trans (by decide)))
    omega
  have hn : s.toNat < 2147483648 := by
    rcases Nat.lt_or_ge s.toNat 2147483648 with h | h
    · exact h
    · have := s.isLt
      have : s.toInt = (s.toNat : Int) - 4294967296 := by
        rw [BitVec.toInt_eq_toNat_cond, if_neg (by omega)]; rfl
      omega
  have c1 : Scalar.cmpi .sgt s 0#32 = 1#1 := by
    show BitVec.ofBool ((0#32 : BitVec 32).slt s) = 1#1
    rw [(BitVec.slt_iff_toInt_lt).mpr (by simpa using hpos)]; rfl
  have c2 : Scalar.cmpi .slt s 0#32 = 0#1 := by
    show BitVec.ofBool (s.slt 0#32) = 0#1
    rw [show s.slt 0#32 = false from Bool.eq_false_iff.mpr (fun e => by have := BitVec.slt_iff_toInt_lt.mp e; simp at this; omega)]; rfl
  have e : halve s = Scalar.divsi s 2#32 := by
    unfold halve
    rw [c1, c2]
    have : ∀ (c : BitVec 1) (a b : BitVec 32), Scalar.select (Scalar.andi (Scalar.cmpi .ne
        (Scalar.subi (Scalar.extui (1#1 : BitVec 1) : BitVec 32) (Scalar.extui (0#1 : BitVec 1)))
        (Scalar.subi (Scalar.extui (Scalar.cmpi .sgt (2#32 : BitVec 32) 0#32) : BitVec 32) (Scalar.extui (Scalar.cmpi .slt (2#32 : BitVec 32) 0#32)))) c) a b = b := by
      intro c a b
      rw [show (Scalar.cmpi .ne
        (Scalar.subi (Scalar.extui (1#1 : BitVec 1) : BitVec 32) (Scalar.extui (0#1 : BitVec 1)))
        (Scalar.subi (Scalar.extui (Scalar.cmpi .sgt (2#32 : BitVec 32) 0#32) : BitVec 32) (Scalar.extui (Scalar.cmpi .slt (2#32 : BitVec 32) 0#32)))) = 0#1 from by decide]
      rw [show Scalar.andi 0#1 c = 0#1 from by rcases BitVec.eq_zero_or_eq_one c with h | h <;> subst h <;> decide]
      rfl
    exact this _ _ _
  have hd := StableHlo.Predicate.divsi_two .scalar s hn
  rw [e]
  change (IntOp.divsi .scalar s 2#32).toInt = _
  rw [BitVec.toInt_eq_toNat_of_lt (by omega), hd, BitVec.toInt_eq_toNat_of_lt (x := s) (by omega)]
  omega

/-! ## One search -/

/-- How many of a mask's anchors have a position of at most `t`. -/
def upTo (mk : IVec S288x128 1) (pos : IVec S288x128 32) (t : Int) : Nat :=
  (Finset.univ.filter fun i : S288x128.Idx => mk i = 1#1 ∧ (pos i).toInt ≤ t).card

/-- One halving, -/
def half (mk : IVec S288x128 1) (pos : IVec S288x128 32) (q : BitVec 32) (r : BitVec 32 × BitVec 32) : BitVec 32 × BitVec 32 :=
  (Scalar.select (Scalar.cmpi .sge (countOf (andi mk (cmpi .sle pos (broadcast S288x128 (halve (Scalar.addi r.1 r.2)))))) q) r.1 (halve (Scalar.addi r.1 r.2)),
    Scalar.select (Scalar.cmpi .sge (countOf (andi mk (cmpi .sle pos (broadcast S288x128 (halve (Scalar.addi r.1 r.2)))))) q) (halve (Scalar.addi r.1 r.2)) r.2)

/-- and the interval after `n` of them. -/
def searchOne (mk : IVec S288x128 1) (pos : IVec S288x128 32) (q : BitVec 32) : Nat → BitVec 32 × BitVec 32
  | 0 => (4294967295#32, 36863#32)
  | n + 1 => half mk pos q (searchOne mk pos q n)

theorem count_upTo (mk : IVec S288x128 1) (pos : IVec S288x128 32) (t : BitVec 32) :
    countOf (andi mk (cmpi .sle pos (broadcast S288x128 t))) = BitVec.ofNat 32 (upTo mk pos t.toInt) := by
  rw [countOf_eq]
  unfold upTo
  congr 2
  refine Finset.filter_congr fun i _ => ?_
  show IntOp.andi (mk i) (IntOp.cmpi .sle (pos i) t) = 1#1 ↔ _
  rw [cmpi_sle_eq]
  by_cases h : (pos i).toInt ≤ t.toInt
  · rcases BitVec.eq_zero_or_eq_one (mk i) with h1 | h1 <;> simp [h, h1, IntOp.andi]
  · rcases BitVec.eq_zero_or_eq_one (mk i) with h1 | h1 <;> simp [h, h1, IntOp.andi]

/-- What holds of the interval. -/
structure Around (mk : IVec S288x128 1) (pos : IVec S288x128 32) (q : Nat) (n : Nat) (r : BitVec 32 × BitVec 32) : Prop where
  lo : -1 ≤ r.1.toInt
  hi : r.2.toInt ≤ 36863
  lt : r.1.toInt < r.2.toInt
  close : r.2.toInt - r.1.toInt ≤ n
  under : upTo mk pos r.1.toInt < q
  over : q ≤ upTo mk pos r.2.toInt

theorem toInt_add {a b : BitVec 32} (h : -2147483648 ≤ a.toInt + b.toInt) (h' : a.toInt + b.toInt < 2147483648) :
    (Scalar.addi a b).toInt = a.toInt + b.toInt := by
  show (a + b).toInt = _
  rw [BitVec.toInt_add]
  exact Int.bmod_eq_of_le (by omega) (by omega)

theorem Around.step {mk : IVec S288x128 1} {pos : IVec S288x128 32} {q n : Nat} {r : BitVec 32 × BitVec 32} (hq : q ≤ 36864)
    (h : Around mk pos q (2 * n) r) (hn : 1 ≤ n) : Around mk pos q n (half mk pos (BitVec.ofNat 32 q) r) := by
  obtain ⟨lo, hi, lt, close, under, over⟩ := h
  have hs : (Scalar.addi r.1 r.2).toInt = r.1.toInt + r.2.toInt := toInt_add (by omega) (by omega)
  have hm : (halve (Scalar.addi r.1 r.2)).toInt = (r.1.toInt + r.2.toInt) / 2 := by rw [halve_eq _ (by omega), hs]
  have hb := card_le fun i : S288x128.Idx => mk i = 1#1 ∧ (pos i).toInt ≤ (halve (Scalar.addi r.1 r.2)).toInt
  have hb' : upTo mk pos (halve (Scalar.addi r.1 r.2)).toInt ≤ 36864 := hb
  unfold half
  rw [count_upTo]
  generalize halve (Scalar.addi r.1 r.2) = m at *
  have hc : Scalar.cmpi .sge (BitVec.ofNat 32 (upTo mk pos m.toInt)) (BitVec.ofNat 32 q) = BitVec.ofBool (decide (q ≤ upTo mk pos m.toInt)) := by
    show IntOp.cmpi .sge _ _ = _
    rw [cmpi_sge_eq, toInt_of_lt (by omega), toInt_of_lt (by omega)]
    congr 1
    simp
  rw [hc]
  by_cases h : q ≤ upTo mk pos m.toInt
  · rw [decide_eq_true h]
    have hne : m.toInt ≠ r.1.toInt := fun e => by rw [e] at h; omega
    exact ⟨lo, show m.toInt ≤ 36863 by omega, show r.1.toInt < m.toInt by omega, show m.toInt - r.1.toInt ≤ n by omega, under, h⟩
  · rw [decide_eq_false h]
    have hne : m.toInt ≠ r.2.toInt := fun e => by rw [e] at h; omega
    exact ⟨show -1 ≤ m.toInt by omega, hi, show m.toInt < r.2.toInt by omega, show r.2.toInt - m.toInt ≤ n by omega, not_le.mp h, over⟩

theorem around {mk : IVec S288x128 1} {pos : IVec S288x128 32} {q : Nat} (hpos : ∀ i, (pos i).toNat < 36864) (h1 : 1 ≤ q)
    (h2 : q ≤ (members mk).card) (k n : Nat) (hk : k + n = 16) : Around mk pos q (2 ^ k) (searchOne mk pos (BitVec.ofNat 32 q) n) := by
  have hp : ∀ i, (pos i).toInt = (pos i).toNat := fun i => BitVec.toInt_eq_toNat_of_lt (by have := hpos i; omega)
  induction n generalizing k with
  | zero =>
    obtain rfl : k = 16 := by omega
    refine ⟨show -1 ≤ (4294967295#32 : BitVec 32).toInt by decide, show (36863#32 : BitVec 32).toInt ≤ 36863 by decide,
      show (4294967295#32 : BitVec 32).toInt < (36863#32 : BitVec 32).toInt by decide,
      show (36863#32 : BitVec 32).toInt - (4294967295#32 : BitVec 32).toInt ≤ ((2 ^ 16 : Nat) : Int) by decide, ?_, ?_⟩
    · show upTo mk pos (4294967295#32 : BitVec 32).toInt < q
      rw [show (4294967295#32 : BitVec 32).toInt = -1 from by decide]
      unfold upTo
      rw [Finset.filter_false_of_mem (fun i _ h => by have := hp i; omega), Finset.card_empty]; omega
    · show q ≤ upTo mk pos (36863#32 : BitVec 32).toInt
      rw [show (36863#32 : BitVec 32).toInt = 36863 from by decide]
      unfold upTo
      refine h2.trans (le_of_eq (congrArg Finset.card (Finset.filter_congr fun i _ => ?_)))
      have := hp i; have := hpos i
      exact ⟨fun h => ⟨h, by omega⟩, fun h => h.1⟩
  | succ n ih =>
    have := ih (k + 1) (by omega)
    rw [pow_succ, mul_comm] at this
    exact this.step (h2.trans (card_le _)) (Nat.one_le_two_pow)

/-- The mask's anchors past the threshold. -/
theorem search_spec (mk : IVec S288x128 1) (pos : IVec S288x128 32) (hpos : ∀ i, (pos i).toNat < 36864) (k : Nat) (hk : 1 ≤ k) (hk' : k ≤ 36864)
    (i : S288x128.Idx) (hi : mk i = 1#1) :
    (searchOne mk pos (Scalar.minsi (countOf mk) (BitVec.ofNat 32 k)) 16).2.toInt < (pos i).toInt
      ↔ k ≤ (Finset.univ.filter fun j : S288x128.Idx => mk j = 1#1 ∧ (pos j).toNat < (pos i).toNat).card := by
  have hp : ∀ i, (pos i).toInt = (pos i).toNat := fun i => BitVec.toInt_eq_toNat_of_lt (by have := hpos i; omega)
  have hm : i ∈ members mk := Finset.mem_filter.mpr ⟨Finset.mem_univ _, hi⟩
  have hpos1 : 1 ≤ (members mk).card := Finset.card_pos.mpr ⟨i, hm⟩
  have hle : (members mk).card ≤ 36864 := card_le fun i : S288x128.Idx => mk i = 1#1
  have hq : Scalar.minsi (countOf mk) (BitVec.ofNat 32 k) = BitVec.ofNat 32 (min (members mk).card k) := by
    rw [countOf_eq]
    show (if (BitVec.ofNat 32 _).slt (BitVec.ofNat 32 k) then _ else _) = _
    by_cases h : (members mk).card < k
    · rw [if_pos (BitVec.slt_iff_toInt_lt.mpr (by rw [toInt_of_lt (by omega), toInt_of_lt (by omega)]; omega)), min_eq_left h.le]
    · rw [if_neg (fun e => by have := BitVec.slt_iff_toInt_lt.mp e; rw [toInt_of_lt (by omega), toInt_of_lt (by omega)] at this; omega), min_eq_right (not_lt.mp h)]
  rw [hq]
  have hr := around (mk := mk) (q := min (members mk).card k) hpos (by omega) (by omega) 0 16 rfl
  generalize searchOne mk pos (BitVec.ofNat 32 (min (members mk).card k)) 16 = r at hr ⊢
  have hlt : (Finset.univ.filter fun j : S288x128.Idx => mk j = 1#1 ∧ (pos j).toNat < (pos i).toNat).card < (members mk).card := by
    refine Finset.card_lt_card ⟨fun j hj => ?_, fun h => ?_⟩
    · exact Finset.mem_filter.mpr ⟨Finset.mem_univ _, (Finset.mem_filter.mp hj).2.1⟩
    · exact absurd (Finset.mem_filter.mp (h hm)).2.2 (lt_irrefl _)
  have hclose := hr.close
  have h1 := hr.lt
  have hu := hr.under
  have ho := hr.over
  constructor
  · intro h
    have : upTo mk pos r.2.toInt ≤ (Finset.univ.filter fun j : S288x128.Idx => mk j = 1#1 ∧ (pos j).toNat < (pos i).toNat).card := by
      refine Finset.card_le_card fun j hj => ?_
      have := (Finset.mem_filter.mp hj).2
      have a := hp i; have b := hp j
      exact Finset.mem_filter.mpr ⟨Finset.mem_univ _, this.1, by omega⟩
    omega
  · intro h
    by_contra hc
    have : (Finset.univ.filter fun j : S288x128.Idx => mk j = 1#1 ∧ (pos j).toNat < (pos i).toNat).card ≤ upTo mk pos r.1.toInt := by
      refine Finset.card_le_card fun j hj => ?_
      have := (Finset.mem_filter.mp hj).2
      have a := hp i; have b := hp j
      exact Finset.mem_filter.mpr ⟨Finset.mem_univ _, this.1, by simp at hclose; omega⟩
    omega

theorem searchStep_eq (bg fg : IVec S288x128 1) (pbg pfg : IVec S288x128 32) (qbg qfg : BitVec 32) (r : BitVec 32 × BitVec 32 × BitVec 32 × BitVec 32) :
    ((searchStep bg fg pbg pfg qbg qfg r).1, (searchStep bg fg pbg pfg qbg qfg r).2.1) = half bg pbg qbg (r.1, r.2.1)
      ∧ ((searchStep bg fg pbg pfg qbg qfg r).2.2.1, (searchStep bg fg pbg pfg qbg qfg r).2.2.2) = half fg pfg qfg (r.2.2.1, r.2.2.2) := by
  unfold searchStep half
  dsimp only
  refine ⟨?_, ?_⟩
  · trivial
  · trivial

/-- The two searches of the body. -/
theorem searchAt_eq {F : FTy → Type} [FloatOps F] (R : Reads F) (lab : IVec S288x128 32) (n : Nat) :
    ((searchAt R lab n).1, (searchAt R lab n).2.1) = searchOne (isLabel lab 0#32) R.pbg (quotaBg lab) n
      ∧ ((searchAt R lab n).2.2.1, (searchAt R lab n).2.2.2) = searchOne (isLabel lab 1#32) R.pfg (quotaFg lab) n := by
  induction n with
  | zero => exact ⟨rfl, rfl⟩
  | succ n ih =>
    rw [searchAt, searchOne, searchOne, ← ih.1, ← ih.2]
    exact searchStep_eq _ _ _ _ _ _ _

end Cert.Proof.KI

end
-- ==== Proof.Label0.lean ====
/-
  The labels before subsampling: the kernel's are the reference's.
-/
module

public import proofs.«01_k».proof.Proof.BestBox
public import proofs.«01_k».proof.Proof.Search
public import Idealize.ShloMosaic.Lib.Routing.OpsSet

@[expose] public section

set_option maxRecDepth 16384

noncomputable section

namespace Cert.Proof

open Idealize.ShloMosaic Idealize.ShloMosaic.ValueIdx

/-- An update of a scatter of `M` scalars into a line of `N` lands where its index says. -/
theorem lands {N M : Nat} (d : ScatterDims ⟨1, ![N]⟩ ⟨2, ![M, 1]⟩ ⟨1, ![M]⟩) (h1 : d.insertedWindowDims = [0]) (h2 : d.scatterDimsToOperandDims = [0])
    (h3 : d.indexVectorDim = 1) (idx : IVec ⟨2, ![M, 1]⟩ 32) (i : Fin M) (x : Fin N) :
    d.resultIdx? (ix1 i) idx = some (ix1 x) ↔ (idx (ix2 i (0 : Fin 1))).toInt = (x.val : Int) := by
  have hm : (0 : Fin 1) ∈ d.scatterDimsToOperandDims := h2 ▸ List.mem_singleton.mpr rfl
  have hw : d.window (ix1 i) 0 = 0 := by
    unfold ScatterDims.window
    refine dif_neg fun h => ?_
    have h4 := (List.mem_filter.mp h).2
    have h5 := of_decide_eq_true h4
    exact h5 (by rw [h1]; exact List.mem_singleton.mpr rfl)
  have hs : d.start (ix1 i) idx 0 = (idx (ix2 i (0 : Fin 1))).toInt := by
    unfold ScatterDims.start
    rw [dif_pos hm]
    refine congrArg (fun y => (idx y).toInt) (funext fun b => Fin.ext ?_)
    match b with
    | ⟨0, _⟩ =>
      unfold ScatterDims.siIdx
      rw [dif_neg (by rw [h3]; exact Nat.zero_ne_one)]
      unfold ScatterDims.siCoord
      have e : ∀ X : Fin 1, (ix1 i X).val = i.val := fun X => match X with | ⟨0, _⟩ => rfl
      exact e _
    | ⟨1, _⟩ =>
      unfold ScatterDims.siIdx
      rw [dif_pos (by rw [h3])]
      show List.idxOf (0 : Fin 1) d.scatterDimsToOperandDims = 0
      rw [h2]; simp
  rw [Routing.resultIdx?_ix1, hs, hw]
  omega

/-- Whether a bit is set by any of a list. -/
theorem any_of {ι : Type} {s : Shape} (l : List ι) (f : ι → IVec s 1) (i : s.Idx) : ∀ r : IVec s 1,
    (l.foldl (fun acc g => ori acc (f g)) r) i = 1#1 ↔ r i = 1#1 ∨ ∃ g ∈ l, f g i = 1#1 := by
  induction l with
  | nil => intro r; simp
  | cons g l ih =>
    intro r
    rw [List.foldl_cons, ih]
    have : ori r (f g) i = 1#1 ↔ r i = 1#1 ∨ f g i = 1#1 := by
      show r i ||| f g i = 1#1 ↔ _
      rcases BitVec.eq_zero_or_eq_one (r i) with h | h <;> rcases BitVec.eq_zero_or_eq_one (f g i) with h' | h' <;> rw [h, h'] <;> decide
    rw [this, List.exists_mem_cons_iff, or_assoc]

variable [Cert.KernelIdeal.Facts] [Cert.ReferenceIdeal.Facts]

/-- An anchor's number in the kernel's arrays. -/
theorem anchorNo_apply (a : Fin 288) (c : Fin 128) : KI.anchorNo (ix2 a c) = BitVec.ofNat 32 (num a c).val := by
  have h0 : iota .tc Cert.KernelIdeal.S288x128 32 [0] Cert.KernelIdeal.Facts₀.iota_S288x128_d0_w32 (ix2 a c) = BitVec.ofNat 32 a.val :=
    iota_single_apply _ _ _ _ _ _
  have h1 : iota .tc Cert.KernelIdeal.S288x128 32 [1] Cert.KernelIdeal.Facts₀.iota_S288x128_d1_w32 (ix2 a c) = BitVec.ofNat 32 c.val :=
    iota_single_apply _ _ _ _ _ _
  unfold KI.anchorNo
  show iota .tc Cert.KernelIdeal.S288x128 32 [0] _ (ix2 a c) * 128#32 + iota .tc Cert.KernelIdeal.S288x128 32 [1] _ (ix2 a c) = _
  rw [h0, h1]
  apply BitVec.eq_of_toNat_eq
  rw [BitVec.toNat_add, BitVec.toNat_mul]
  simp only [BitVec.toNat_ofNat]
  unfold num
  dsimp only
  omega

theorem select0 {α : Type} (x y : α) : Scalar.select 0#1 x y = y := rfl
theorem select1 {α : Type} (x y : α) : Scalar.select 1#1 x y = x := rfl

theorem byOverlap_apply (m : FVec Ideal SR .f32) (i : SR.Idx) : R.byOverlap m i
    = Scalar.select (FloatOps.cmpf (F := Ideal) (φ := .f32) .ole (m i) (Ideal.ofBits .f32 0x3E99999A#32)) 0#32
      (Scalar.select (FloatOps.cmpf (F := Ideal) (φ := .f32) .oge (m i) (Ideal.ofBits .f32 0x3F333333#32)) 1#32 4294967295#32) := rfl

section Labels
variable (b : FVec Ideal Cert.ReferenceIdeal.S32x4 .f32)

theorem bestAnchor_lt (g : Fin 32) : (R.bestAnchor b (ix1 g)).toNat < 36864 := by
  obtain ⟨v, h⟩ := R.bestAnchor_top b g
  exact h.lt (by decide) le_rfl

/-- Whether an anchor is some box's best. -/
theorem isBest_iff (a : Fin 288) (c : Fin 128) : KI.isBest b KI.cons (ix2 a c) = 1#1 ↔ ∃ g : Fin 32, R.bestAnchor b (ix1 g) = BitVec.ofNat 32 (num a c).val := by
  unfold KI.isBest
  rw [any_of]
  constructor
  · rintro (h | ⟨g, -, h⟩)
    · exact absurd h (show ¬ (0#1 : BitVec 1) = 1#1 by decide)
    · refine ⟨g, ?_⟩
      have h : BitVec.ofBool (decide (KI.anchorNo (ix2 a c) = KI.bestAnchor b KI.cons g)) = 1#1 := h
      rw [KI.bit_eq_one, anchorNo_apply, bestAnchor_eq] at h
      exact h.symm
  · rintro ⟨g, h⟩
    refine .inr ⟨g, KI.mem_allBoxes g, ?_⟩
    show BitVec.ofBool (decide (KI.anchorNo (ix2 a c) = KI.bestAnchor b KI.cons g)) = 1#1
    rw [KI.bit_eq_one, anchorNo_apply, bestAnchor_eq, h]

theorem places_apply (g : Fin 32) : R.places (R.bestAnchor b) (ix2 g (0 : Fin 1)) = R.bestAnchor b (ix1 g) := by
  unfold R.places
  refine (broadcastInDim_apply _ _ _ _ (ix1 g) fun d => ?_).trans ?_
  · match d with
    | ⟨0, _⟩ => rfl
  · have h := bestAnchor_lt b g
    have hs : (R.bestAnchor b (ix1 g)).slt 0#32 = false := by
      refine Bool.eq_false_iff.mpr fun h' => ?_
      have := BitVec.slt_iff_toInt_lt.mp h'
      rw [BitVec.toInt_eq_toNat_of_lt (by omega)] at this
      have h0 : (0#32 : BitVec 32).toInt = 0 := rfl
      rw [h0] at this
      omega
    show Scalar.select (BitVec.ofBool ((R.bestAnchor b (ix1 g)).slt 0#32)) _ _ = _
    rw [hs]; rfl

/-- The labels with one at the boxes' anchors. -/
theorem scatter_apply (x : IVec SR 32) (n : Fin 36864) :
    ((∃ g : Fin 32, R.bestAnchor b (ix1 g) = BitVec.ofNat 32 n.val) → Host.scatter Cert.ReferenceIdeal.scatter_S36864_S32x1_S32_n_0_0_1 (fun _ b => b) x
        (R.places (R.bestAnchor b)) (broadcastInDim Cert.ReferenceIdeal.S32 ![] Cert.ReferenceIdeal.Facts₀.bcast_S_S32 (constantI Cert.ReferenceIdeal.S_ 32 1#32)) (ix1 n) = 1#32)
    ∧ ((¬ ∃ g : Fin 32, R.bestAnchor b (ix1 g) = BitVec.ofNat 32 n.val) → Host.scatter Cert.ReferenceIdeal.scatter_S36864_S32x1_S32_n_0_0_1 (fun _ b => b) x
        (R.places (R.bestAnchor b)) (broadcastInDim Cert.ReferenceIdeal.S32 ![] Cert.ReferenceIdeal.Facts₀.bcast_S_S32 (constantI Cert.ReferenceIdeal.S_ 32 1#32)) (ix1 n) = x (ix1 n)) := by
  have key : ∀ g : Fin 32, Cert.ReferenceIdeal.scatter_S36864_S32x1_S32_n_0_0_1.resultIdx? (ix1 g) (R.places (R.bestAnchor b)) = some (ix1 n)
      ↔ R.bestAnchor b (ix1 g) = BitVec.ofNat 32 n.val := by
    intro g
    refine (lands (N := 36864) (M := 32) _ rfl rfl rfl _ g n).trans ?_
    have h := bestAnchor_lt b g
    rw [places_apply, BitVec.toInt_eq_toNat_of_lt (by omega)]
    constructor
    · intro h
      apply BitVec.eq_of_toNat_eq
      rw [Best.toNat_ofNat n.isLt]; omega
    · intro h
      rw [h, Best.toNat_ofNat n.isLt]
  constructor
  · rintro ⟨g, h⟩
    exact Routing.scatter_set_hit _ _ _ _ _ _ (fun _ _ => rfl) (ix1 g) ((key g).mpr h)
  · intro h
    refine Routing.scatter_set_miss _ _ _ _ _ fun k hk => h ?_
    obtain ⟨j, rfl⟩ : ∃ j : Fin 32, k = ix1 j := ⟨k 0, eq_ix1 k⟩
    exact ⟨j, (key j).mp hk⟩

/-- The labels before subsampling. -/
theorem label0_eq (a2 : Vec Ideal Cert.KernelIdeal.S2x288x128 .i32) (a : Fin 288) (c : Fin 128) :
    (KI.readsOf b KI.cons a2).lab (KI.isBest b KI.cons) (ix2 a c) = R.label0 b (ix1 (num a c)) := by
  have hk : (KI.readsOf b KI.cons a2).keep (ix2 a c) = R.keep (ix1 (num a c)) := plane_keep a c
  have hl : (KI.readsOf b KI.cons a2).lab (KI.isBest b KI.cons) (ix2 a c) = Scalar.select ((KI.readsOf b KI.cons a2).keep (ix2 a c))
      (Scalar.select (KI.isBest b KI.cons (ix2 a c)) 1#32 (Scalar.select (FloatOps.cmpf (F := Ideal) (φ := .f32) .ole ((KI.readsOf b KI.cons a2).ov (ix2 a c)) (Ideal.ofBits .f32 0x3E99999A#32)) 0#32
        (Scalar.select (FloatOps.cmpf (F := Ideal) (φ := .f32) .oge ((KI.readsOf b KI.cons a2).ov (ix2 a c)) (Ideal.ofBits .f32 0x3F333333#32)) 1#32 4294967295#32))) 4294967295#32 := rfl
  have hr : ∀ y : IVec SR 32, select R.keep y (R.allI 4294967295#32) (ix1 (num a c)) = Scalar.select (R.keep (ix1 (num a c))) (y (ix1 (num a c))) 4294967295#32 := fun _ => rfl
  unfold R.label0
  rw [hl, hr, hk]
  rcases BitVec.eq_zero_or_eq_one (R.keep (ix1 (num a c))) with h0 | h1
  · rw [h0, select0, select0]
  · obtain ⟨g, ho, -, -, -, -, hm, -⟩ := reads_best b a2 a c
    refine congrArg (fun y => Scalar.select (R.keep (ix1 (num a c))) y 4294967295#32) ?_
    by_cases hb : ∃ g : Fin 32, R.bestAnchor b (ix1 g) = BitVec.ofNat 32 (num a c).val
    · rw [(scatter_apply b _ _).1 hb, (isBest_iff b a c).mpr hb, select1]
    · have hz : KI.isBest b KI.cons (ix2 a c) = 0#1 := by
        rcases BitVec.eq_zero_or_eq_one (KI.isBest b KI.cons (ix2 a c)) with h | h
        · exact h
        · exact absurd ((isBest_iff b a c).mp h) hb
      rw [(scatter_apply b _ _).2 hb, hz, ho, ← most_eq b (num a c) g h1 hm, select0, byOverlap_apply]

end Labels

end Cert.Proof

end
-- ==== Proof.Rank.lean ====
/-
  The reference's ranks: of a stable sort by keys of the extended reals, each index's place is the number of indices
  that come before it, ties by the index.
-/
module

public import proofs.«01_k».proof.Proof.RefValues
public import Idealize.ShloMosaic.Lib.ValueIdx
public import Idealize.ShloMosaic.Lib.WordCmp
public import Idealize.ShloMosaic.Lib.SortFacts
public import Idealize.ShloMosaic.Lib.PlanTiles.StableSort

@[expose] public section

set_option maxRecDepth 16384

noncomputable section

namespace Cert.Proof.R

open Idealize.ShloMosaic

/-- An index comes before another: by its key, ties by the index. -/
def Before {n : Nat} (key : Fin n → EReal) (a b : Fin n) : Prop := key a < key b ∨ (key a = key b ∧ a < b)

/-- How many keys exceed an index's. -/
def above {n : Nat} (key : Fin n → EReal) (a : Fin n) : Nat := by
  classical exact (Finset.univ.filter fun m => key a < key m).card

theorem above_lt {n : Nat} (key : Fin n → EReal) (a b : Fin n) : above key b < above key a ↔ key a < key b := by
  classical
  unfold above
  constructor
  · intro h
    by_contra hc
    refine absurd h (not_lt.mpr (Finset.card_le_card fun m hm => ?_))
    have := (Finset.mem_filter.mp hm).2
    exact Finset.mem_filter.mpr ⟨Finset.mem_univ _, lt_of_le_of_lt (not_lt.mp hc) this⟩
  · intro h
    refine Finset.card_lt_card ((Finset.ssubset_iff_of_subset fun m hm => ?_).mpr ⟨b, ?_, ?_⟩)
    · exact Finset.mem_filter.mpr ⟨Finset.mem_univ _, h.trans (Finset.mem_filter.mp hm).2⟩
    · exact Finset.mem_filter.mpr ⟨Finset.mem_univ _, h⟩
    · exact fun hm => lt_irrefl _ (Finset.mem_filter.mp hm).2

theorem above_eq {n : Nat} (key : Fin n → EReal) {a b : Fin n} (h : above key a = above key b) : key a = key b :=
  le_antisymm (not_lt.mp fun hc => by have := (above_lt key b a).mpr hc; omega) (not_lt.mp fun hc => by have := (above_lt key a b).mpr hc; omega)

section Keys
variable {n : Nat} (key : Fin n → EReal)

/-- The order a stable sort leaves. -/
def byKey : Fin n → Fin n := by
  classical exact sortedFrom fun k k' => decide (key k < key k')

theorem byKey_bijective : Function.Bijective (byKey key) := ⟨sortedFrom_injective _, sortedFrom_surjective _⟩

/-- The order as a permutation. -/
def perm : Equiv.Perm (Fin n) := Equiv.ofBijective (byKey key) (byKey_bijective key)

theorem byKey_before (i j : Fin n) (h : i < j) : Before key (byKey key i) (byKey key j) := by
  classical
  have e : (fun k k' : Fin n => decide (key k < key k')) = fun x y => decide (above key y < above key x) := by
    funext k k'
    exact decide_eq_decide.mpr (above_lt key k k').symm
  have hp : (sortPositions n fun k k' => decide (key k < key k')).Pairwise (PlanTiles.Lex (above key) (· < ·)) := by
    rw [e]
    exact PlanTiles.pairwise_stableSort_lex _ _ _ (List.pairwise_lt_finRange n)
  have := List.pairwise_iff_get.mp hp (i.cast (length_sortPositions n _).symm) (j.cast (length_sortPositions n _).symm) h
  rcases this with h | ⟨h, h'⟩
  · exact .inl ((above_lt key _ _).mp h)
  · exact .inr ⟨above_eq key h, h'⟩

theorem Before.asymm {a b : Fin n} (h : Before key a b) (h' : Before key b a) : False := by
  rcases h with h | ⟨h, h2⟩ <;> rcases h' with h' | ⟨h', h3⟩
  · exact lt_asymm h h'
  · exact absurd h (h' ▸ lt_irrefl _)
  · exact absurd h' (h ▸ lt_irrefl _)
  · exact lt_asymm h2 h3

theorem perm_before (a b : Fin n) : (perm key).symm a < (perm key).symm b ↔ Before key a b := by
  have he : ∀ x, byKey key ((perm key).symm x) = x := (perm key).apply_symm_apply
  constructor
  · intro h
    have := byKey_before key _ _ h
    rwa [he, he] at this
  · intro h
    rcases lt_trichotomy ((perm key).symm a) ((perm key).symm b) with h' | h' | h'
    · exact h'
    · rw [(perm key).symm.injective h'] at h
      exact (Before.asymm key h h).elim
    · have := byKey_before key _ _ h'
      rw [he, he] at this
      exact (Before.asymm key h this).elim

/-- An index's place. -/
theorem perm_count (a : Fin n) [DecidablePred fun m => Before key m a] :
    ((perm key).symm a).val = (Finset.univ.filter fun m => Before key m a).card := by
  rw [← Fin.card_Iio]
  refine (Finset.card_bij (fun m _ => (perm key).symm m) (fun m hm => ?_) (fun _ _ _ _ h => (perm key).symm.injective h) fun b hb => ?_).symm
  · exact Finset.mem_Iio.mpr ((perm_before key m a).mpr (Finset.mem_filter.mp hm).2)
  · refine ⟨perm key b, Finset.mem_filter.mpr ⟨Finset.mem_univ _, ?_⟩, Equiv.symm_apply_apply _ _⟩
    rw [← perm_before, Equiv.symm_apply_apply]
    exact Finset.mem_Iio.mp hb

theorem sortedFrom_perm {n : Nat} (σ : Equiv.Perm (Fin n)) (k : Fin n) :
    sortedFrom (fun k k' => decide (σ.symm k < σ.symm k')) k = σ k := by
  unfold sortedFrom
  rw [List.get_of_eq (sortPositions_of_perm _)]
  exact (List.get_ofFn _ _).trans (congrArg _ (Fin.ext rfl))

end Keys

open Cert.ReferenceIdeal Cert.ReferenceIdeal.Facts₀
open Idealize.ShloMosaic.ValueIdx Idealize.ShloMosaic.WordCmp

variable [Cert.ReferenceIdeal.Facts]

theorem ofFin_ix1 {n : Nat} (k : Fin n) : Shape.Idx.ofFin k = ix1 k := eq_ix1 _

/-- A sort of two one-axis arrays, at an index. -/
theorem sort2_apply {n : Nat} {α β : Type} (cmp : α × β → α × β → BitVec 1) (x : (⟨1, ![n]⟩ : Shape).Idx → α) (y : (⟨1, ![n]⟩ : Shape).Idx → β)
    (k : Fin n) : (Host.sort2 ⟨1, ![n]⟩ 0 cmp x y).2 (ix1 k)
      = y (ix1 (sortedFrom (fun k k' => cmp (x (ix1 k), y (ix1 k)) (x (ix1 k'), y (ix1 k')) == 1#1) k)) := by
  unfold Host.sort2
  simp [ofFin_ix1]

/-- The keys compare as they are: no zero or not-a-number is special. -/
theorem comparator_eq (l r : Ideal .f32 × BitVec 32) :
    comparator_f32_i32_d0 (F := Ideal) l r = BitVec.ofBool (decide ((l.1 : EReal) < r.1)) := by
  have key : ∀ a : EReal, Scalar.select (FloatOps.cmpf (F := Ideal) (φ := .f32) .une a a) (FloatOps.ofBits (F := Ideal) .f32 0x7FC00000#32)
      (Scalar.select (FloatOps.cmpf (F := Ideal) (φ := .f32) .oeq a (FloatOps.ofBits (F := Ideal) .f32 0x00000000#32)) (FloatOps.ofBits (F := Ideal) .f32 0x00000000#32) a) = a := by
    intro a
    have h1 : FloatOps.cmpf (F := Ideal) (φ := .f32) .une a a = 0#1 := by
      show BitVec.ofBool (decide (a ≠ a)) = 0#1
      simp
    rw [h1]
    show Scalar.select (FloatOps.cmpf (F := Ideal) (φ := .f32) .oeq a (FloatOps.ofBits (F := Ideal) .f32 0x00000000#32)) (FloatOps.ofBits (F := Ideal) .f32 0x00000000#32) a = a
    by_cases h : a = Ideal.ofBits .f32 0x00000000#32
    · unfold Scalar.select
      split
      · exact h.symm
      · rfl
    · have h2 : FloatOps.cmpf (F := Ideal) (φ := .f32) .oeq a (FloatOps.ofBits (F := Ideal) .f32 0x00000000#32) = 0#1 := by
        show BitVec.ofBool (decide (a = Ideal.ofBits .f32 0x00000000#32)) = 0#1
        simp [h]
      rw [h2]; rfl
  unfold comparator_f32_i32_d0
  show FloatOps.cmpfTotal .lt (Scalar.select _ _ _) (Scalar.select _ _ _) = _
  rw [key, key]
  rfl

/-- The keys of a sort. -/
def keyOf (lab : IVec S36864 32) (v : BitVec 32) (u : FVec Ideal S36864 .f32) (k : Fin 36864) : EReal :=
  select (cmpi .eq lab (allI v)) u (all 0x7F800000#32) (ix1 k)

theorem order_apply (lab : IVec S36864 32) (v : BitVec 32) (u : FVec Ideal S36864 .f32) (k : Fin 36864) :
    order lab v u (ix1 k) = BitVec.ofNat 32 (perm (keyOf lab v u) k).val := by
  unfold order
  refine (sort2_apply _ _ _ k).trans ?_
  have e : (fun k k' : Fin 36864 => comparator_f32_i32_d0 (F := Ideal)
      (select (cmpi .eq lab (allI v)) u (all 0x7F800000#32) (ix1 k), iotaInDim S36864 32 0 (ix1 k))
      (select (cmpi .eq lab (allI v)) u (all 0x7F800000#32) (ix1 k'), iotaInDim S36864 32 0 (ix1 k')) == 1#1)
      = fun k k' => decide (keyOf lab v u k < keyOf lab v u k') := by
    funext k k'
    rw [comparator_eq]
    show (BitVec.ofBool (decide (keyOf lab v u k < keyOf lab v u k')) == 1#1) = _
    by_cases h : keyOf lab v u k < keyOf lab v u k' <;> simp [h]
  rw [e]
  rfl

theorem ranks_apply (lab : IVec S36864 32) (v : BitVec 32) (u : FVec Ideal S36864 .f32) (k : Fin 36864) :
    ranks (order lab v u) (ix1 k) = BitVec.ofNat 32 ((perm (keyOf lab v u)).symm k).val := by
  unfold ranks
  refine (sort2_apply _ _ _ k).trans ?_
  have hint : ∀ j : Fin 36864, (BitVec.ofNat 32 j.val).toInt = j.val := fun j => by
    have := j.isLt
    rw [BitVec.toInt_eq_toNat_of_lt (by rw [BitVec.toNat_ofNat, Nat.mod_eq_of_lt (by omega)]; omega), BitVec.toNat_ofNat, Nat.mod_eq_of_lt (by omega)]
  have e : (fun k k' : Fin 36864 => comparator_i32_i32_d0
      (order lab v u (ix1 k), iotaInDim S36864 32 0 (ix1 k)) (order lab v u (ix1 k'), iotaInDim S36864 32 0 (ix1 k')) == 1#1)
      = fun k k' => decide ((perm (keyOf lab v u)).symm.symm k < (perm (keyOf lab v u)).symm.symm k') := by
    funext k k'
    unfold comparator_i32_i32_d0
    show (IntOp.cmpi .slt (order lab v u (ix1 k)) (order lab v u (ix1 k')) == 1#1) = _
    rw [order_apply, order_apply, cmpi_slt_eq, hint, hint, Equiv.symm_symm]
    by_cases h : perm (keyOf lab v u) k < perm (keyOf lab v u) k'
    · rw [decide_eq_true h, decide_eq_true (by exact_mod_cast h)]; rfl
    · rw [decide_eq_false h, decide_eq_false (by exact_mod_cast h)]; rfl
  rw [e]
  rw [sortedFrom_perm]
  rfl

end Cert.Proof.R

end
-- ==== Proof.Draws.lean ====
/-
  The draws' words are of numbers from zero to one: such numbers compare as their words do.
-/
module

public import proofs.«01_k».proof.Defs
public import Idealize.ShloMosaic.Lib.ValueIdx

@[expose] public section

noncomputable section

namespace Cert.Proof.Draws

open Idealize.ShloMosaic

/-- Such a number in units of the least of them. -/
def units (n : Nat) : Nat := if n / 8388608 = 0 then n % 8388608 else (8388608 + n % 8388608) * 2 ^ (n / 8388608 - 1)

theorem units_lt {n n' : Nat} (h : n < n') : units n < units n' := by
  unfold units
  have hm := Nat.mod_lt n (show 0 < 8388608 by decide)
  have hm' := Nat.mod_lt n' (show 0 < 8388608 by decide)
  have hd := Nat.div_add_mod n 8388608
  have hd' := Nat.div_add_mod n' 8388608
  generalize n % 8388608 = f at *
  generalize n' % 8388608 = f' at *
  generalize n / 8388608 = e at *
  generalize n' / 8388608 = e' at *
  rcases Nat.lt_trichotomy e e' with he | he | he
  · rw [if_neg (by omega : ¬ e' = 0)]
    have h1 : 8388608 * 2 ^ (e' - 1) ≤ (8388608 + f') * 2 ^ (e' - 1) := Nat.mul_le_mul_right _ (by omega)
    refine lt_of_lt_of_le ?_ h1
    by_cases h0 : e = 0
    · rw [if_pos h0]
      have : 1 ≤ 2 ^ (e' - 1) := Nat.one_le_two_pow
      omega
    · rw [if_neg h0]
      have h2 : (2 : Nat) ^ e ≤ 2 ^ (e' - 1) := Nat.pow_le_pow_right (by decide) (by omega)
      have h3 : (2 : Nat) ^ e = 2 * 2 ^ (e - 1) := by
        obtain ⟨d, rfl⟩ : ∃ d, e = d + 1 := ⟨e - 1, by omega⟩
        rw [Nat.add_sub_cancel, Nat.pow_succ, Nat.mul_comm]
      have h4 : (8388608 + f) * 2 ^ (e - 1) < (2 * 8388608) * 2 ^ (e - 1) := Nat.mul_lt_mul_of_pos_right (by omega) (Nat.pow_pos (by decide))
      have h5 : (2 * 8388608) * 2 ^ (e - 1) = 8388608 * 2 ^ e := by rw [h3]; ring
      calc (8388608 + f) * 2 ^ (e - 1) < 8388608 * 2 ^ e := h5 ▸ h4
        _ ≤ 8388608 * 2 ^ (e' - 1) := Nat.mul_le_mul_left _ h2
  · subst he
    have : f < f' := by omega
    by_cases h0 : e = 0
    · rw [if_pos h0, if_pos h0]; exact this
    · rw [if_neg h0, if_neg h0]; exact Nat.mul_lt_mul_of_pos_right (by omega) (Nat.pow_pos (by decide))
  · omega

theorem value (b : BitVec 32) (h : b.toNat < 1065353216) :
    (Ideal.ofBits .f32 b : EReal) = (((units b.toNat : Nat) : ℝ) * (2 : ℝ) ^ (-149 : Int) : ℝ) := by
  have hneg : b.extractLsb' 31 1 = 0#1 := by
    apply BitVec.eq_of_toNat_eq
    rw [BitVec.extractLsb'_toNat, Nat.shiftRight_eq_div_pow]
    show b.toNat / 2147483648 % 2 = 0
    omega
  have hex : (b.extractLsb' 23 8).toNat = b.toNat / 8388608 := by
    rw [BitVec.extractLsb'_toNat, Nat.shiftRight_eq_div_pow]
    show b.toNat / 8388608 % 256 = _
    omega
  have hfr : (b.extractLsb' 0 23).toNat = b.toNat % 8388608 := by
    rw [BitVec.extractLsb'_toNat, Nat.shiftRight_eq_div_pow]
    show b.toNat / 1 % 8388608 = _
    omega
  show Ideal.ieee 8 23 b = _
  unfold Ideal.ieee
  dsimp only
  rw [hex, hfr, show (8 + 23 : Nat) = 31 from rfl, hneg, if_neg (by norm_num; omega)]
  unfold units
  by_cases h0 : b.toNat / 8388608 = 0
  · rw [if_pos h0, if_pos h0]
    norm_num
  · rw [if_neg h0, if_neg h0]
    congr 1
    obtain ⟨e, he⟩ : ∃ e, b.toNat / 8388608 = e + 1 := ⟨b.toNat / 8388608 - 1, by omega⟩
    rw [he]
    have : ((e + 1 : Nat) : Int) - (2 ^ (8 - 1) - 1) - (23 : Nat) = (e : Int) + (-149) := by push_cast; omega
    rw [this, zpow_add₀ (by norm_num), zpow_natCast]
    push_cast
    norm_num
    ring

/-- They compare as their words do, -/
theorem lt_iff {b b' : BitVec 32} (h : b.toNat < 1065353216) (h' : b'.toNat < 1065353216) :
    (Ideal.ofBits .f32 b : EReal) < Ideal.ofBits .f32 b' ↔ b.toNat < b'.toNat := by
  have key : ∀ {b b' : BitVec 32}, b.toNat < 1065353216 → b'.toNat < 1065353216 → b.toNat < b'.toNat →
      (Ideal.ofBits .f32 b : EReal) < Ideal.ofBits .f32 b' := by
    intro b b' h h' hlt
    rw [value b h, value b' h']
    refine EReal.coe_lt_coe_iff.mpr (mul_lt_mul_of_pos_right ?_ (by positivity))
    exact_mod_cast units_lt hlt
  constructor
  · intro hlt
    by_contra hc
    rcases Nat.lt_or_eq_of_le (not_lt.mp hc) with hc | hc
    · exact lt_asymm hlt (key h' h hc)
    · rw [BitVec.eq_of_toNat_eq hc] at hlt; exact lt_irrefl _ hlt
  · exact key h h'

/-- and none is infinite. -/
theorem lt_top {b : BitVec 32} (h : b.toNat < 1065353216) : (Ideal.ofBits .f32 b : EReal) < Ideal.ofBits .f32 0x7F800000#32 := by
  have e : (Ideal.ofBits .f32 0x7F800000#32 : EReal) = ⊤ := by
    show Ideal.ieee 8 23 0x7F800000#32 = ⊤
    unfold Ideal.ieee
    dsimp only
    rw [if_pos (by decide), if_pos (by decide), if_neg (by decide)]
  rw [e, value b h]
  exact EReal.coe_lt_top _

end Cert.Proof.Draws

end
-- ==== Proof.Arms.lean ====
/-
  A table printed as a choice among numbered cases is a list read at the number.
-/
module

public import Idealize.ShloMosaic.Lib.ValueIdx

@[expose] public section

set_option maxRecDepth 100000
set_option maxHeartbeats 4000000

namespace Cert.Proof.Table

theorem getD_past {α : Type} {d : α} (L : List α) {x : Nat} (h : L.length ≤ x) : L.getD x d = d := by
  rw [List.getD_eq_getElem?_getD, List.getElem?_eq_none h, Option.getD_none]

/-- A table of 128 entries is a list. -/
def Leaf (g : Nat → BitVec 32) (L : List (BitVec 32)) : Prop := ∀ i, g i = L.getD (i % 128) 0#32
/-- A table of at most 128 such tables is a list of lists, -/
def Mid (g : Nat → BitVec 32) (L : List (List (BitVec 32))) : Prop := ∀ i, g i = (L.getD (i / 128 % 128) []).getD (i % 128) 0#32
/-- and one of some of these a list of lists of lists. -/
def Top (g : Nat → BitVec 32) (L : List (List (List (BitVec 32)))) : Prop :=
  ∀ i, g i = ((L.getD (i / 16384) []).getD (i / 128 % 128) []).getD (i % 128) 0#32

theorem read_of_forall₂ {α : Type} {d : α} {gs : List (Nat → BitVec 32)} {Ls : List α} {P : (Nat → BitVec 32) → α → Prop}
    {i : Nat} {r : α → BitVec 32} (hP : ∀ g L, P g L → g i = r L) (hd : r d = 0#32) (h : List.Forall₂ P gs Ls) (x : Nat) :
    (gs.map fun g => g i).getD x 0#32 = r (Ls.getD x d) := by
  induction h generalizing x with
  | nil => simp only [List.map_nil, List.getD_nil]; exact hd.symm
  | cons h _ ih =>
    cases x with
    | zero => exact hP _ _ h
    | succ x => exact ih x

/-- A choice among 3 cases. -/
theorem arms3 (x : Nat) (c0 c1 c2 : BitVec 32) :
    (match x with | 0 => c0 | 1 => c1 | 2 => c2 | _ => 0#32) = [c0, c1, c2].getD x 0#32 := by
  split <;> first | rfl | (simp only [imp_false] at *; exact (getD_past _ (by simp only [List.length_cons, List.length_nil]; omega)).symm)

/-- A choice among 5 cases. -/
theorem arms5 (x : Nat) (c0 c1 c2 c3 c4 : BitVec 32) :
    (match x with | 0 => c0 | 1 => c1 | 2 => c2 | 3 => c3 | 4 => c4 | _ => 0#32) = [c0, c1, c2, c3, c4].getD x 0#32 := by
  split <;> first | rfl | (simp only [imp_false] at *; exact (getD_past _ (by simp only [List.length_cons, List.length_nil]; omega)).symm)

/-- A choice among 32 cases. -/
theorem arms32 (x : Nat) (c0 c1 c2 c3 c4 c5 c6 c7 c8 c9 c10 c11 c12 c13 c14 c15 c16 c17 c18 c19 c20 c21 c22 c23 c24 c25 c26 c27 c28 c29 c30 c31 : BitVec 32) :
    (match x with | 0 => c0 | 1 => c1 | 2 => c2 | 3 => c3 | 4 => c4 | 5 => c5 | 6 => c6 | 7 => c7 | 8 => c8 | 9 => c9 | 10 => c10 | 11 => c11 | 12 => c12 | 13 => c13 | 14 => c14 | 15 => c15 | 16 => c16 | 17 => c17 | 18 => c18 | 19 => c19 | 20 => c20 | 21 => c21 | 22 => c22 | 23 => c23 | 24 => c24 | 25 => c25 | 26 => c26 | 27 => c27 | 28 => c28 | 29 => c29 | 30 => c30 | 31 => c31 | _ => 0#32) = [c0, c1, c2, c3, c4, c5, c6, c7, c8, c9, c10, c11, c12, c13, c14, c15, c16, c17, c18, c19, c20, c21, c22, c23, c24, c25, c26, c27, c28, c29, c30, c31].getD x 0#32 := by
  split <;> first | rfl | (simp only [imp_false] at *; exact (getD_past _ (by simp only [List.length_cons, List.length_nil]; omega)).symm)

/-- A choice among 64 cases. -/
theorem arms64 (x : Nat) (c0 c1 c2 c3 c4 c5 c6 c7 c8 c9 c10 c11 c12 c13 c14 c15 c16 c17 c18 c19 c20 c21 c22 c23 c24 c25 c26 c27 c28 c29 c30 c31 c32 c33 c34 c35 c36 c37 c38 c39 c40 c41 c42 c43 c44 c45 c46 c47 c48 c49 c50 c51 c52 c53 c54 c55 c56 c57 c58 c59 c60 c61 c62 c63 : BitVec 32) :
    (match x with | 0 => c0 | 1 => c1 | 2 => c2 | 3 => c3 | 4 => c4 | 5 => c5 | 6 => c6 | 7 => c7 | 8 => c8 | 9 => c9 | 10 => c10 | 11 => c11 | 12 => c12 | 13 => c13 | 14 => c14 | 15 => c15 | 16 => c16 | 17 => c17 | 18 => c18 | 19 => c19 | 20 => c20 | 21 => c21 | 22 => c22 | 23 => c23 | 24 => c24 | 25 => c25 | 26 => c26 | 27 => c27 | 28 => c28 | 29 => c29 | 30 => c30 | 31 => c31 | 32 => c32 | 33 => c33 | 34 => c34 | 35 => c35 | 36 => c36 | 37 => c37 | 38 => c38 | 39 => c39 | 40 => c40 | 41 => c41 | 42 => c42 | 43 => c43 | 44 => c44 | 45 => c45 | 46 => c46 | 47 => c47 | 48 => c48 | 49 => c49 | 50 => c50 | 51 => c51 | 52 => c52 | 53 => c53 | 54 => c54 | 55 => c55 | 56 => c56 | 57 => c57 | 58 => c58 | 59 => c59 | 60 => c60 | 61 => c61 | 62 => c62 | 63 => c63 | _ => 0#32) = [c0, c1, c2, c3, c4, c5, c6, c7, c8, c9, c10, c11, c12, c13, c14, c15, c16, c17, c18, c19, c20, c21, c22, c23, c24, c25, c26, c27, c28, c29, c30, c31, c32, c33, c34, c35, c36, c37, c38, c39, c40, c41, c42, c43, c44, c45, c46, c47, c48, c49, c50, c51, c52, c53, c54, c55, c56, c57, c58, c59, c60, c61, c62, c63].getD x 0#32 := by
  split <;> first | rfl | (simp only [imp_false] at *; exact (getD_past _ (by simp only [List.length_cons, List.length_nil]; omega)).symm)

/-- A choice among 128 cases. -/
theorem arms128 (x : Nat) (c0 c1 c2 c3 c4 c5 c6 c7 c8 c9 c10 c11 c12 c13 c14 c15 c16 c17 c18 c19 c20 c21 c22 c23 c24 c25 c26 c27 c28 c29 c30 c31 c32 c33 c34 c35 c36 c37 c38 c39 c40 c41 c42 c43 c44 c45 c46 c47 c48 c49 c50 c51 c52 c53 c54 c55 c56 c57 c58 c59 c60 c61 c62 c63 c64 c65 c66 c67 c68 c69 c70 c71 c72 c73 c74 c75 c76 c77 c78 c79 c80 c81 c82 c83 c84 c85 c86 c87 c88 c89 c90 c91 c92 c93 c94 c95 c96 c97 c98 c99 c100 c101 c102 c103 c104 c105 c106 c107 c108 c109 c110 c111 c112 c113 c114 c115 c116 c117 c118 c119 c120 c121 c122 c123 c124 c125 c126 c127 : BitVec 32) :
    (match x with | 0 => c0 | 1 => c1 | 2 => c2 | 3 => c3 | 4 => c4 | 5 => c5 | 6 => c6 | 7 => c7 | 8 => c8 | 9 => c9 | 10 => c10 | 11 => c11 | 12 => c12 | 13 => c13 | 14 => c14 | 15 => c15 | 16 => c16 | 17 => c17 | 18 => c18 | 19 => c19 | 20 => c20 | 21 => c21 | 22 => c22 | 23 => c23 | 24 => c24 | 25 => c25 | 26 => c26 | 27 => c27 | 28 => c28 | 29 => c29 | 30 => c30 | 31 => c31 | 32 => c32 | 33 => c33 | 34 => c34 | 35 => c35 | 36 => c36 | 37 => c37 | 38 => c38 | 39 => c39 | 40 => c40 | 41 => c41 | 42 => c42 | 43 => c43 | 44 => c44 | 45 => c45 | 46 => c46 | 47 => c47 | 48 => c48 | 49 => c49 | 50 => c50 | 51 => c51 | 52 => c52 | 53 => c53 | 54 => c54 | 55 => c55 | 56 => c56 | 57 => c57 | 58 => c58 | 59 => c59 | 60 => c60 | 61 => c61 | 62 => c62 | 63 => c63 | 64 => c64 | 65 => c65 | 66 => c66 | 67 => c67 | 68 => c68 | 69 => c69 | 70 => c70 | 71 => c71 | 72 => c72 | 73 => c73 | 74 => c74 | 75 => c75 | 76 => c76 | 77 => c77 | 78 => c78 | 79 => c79 | 80 => c80 | 81 => c81 | 82 => c82 | 83 => c83 | 84 => c84 | 85 => c85 | 86 => c86 | 87 => c87 | 88 => c88 | 89 => c89 | 90 => c90 | 91 => c91 | 92 => c92 | 93 => c93 | 94 => c94 | 95 => c95 | 96 => c96 | 97 => c97 | 98 => c98 | 99 => c99 | 100 => c100 | 101 => c101 | 102 => c102 | 103 => c103 | 104 => c104 | 105 => c105 | 106 => c106 | 107 => c107 | 108 => c108 | 109 => c109 | 110 => c110 | 111 => c111 | 112 => c112 | 113 => c113 | 114 => c114 | 115 => c115 | 116 => c116 | 117 => c117 | 118 => c118 | 119 => c119 | 120 => c120 | 121 => c121 | 122 => c122 | 123 => c123 | 124 => c124 | 125 => c125 | 126 => c126 | 127 => c127 | _ => 0#32) = [c0, c1, c2, c3, c4, c5, c6, c7, c8, c9, c10, c11, c12, c13, c14, c15, c16, c17, c18, c19, c20, c21, c22, c23, c24, c25, c26, c27, c28, c29, c30, c31, c32, c33, c34, c35, c36, c37, c38, c39, c40, c41, c42, c43, c44, c45, c46, c47, c48, c49, c50, c51, c52, c53, c54, c55, c56, c57, c58, c59, c60, c61, c62, c63, c64, c65, c66, c67, c68, c69, c70, c71, c72, c73, c74, c75, c76, c77, c78, c79, c80, c81, c82, c83, c84, c85, c86, c87, c88, c89, c90, c91, c92, c93, c94, c95, c96, c97, c98, c99, c100, c101, c102, c103, c104, c105, c106, c107, c108, c109, c110, c111, c112, c113, c114, c115, c116, c117, c118, c119, c120, c121, c122, c123, c124, c125, c126, c127].getD x 0#32 := by
  split <;> first | rfl | (simp only [imp_false] at *; exact (getD_past _ (by simp only [List.length_cons, List.length_nil]; omega)).symm)

/-- A full table of 128 entries. -/
theorem leaf {g : Nat → BitVec 32} {c0 c1 c2 c3 c4 c5 c6 c7 c8 c9 c10 c11 c12 c13 c14 c15 c16 c17 c18 c19 c20 c21 c22 c23 c24 c25 c26 c27 c28 c29 c30 c31 c32 c33 c34 c35 c36 c37 c38 c39 c40 c41 c42 c43 c44 c45 c46 c47 c48 c49 c50 c51 c52 c53 c54 c55 c56 c57 c58 c59 c60 c61 c62 c63 c64 c65 c66 c67 c68 c69 c70 c71 c72 c73 c74 c75 c76 c77 c78 c79 c80 c81 c82 c83 c84 c85 c86 c87 c88 c89 c90 c91 c92 c93 c94 c95 c96 c97 c98 c99 c100 c101 c102 c103 c104 c105 c106 c107 c108 c109 c110 c111 c112 c113 c114 c115 c116 c117 c118 c119 c120 c121 c122 c123 c124 c125 c126 c127 : BitVec 32}
    (h : ∀ i, g i = (match i % 128 with | 0 => c0 | 1 => c1 | 2 => c2 | 3 => c3 | 4 => c4 | 5 => c5 | 6 => c6 | 7 => c7 | 8 => c8 | 9 => c9 | 10 => c10 | 11 => c11 | 12 => c12 | 13 => c13 | 14 => c14 | 15 => c15 | 16 => c16 | 17 => c17 | 18 => c18 | 19 => c19 | 20 => c20 | 21 => c21 | 22 => c22 | 23 => c23 | 24 => c24 | 25 => c25 | 26 => c26 | 27 => c27 | 28 => c28 | 29 => c29 | 30 => c30 | 31 => c31 | 32 => c32 | 33 => c33 | 34 => c34 | 35 => c35 | 36 => c36 | 37 => c37 | 38 => c38 | 39 => c39 | 40 => c40 | 41 => c41 | 42 => c42 | 43 => c43 | 44 => c44 | 45 => c45 | 46 => c46 | 47 => c47 | 48 => c48 | 49 => c49 | 50 => c50 | 51 => c51 | 52 => c52 | 53 => c53 | 54 => c54 | 55 => c55 | 56 => c56 | 57 => c57 | 58 => c58 | 59 => c59 | 60 => c60 | 61 => c61 | 62 => c62 | 63 => c63 | 64 => c64 | 65 => c65 | 66 => c66 | 67 => c67 | 68 => c68 | 69 => c69 | 70 => c70 | 71 => c71 | 72 => c72 | 73 => c73 | 74 => c74 | 75 => c75 | 76 => c76 | 77 => c77 | 78 => c78 | 79 => c79 | 80 => c80 | 81 => c81 | 82 => c82 | 83 => c83 | 84 => c84 | 85 => c85 | 86 => c86 | 87 => c87 | 88 => c88 | 89 => c89 | 90 => c90 | 91 => c91 | 92 => c92 | 93 => c93 | 94 => c94 | 95 => c95 | 96 => c96 | 97 => c97 | 98 => c98 | 99 => c99 | 100 => c100 | 101 => c101 | 102 => c102 | 103 => c103 | 104 => c104 | 105 => c105 | 106 => c106 | 107 => c107 | 108 => c108 | 109 => c109 | 110 => c110 | 111 => c111 | 112 => c112 | 113 => c113 | 114 => c114 | 115 => c115 | 116 => c116 | 117 => c117 | 118 => c118 | 119 => c119 | 120 => c120 | 121 => c121 | 122 => c122 | 123 => c123 | 124 => c124 | 125 => c125 | 126 => c126 | 127 => c127 | _ => 0#32)) : Leaf g [c0, c1, c2, c3, c4, c5, c6, c7, c8, c9, c10, c11, c12, c13, c14, c15, c16, c17, c18, c19, c20, c21, c22, c23, c24, c25, c26, c27, c28, c29, c30, c31, c32, c33, c34, c35, c36, c37, c38, c39, c40, c41, c42, c43, c44, c45, c46, c47, c48, c49, c50, c51, c52, c53, c54, c55, c56, c57, c58, c59, c60, c61, c62, c63, c64, c65, c66, c67, c68, c69, c70, c71, c72, c73, c74, c75, c76, c77, c78, c79, c80, c81, c82, c83, c84, c85, c86, c87, c88, c89, c90, c91, c92, c93, c94, c95, c96, c97, c98, c99, c100, c101, c102, c103, c104, c105, c106, c107, c108, c109, c110, c111, c112, c113, c114, c115, c116, c117, c118, c119, c120, c121, c122, c123, c124, c125, c126, c127] := fun i =>
  (h i).trans (arms128 (i % 128) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- A table of 32 tables. -/
theorem mid32 {g g0 g1 g2 g3 g4 g5 g6 g7 g8 g9 g10 g11 g12 g13 g14 g15 g16 g17 g18 g19 g20 g21 g22 g23 g24 g25 g26 g27 g28 g29 g30 g31 : Nat → BitVec 32} {L : List (List (BitVec 32))}
    (h : ∀ i, g i = (match i / 128 % 128 with | 0 => g0 i | 1 => g1 i | 2 => g2 i | 3 => g3 i | 4 => g4 i | 5 => g5 i | 6 => g6 i | 7 => g7 i | 8 => g8 i | 9 => g9 i | 10 => g10 i | 11 => g11 i | 12 => g12 i | 13 => g13 i | 14 => g14 i | 15 => g15 i | 16 => g16 i | 17 => g17 i | 18 => g18 i | 19 => g19 i | 20 => g20 i | 21 => g21 i | 22 => g22 i | 23 => g23 i | 24 => g24 i | 25 => g25 i | 26 => g26 i | 27 => g27 i | 28 => g28 i | 29 => g29 i | 30 => g30 i | 31 => g31 i | _ => 0#32)) (hL : List.Forall₂ Leaf [g0, g1, g2, g3, g4, g5, g6, g7, g8, g9, g10, g11, g12, g13, g14, g15, g16, g17, g18, g19, g20, g21, g22, g23, g24, g25, g26, g27, g28, g29, g30, g31] L) : Mid g L := fun i =>
  ((h i).trans (arms32 (i / 128 % 128) _ _ _ _ _ _ _ _ _ _ _ _ _ _ _ _ _ _ _ _ _ _ _ _ _ _ _ _ _ _ _ _)).trans
    (read_of_forall₂ (d := []) (r := fun L => L.getD (i % 128) 0#32) (fun _ _ h => h i) rfl hL (i / 128 % 128))

/-- A table of 64 tables. -/
theorem mid64 {g g0 g1 g2 g3 g4 g5 g6 g7 g8 g9 g10 g11 g12 g13 g14 g15 g16 g17 g18 g19 g20 g21 g22 g23 g24 g25 g26 g27 g28 g29 g30 g31 g32 g33 g34 g35 g36 g37 g38 g39 g40 g41 g42 g43 g44 g45 g46 g47 g48 g49 g50 g51 g52 g53 g54 g55 g56 g57 g58 g59 g60 g61 g62 g63 : Nat → BitVec 32} {L : List (List (BitVec 32))}
    (h : ∀ i, g i = (match i / 128 % 128 with | 0 => g0 i | 1 => g1 i | 2 => g2 i | 3 => g3 i | 4 => g4 i | 5 => g5 i | 6 => g6 i | 7 => g7 i | 8 => g8 i | 9 => g9 i | 10 => g10 i | 11 => g11 i | 12 => g12 i | 13 => g13 i | 14 => g14 i | 15 => g15 i | 16 => g16 i | 17 => g17 i | 18 => g18 i | 19 => g19 i | 20 => g20 i | 21 => g21 i | 22 => g22 i | 23 => g23 i | 24 => g24 i | 25 => g25 i | 26 => g26 i | 27 => g27 i | 28 => g28 i | 29 => g29 i | 30 => g30 i | 31 => g31 i | 32 => g32 i | 33 => g33 i | 34 => g34 i | 35 => g35 i | 36 => g36 i | 37 => g37 i | 38 => g38 i | 39 => g39 i | 40 => g40 i | 41 => g41 i | 42 => g42 i | 43 => g43 i | 44 => g44 i | 45 => g45 i | 46 => g46 i | 47 => g47 i | 48 => g48 i | 49 => g49 i | 50 => g50 i | 51 => g51 i | 52 => g52 i | 53 => g53 i | 54 => g54 i | 55 => g55 i | 56 => g56 i | 57 => g57 i | 58 => g58 i | 59 => g59 i | 60 => g60 i | 61 => g61 i | 62 => g62 i | 63 => g63 i | _ => 0#32)) (hL : List.Forall₂ Leaf [g0, g1, g2, g3, g4, g5, g6, g7, g8, g9, g10, g11, g12, g13, g14, g15, g16, g17, g18, g19, g20, g21, g22, g23, g24, g25, g26, g27, g28, g29, g30, g31, g32, g33, g34, g35, g36, g37, g38, g39, g40, g41, g42, g43, g44, g45, g46, g47, g48, g49, g50, g51, g52, g53, g54, g55, g56, g57, g58, g59, g60, g61, g62, g63] L) : Mid g L := fun i =>
  ((h i).trans (arms64 (i / 128 % 128) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans
    (read_of_forall₂ (d := []) (r := fun L => L.getD (i % 128) 0#32) (fun _ _ h => h i) rfl hL (i / 128 % 128))

/-- A table of 128 tables. -/
theorem mid128 {g g0 g1 g2 g3 g4 g5 g6 g7 g8 g9 g10 g11 g12 g13 g14 g15 g16 g17 g18 g19 g20 g21 g22 g23 g24 g25 g26 g27 g28 g29 g30 g31 g32 g33 g34 g35 g36 g37 g38 g39 g40 g41 g42 g43 g44 g45 g46 g47 g48 g49 g50 g51 g52 g53 g54 g55 g56 g57 g58 g59 g60 g61 g62 g63 g64 g65 g66 g67 g68 g69 g70 g71 g72 g73 g74 g75 g76 g77 g78 g79 g80 g81 g82 g83 g84 g85 g86 g87 g88 g89 g90 g91 g92 g93 g94 g95 g96 g97 g98 g99 g100 g101 g102 g103 g104 g105 g106 g107 g108 g109 g110 g111 g112 g113 g114 g115 g116 g117 g118 g119 g120 g121 g122 g123 g124 g125 g126 g127 : Nat → BitVec 32} {L : List (List (BitVec 32))}
    (h : ∀ i, g i = (match i / 128 % 128 with | 0 => g0 i | 1 => g1 i | 2 => g2 i | 3 => g3 i | 4 => g4 i | 5 => g5 i | 6 => g6 i | 7 => g7 i | 8 => g8 i | 9 => g9 i | 10 => g10 i | 11 => g11 i | 12 => g12 i | 13 => g13 i | 14 => g14 i | 15 => g15 i | 16 => g16 i | 17 => g17 i | 18 => g18 i | 19 => g19 i | 20 => g20 i | 21 => g21 i | 22 => g22 i | 23 => g23 i | 24 => g24 i | 25 => g25 i | 26 => g26 i | 27 => g27 i | 28 => g28 i | 29 => g29 i | 30 => g30 i | 31 => g31 i | 32 => g32 i | 33 => g33 i | 34 => g34 i | 35 => g35 i | 36 => g36 i | 37 => g37 i | 38 => g38 i | 39 => g39 i | 40 => g40 i | 41 => g41 i | 42 => g42 i | 43 => g43 i | 44 => g44 i | 45 => g45 i | 46 => g46 i | 47 => g47 i | 48 => g48 i | 49 => g49 i | 50 => g50 i | 51 => g51 i | 52 => g52 i | 53 => g53 i | 54 => g54 i | 55 => g55 i | 56 => g56 i | 57 => g57 i | 58 => g58 i | 59 => g59 i | 60 => g60 i | 61 => g61 i | 62 => g62 i | 63 => g63 i | 64 => g64 i | 65 => g65 i | 66 => g66 i | 67 => g67 i | 68 => g68 i | 69 => g69 i | 70 => g70 i | 71 => g71 i | 72 => g72 i | 73 => g73 i | 74 => g74 i | 75 => g75 i | 76 => g76 i | 77 => g77 i | 78 => g78 i | 79 => g79 i | 80 => g80 i | 81 => g81 i | 82 => g82 i | 83 => g83 i | 84 => g84 i | 85 => g85 i | 86 => g86 i | 87 => g87 i | 88 => g88 i | 89 => g89 i | 90 => g90 i | 91 => g91 i | 92 => g92 i | 93 => g93 i | 94 => g94 i | 95 => g95 i | 96 => g96 i | 97 => g97 i | 98 => g98 i | 99 => g99 i | 100 => g100 i | 101 => g101 i | 102 => g102 i | 103 => g103 i | 104 => g104 i | 105 => g105 i | 106 => g106 i | 107 => g107 i | 108 => g108 i | 109 => g109 i | 110 => g110 i | 111 => g111 i | 112 => g112 i | 113 => g113 i | 114 => g114 i | 115 => g115 i | 116 => g116 i | 117 => g117 i | 118 => g118 i | 119 => g119 i | 120 => g120 i | 121 => g121 i | 122 => g122 i | 123 => g123 i | 124 => g124 i | 125 => g125 i | 126 => g126 i | 127 => g127 i | _ => 0#32)) (hL : List.Forall₂ Leaf [g0, g1, g2, g3, g4, g5, g6, g7, g8, g9, g10, g11, g12, g13, g14, g15, g16, g17, g18, g19, g20, g21, g22, g23, g24, g25, g26, g27, g28, g29, g30, g31, g32, g33, g34, g35, g36, g37, g38, g39, g40, g41, g42, g43, g44, g45, g46, g47, g48, g49, g50, g51, g52, g53, g54, g55, g56, g57, g58, g59, g60, g61, g62, g63, g64, g65, g66, g67, g68, g69, g70, g71, g72, g73, g74, g75, g76, g77, g78, g79, g80, g81, g82, g83, g84, g85, g86, g87, g88, g89, g90, g91, g92, g93, g94, g95, g96, g97, g98, g99, g100, g101, g102, g103, g104, g105, g106, g107, g108, g109, g110, g111, g112, g113, g114, g115, g116, g117, g118, g119, g120, g121, g122, g123, g124, g125, g126, g127] L) : Mid g L := fun i =>
  ((h i).trans (arms128 (i / 128 % 128) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans
    (read_of_forall₂ (d := []) (r := fun L => L.getD (i % 128) 0#32) (fun _ _ h => h i) rfl hL (i / 128 % 128))

/-- A table of 3 tables. -/
theorem top3 {g g0 g1 g2 : Nat → BitVec 32} {L : List (List (List (BitVec 32)))}
    (h : ∀ i, g i = (match i / 16384 with | 0 => g0 i | 1 => g1 i | 2 => g2 i | _ => 0#32)) (hL : List.Forall₂ Mid [g0, g1, g2] L) : Top g L := fun i =>
  ((h i).trans (arms3 (i / 16384) _ _ _)).trans
    (read_of_forall₂ (d := []) (r := fun L => (L.getD (i / 128 % 128) []).getD (i % 128) 0#32) (fun _ _ h => h i) rfl hL (i / 16384))

/-- A table of 5 tables. -/
theorem top5 {g g0 g1 g2 g3 g4 : Nat → BitVec 32} {L : List (List (List (BitVec 32)))}
    (h : ∀ i, g i = (match i / 16384 with | 0 => g0 i | 1 => g1 i | 2 => g2 i | 3 => g3 i | 4 => g4 i | _ => 0#32)) (hL : List.Forall₂ Mid [g0, g1, g2, g3, g4] L) : Top g L := fun i =>
  ((h i).trans (arms5 (i / 16384) _ _ _ _ _)).trans
    (read_of_forall₂ (d := []) (r := fun L => (L.getD (i / 128 % 128) []).getD (i % 128) 0#32) (fun _ _ h => h i) rfl hL (i / 16384))

end Cert.Proof.Table
-- ==== Proof.TableBg.lean ====
/-
  The reference's first draw, as a list.
-/
module

public import proofs.«01_k».proof.Defs
public import proofs.«01_k».proof.Proof.Arms

@[expose] public section

set_option maxRecDepth 1000000
set_option maxHeartbeats 40000000

namespace Cert.Proof.Table

open Cert.ReferenceIdeal

/-- The draw's values, in lists of 128, and these in lists. -/
def bg : { L : List (List (List (BitVec 32))) // Top lit7t L } := by
  constructor
  apply top3 (fun _ => rfl)
  apply List.Forall₂.cons
  · apply mid128 (fun _ => rfl)
    repeat' first | exact .nil | exact leaf fun _ => rfl | apply List.Forall₂.cons
  apply List.Forall₂.cons
  · apply mid128 (fun _ => rfl)
    repeat' first | exact .nil | exact leaf fun _ => rfl | apply List.Forall₂.cons
  apply List.Forall₂.cons
  · apply mid32 (fun _ => rfl)
    repeat' first | exact .nil | exact leaf fun _ => rfl | apply List.Forall₂.cons
  exact .nil

end Cert.Proof.Table
-- ==== Proof.TableFg.lean ====
/-
  The reference's second draw, as a list.
-/
module

public import proofs.«01_k».proof.Defs
public import proofs.«01_k».proof.Proof.Arms

@[expose] public section

set_option maxRecDepth 1000000
set_option maxHeartbeats 40000000

namespace Cert.Proof.Table

open Cert.ReferenceIdeal

/-- The draw's values, in lists of 128, and these in lists. -/
def fg : { L : List (List (List (BitVec 32))) // Top lit8t L } := by
  constructor
  apply top3 (fun _ => rfl)
  apply List.Forall₂.cons
  · apply mid128 (fun _ => rfl)
    repeat' first | exact .nil | exact leaf fun _ => rfl | apply List.Forall₂.cons
  apply List.Forall₂.cons
  · apply mid128 (fun _ => rfl)
    repeat' first | exact .nil | exact leaf fun _ => rfl | apply List.Forall₂.cons
  apply List.Forall₂.cons
  · apply mid32 (fun _ => rfl)
    repeat' first | exact .nil | exact leaf fun _ => rfl | apply List.Forall₂.cons
  exact .nil

end Cert.Proof.Table
-- ==== Proof.TablePos.lean ====
/-
  The kernel's table of positions, as a list.
-/
module

public import proofs.«01_k».proof.Defs
public import proofs.«01_k».proof.Proof.Arms

@[expose] public section

set_option maxRecDepth 1000000
set_option maxHeartbeats 40000000

namespace Cert.Proof.Table

open Cert.KernelIdeal

/-- The positions, in lists of 128, and these in lists. -/
def pos : { L : List (List (List (BitVec 32))) // Top lit7t L } := by
  constructor
  apply top5 (fun _ => rfl)
  apply List.Forall₂.cons
  · apply mid128 (fun _ => rfl)
    repeat' first | exact .nil | exact leaf fun _ => rfl | apply List.Forall₂.cons
  apply List.Forall₂.cons
  · apply mid128 (fun _ => rfl)
    repeat' first | exact .nil | exact leaf fun _ => rfl | apply List.Forall₂.cons
  apply List.Forall₂.cons
  · apply mid128 (fun _ => rfl)
    repeat' first | exact .nil | exact leaf fun _ => rfl | apply List.Forall₂.cons
  apply List.Forall₂.cons
  · apply mid128 (fun _ => rfl)
    repeat' first | exact .nil | exact leaf fun _ => rfl | apply List.Forall₂.cons
  apply List.Forall₂.cons
  · apply mid64 (fun _ => rfl)
    repeat' first | exact .nil | exact leaf fun _ => rfl | apply List.Forall₂.cons
  exact .nil

end Cert.Proof.Table
-- ==== Proof.Radix.lean ====
/-
  Two tables are in the same order: a test that sorts by the first, digit by digit, and looks at the second. What passes
  the test has the order, whatever the sort did, as long as it loses nothing.
-/
module

public import Idealize.ShloMosaic.Lib.ValueIdx

@[expose] public section

noncomputable section

namespace Cert.Proof.Table

/-- A number, in digits, handed on. -/
def force (n : Nat) (k : Nat → Bool) : Bool := Nat.rec (motive := fun _ => Bool) (k 0) (fun m _ => k m) (n + 1)

theorem force_eq (n : Nat) (k : Nat → Bool) : force n k = k n := rfl

/-- The list's numbers whose digit at `m` is zero, onto the first list, and the others, onto the second. -/
def part (m : Nat) (l : List Nat) (k : List Nat → List Nat → Bool) : List Nat → List Nat → Bool :=
  List.rec (motive := fun _ => List Nat → List Nat → Bool) k
    (fun x _ ih a b => bif Nat.beq (x / m % 2) 0 then ih (x :: a) b else ih a (x :: b)) l

theorem part_spec (m : Nat) (l : List Nat) (k : List Nat → List Nat → Bool) (a b : List Nat) (h : part m l k a b = true) :
    ∃ a' b', k a' b' = true ∧ (∀ x, x ∈ l ∨ x ∈ a ∨ x ∈ b → x ∈ a' ∨ x ∈ b') := by
  induction l generalizing a b with
  | nil => exact ⟨a, b, h, fun x hx => hx.resolve_left (List.not_mem_nil)⟩
  | cons y l ih =>
    have h' : (bif Nat.beq (y / m % 2) 0 then part m l k (y :: a) b else part m l k a (y :: b)) = true := h
    cases hc : Nat.beq (y / m % 2) 0 with
    | true =>
      rw [hc] at h'
      obtain ⟨a', b', hk, hm⟩ := ih _ _ h'
      refine ⟨a', b', hk, fun x hx => hm x ?_⟩
      rcases hx with hx | hx | hx
      · rcases List.mem_cons.mp hx with rfl | hx
        · exact .inr (.inl (List.mem_cons_self))
        · exact .inl hx
      · exact .inr (.inl (List.mem_cons_of_mem _ hx))
      · exact .inr (.inr hx)
    | false =>
      rw [hc] at h'
      obtain ⟨a', b', hk, hm⟩ := ih _ _ h'
      refine ⟨a', b', hk, fun x hx => hm x ?_⟩
      rcases hx with hx | hx | hx
      · rcases List.mem_cons.mp hx with rfl | hx
        · exact .inr (.inr (List.mem_cons_self))
        · exact .inl hx
      · exact .inr (.inl hx)
      · exact .inr (.inr (List.mem_cons_of_mem _ hx))

/-- Where the first of a pair of numbers starts in a code. -/
abbrev high : Nat := 281474976710656

/-- Whether the numbers' two parts both increase, from these bounds on. -/
def rising (l : List Nat) (k : Nat → Nat → Bool) : Nat → Nat → Bool :=
  List.rec (motive := fun _ => Nat → Nat → Bool) k
    (fun x _ ih p q => bif Nat.ble p (x / high) then (bif Nat.ble q (x % high) then ih (x / high + 1) (x % high + 1) else false) else false) l

theorem rising_spec (l : List Nat) (k : Nat → Nat → Bool) (p q : Nat) (h : rising l k p q = true) :
    ∃ p' q', k p' q' = true ∧ p ≤ p' ∧ q ≤ q' ∧ (∀ x ∈ l, p ≤ x / high ∧ q ≤ x % high ∧ x / high < p' ∧ x % high < q')
      ∧ l.Pairwise fun x y => x / high < y / high ∧ x % high < y % high := by
  induction l generalizing p q with
  | nil => exact ⟨p, q, h, le_refl _, le_refl _, fun x hx => absurd hx List.not_mem_nil, List.Pairwise.nil⟩
  | cons y l ih =>
    have h' : (bif Nat.ble p (y / high) then (bif Nat.ble q (y % high) then rising l k (y / high + 1) (y % high + 1) else false)
        else false) = true := h
    cases hp : Nat.ble p (y / high) with
    | false => rw [hp] at h'; exact absurd h' Bool.false_ne_true
    | true =>
      rw [hp] at h'
      cases hq : Nat.ble q (y % high) with
      | false => rw [hq] at h'; exact absurd h' Bool.false_ne_true
      | true =>
        rw [hq] at h'
        obtain ⟨p', q', hk, hpp, hqq, hm, hl⟩ := ih _ _ h'
        have hp' := Nat.le_of_ble_eq_true hp
        have hq' := Nat.le_of_ble_eq_true hq
        refine ⟨p', q', hk, by omega, by omega, fun x hx => ?_, List.pairwise_cons.mpr ⟨fun x hx => ?_, hl⟩⟩
        · rcases List.mem_cons.mp hx with rfl | hx
          · exact ⟨hp', hq', by omega, by omega⟩
          · have := hm x hx; exact ⟨by omega, by omega, this.2.2.1, this.2.2.2⟩
        · have := hm x hx; exact ⟨by omega, by omega⟩

/-- The numbers of two lists, one after the other, sorted by the digits `ms`, increase: the lists of a round, which holds
    the greatest first, become the next round's, which holds the least first, and back. -/
def sorted : List Nat → List Nat → List Nat → Bool
  | [], l, r => rising l (fun p q => rising r (fun _ _ => true) p q) 0 0
  | m :: ms, l, r => part m l (fun a b => part m r (fun a b => next ms b a) a b) [] []
where
  next : List Nat → List Nat → List Nat → Bool
  | [], _, _ => false
  | m :: ms, l, r => part m l (fun a b => part m r (fun a b => sorted ms a b) a b) [] []

/-- The two parts of the numbers are in the same order. -/
def SameOrder (S : Nat → Prop) : Prop := ∀ x y, S x → S y → (x / high < y / high ↔ x % high < y % high)

theorem sameOrder_of_rising (l r : List Nat) (h : sorted [] l r = true) : SameOrder fun x => x ∈ l ∨ x ∈ r := by
  obtain ⟨p, q, h, -, -, hm, hl⟩ := rising_spec _ _ _ _ (show rising l (fun p q => rising r (fun _ _ => true) p q) 0 0 = true from h)
  obtain ⟨p', q', -, -, -, hm', hr⟩ := rising_spec _ _ _ _ h
  have hall : (l ++ r).Pairwise fun x y => x / high < y / high ∧ x % high < y % high :=
    List.pairwise_append.mpr ⟨hl, hr, fun x hx y hy => by
      have a := hm x hx; have b := hm' y hy; exact ⟨by omega, by omega⟩⟩
  intro x y hx hy
  by_cases e : x = y
  · subst e; exact ⟨fun h => absurd h (lt_irrefl _), fun h => absurd h (lt_irrefl _)⟩
  · have hx' : x ∈ l ++ r := List.mem_append.mpr hx
    have hy' : y ∈ l ++ r := List.mem_append.mpr hy
    obtain ⟨i, hi, rfl⟩ := List.mem_iff_getElem.mp hx'
    obtain ⟨j, hj, rfl⟩ := List.mem_iff_getElem.mp hy'
    have hp := List.pairwise_iff_getElem.mp hall
    rcases lt_trichotomy i j with hij | hij | hij
    · have := hp i j hi hj hij; omega
    · subst hij; exact absurd rfl e
    · have := hp j i hj hi hij; omega

theorem sorted_spec (n : Nat) : ∀ (ms l r : List Nat), ms.length ≤ n →
    (sorted ms l r = true → SameOrder fun x => x ∈ l ∨ x ∈ r) ∧ (sorted.next ms l r = true → SameOrder fun x => x ∈ l ∨ x ∈ r) := by
  induction n with
  | zero =>
    intro ms l r hn
    obtain rfl : ms = [] := List.length_eq_zero_iff.mp (by omega)
    exact ⟨sameOrder_of_rising l r, fun h => absurd h Bool.false_ne_true⟩
  | succ n ih =>
    intro ms l r hn
    cases ms with
    | nil => exact ⟨sameOrder_of_rising l r, fun h => absurd h Bool.false_ne_true⟩
    | cons m ms =>
      have hn' : ms.length ≤ n := by simpa using hn
      constructor
      · intro h
        obtain ⟨a, b, h, h1⟩ := part_spec m l _ _ _ (show part m l (fun a b => part m r (fun a b => sorted.next ms b a) a b) [] [] = true from h)
        obtain ⟨a', b', h, h2⟩ := part_spec m r _ _ _ h
        intro x y hx hy
        refine (ih ms b' a' hn').2 h x y ?_ ?_
        · rcases hx with hx | hx
          · exact (h2 x (.inr (h1 x (.inl hx)))).symm
          · exact (h2 x (.inl hx)).symm
        · rcases hy with hx | hx
          · exact (h2 y (.inr (h1 y (.inl hx)))).symm
          · exact (h2 y (.inl hx)).symm
      · intro h
        obtain ⟨a, b, h, h1⟩ := part_spec m l _ _ _ (show part m l (fun a b => part m r (fun a b => sorted ms a b) a b) [] [] = true from h)
        obtain ⟨a', b', h, h2⟩ := part_spec m r _ _ _ h
        intro x y hx hy
        refine (ih ms a' b' hn').1 h x y ?_ ?_
        · rcases hx with hx | hx
          · exact h2 x (.inr (h1 x (.inl hx)))
          · exact h2 x (.inl hx)
        · rcases hy with hx | hx
          · exact h2 y (.inr (h1 y (.inl hx)))
          · exact h2 y (.inl hx)

/-- A position, a value and a number as one number. -/
def code (p u : BitVec 32) (n : Nat) : Nat := p.toNat * high + (u.toNat * 65536 + n)

/-- The codes of two tables' entries, numbered from `n`, onto a list. -/
def codes (ps : List (BitVec 32)) (k : Nat → List Nat → Bool) : List (BitVec 32) → Nat → List Nat → Bool :=
  List.rec (motive := fun _ => List (BitVec 32) → Nat → List Nat → Bool) (fun _ n acc => k n acc)
    (fun p _ ih us n acc => List.rec (motive := fun _ => Bool) false
      (fun u us _ => force (code p u n) fun c => force (n + 1) fun n' => ih us n' (c :: acc)) us) ps

theorem codes_cons (p u : BitVec 32) (ps us : List (BitVec 32)) (k : Nat → List Nat → Bool) (n : Nat) (acc : List Nat) :
    codes (p :: ps) k (u :: us) n acc = force (code p u n) fun c => force (n + 1) fun n' => codes ps k us n' (c :: acc) := rfl

theorem codes_spec (ps us : List (BitVec 32)) (k : Nat → List Nat → Bool) (n : Nat) (acc : List Nat) (h : codes ps k us n acc = true) :
    ∃ L, k (n + ps.length) L = true ∧ (∀ x ∈ acc, x ∈ L)
      ∧ ∀ j p u, ps[j]? = some p → us[j]? = some u → code p u (n + j) ∈ L := by
  induction ps generalizing us n acc with
  | nil => exact ⟨acc, h, fun x hx => hx, fun j p u hp => by simp at hp⟩
  | cons p ps ih =>
    cases us with
    | nil => exact absurd h Bool.false_ne_true
    | cons u us =>
      rw [codes_cons, force_eq, force_eq] at h
      obtain ⟨L, hk, ha, hm⟩ := ih _ _ _ h
      refine ⟨L, by rw [List.length_cons, show n + (ps.length + 1) = n + 1 + ps.length by omega]; exact hk, fun x hx => ha x (List.mem_cons_of_mem _ hx), fun j p' u' hp hu => ?_⟩
      cases j with
      | zero =>
        obtain rfl : p = p' := by simpa using hp
        obtain rfl : u = u' := by simpa using hu
        exact ha _ (List.mem_cons_self)
      | succ j =>
        have := hm j p' u' (by simpa using hp) (by simpa using hu)
        rwa [show n + (j + 1) = n + 1 + j by omega]

end Cert.Proof.Table

end
-- ==== Proof.TableCheck.lean ====
/-
  The kernel's positions are in the order of the reference's draws: sorted by position, the pairs of a draw and an
  anchor's number increase.
-/
module

public import proofs.«01_k».proof.Proof.TableBg
public import proofs.«01_k».proof.Proof.TableFg
public import proofs.«01_k».proof.Proof.TablePos
public import proofs.«01_k».proof.Proof.Radix

@[expose] public section

set_option maxRecDepth 1000000
set_option maxHeartbeats 4000000

namespace Cert.Proof.Table

/-- All lists but the last have `w` entries, and the last no more. -/
def rows {α : Type} (w : Nat) : List (List α) → Bool
  | [] => true
  | [l] => Nat.ble l.length w
  | l :: m :: L => Nat.beq l.length w && rows w (m :: L)

/-- An entry of such lists, joined. -/
theorem flatten_get {α : Type} {w : Nat} (hw : 0 < w) (L : List (List α)) (h : rows w L = true) (i : Nat) :
    L.flatten[i]? = (L[i / w]?).bind fun l => l[i % w]? := by
  induction L generalizing i with
  | nil => rfl
  | cons l L ih =>
    cases L with
    | nil =>
      have hl : l.length ≤ w := Nat.le_of_ble_eq_true h
      rcases Nat.lt_or_ge i w with hi | hi
      · rw [Nat.div_eq_of_lt hi, Nat.mod_eq_of_lt hi]; simp
      · have : 1 ≤ i / w := (Nat.one_le_div_iff hw).mpr hi
        rw [List.getElem?_eq_none (by simp; omega), List.getElem?_eq_none (by simpa using this)]; rfl
    | cons m L =>
      have h' : (Nat.beq l.length w && rows w (m :: L)) = true := h
      rw [Bool.and_eq_true] at h'
      have hl : l.length = w := Nat.eq_of_beq_eq_true h'.1
      rw [List.flatten_cons]
      rcases Nat.lt_or_ge i w with hi | hi
      · rw [List.getElem?_append_left (by omega), Nat.div_eq_of_lt hi, Nat.mod_eq_of_lt hi]; simp
      · obtain ⟨j, rfl⟩ := Nat.exists_eq_add_of_le hi
        rw [List.getElem?_append_right (by omega), hl, Nat.add_sub_cancel_left, ih h'.2, Nat.add_div_left _ hw, Nat.add_mod_left]
        rfl

/-- A table's entry, in the table joined. -/
theorem top_get {g : Nat → BitVec 32} {L : List (List (List (BitVec 32)))} (h : Top g L) (h1 : rows 128 L = true)
    (h2 : rows 128 L.flatten = true) (i : Nat) (hi : i < L.flatten.flatten.length) : L.flatten.flatten[i]? = some (g i) := by
  have e : L.flatten.flatten[i]? = some (L.flatten.flatten[i]) := List.getElem?_eq_getElem hi
  have r := flatten_get (by decide) _ h2 i
  rw [flatten_get (by decide) _ h1, Nat.div_div_eq_div_mul] at r
  rw [e] at r ⊢
  rw [h i, List.getD_eq_getElem?_getD, List.getD_eq_getElem?_getD, List.getD_eq_getElem?_getD]
  cases hL : L[i / 16384]? with
  | none => rw [show 128 * 128 = 16384 from rfl, hL] at r; exact absurd r (by simp)
  | some M =>
    rw [show 128 * 128 = 16384 from rfl, hL, Option.bind_some] at r
    rw [Option.getD_some]
    cases hM : M[i / 128 % 128]? with
    | none => rw [hM] at r; exact absurd r (by simp)
    | some N => rw [hM, Option.bind_some] at r; rw [Option.getD_some, ← r]; rfl

/-- The digits of a code above the value: sixteen of them. -/
abbrev digits : List Nat :=
  [281474976710656, 562949953421312, 1125899906842624, 2251799813685248, 4503599627370496, 9007199254740992,
   18014398509481984, 36028797018963968, 72057594037927936, 144115188075855872, 288230376151711744, 576460752303423488,
   1152921504606846976, 2305843009213693952, 4611686018427387904, 9223372036854775808]

theorem check_bg : codes (pos.1.flatten.take 288).flatten (fun _ acc => sorted digits acc []) bg.1.flatten.flatten 0 [] = true := by
  decide +kernel

theorem check_fg : codes (pos.1.flatten.drop 288).flatten (fun _ acc => sorted digits acc []) fg.1.flatten.flatten 0 [] = true := by
  decide +kernel

theorem rows_bg : rows 128 bg.1 = true ∧ rows 128 bg.1.flatten = true ∧ bg.1.flatten.flatten.length = 36864 := by decide +kernel
theorem rows_fg : rows 128 fg.1 = true ∧ rows 128 fg.1.flatten = true ∧ fg.1.flatten.flatten.length = 36864 := by decide +kernel
theorem rows_pos : rows 128 pos.1 = true ∧ rows 128 pos.1.flatten = true ∧ (pos.1.flatten.take 288).flatten.length = 36864
    ∧ (pos.1.flatten.drop 288).flatten.length = 36864 := by decide +kernel

/-- Every number of a list is less than `m`. -/
def below (m : Nat) (l : List (BitVec 32)) : Bool := l.all fun x => Nat.blt x.toNat m

theorem below_bg : below 1065353216 bg.1.flatten.flatten = true := by decide +kernel
theorem below_fg : below 1065353216 fg.1.flatten.flatten = true := by decide +kernel
theorem below_pos : below 36864 pos.1.flatten.flatten = true := by decide +kernel

end Cert.Proof.Table
-- ==== Proof.TableOrder.lean ====
/-
  What the test of the tables says: the kernel's positions compare as the reference's draws do.
-/
module

public import proofs.«01_k».proof.Proof.TableCheck

@[expose] public section

set_option maxRecDepth 16384

namespace Cert.Proof.Table

theorem lt_of_below {m : Nat} {l : List (BitVec 32)} (h : below m l = true) {i : Nat} {x : BitVec 32} (hx : l[i]? = some x) :
    x.toNat < m := by
  have := List.all_eq_true.mp h x (List.mem_of_getElem? hx)
  exact Nat.le_of_ble_eq_true this

theorem pos_length : pos.1.flatten.flatten.length = 73728 := by
  rw [← List.take_append_drop 288 pos.1.flatten, List.flatten_append, List.length_append, rows_pos.2.2.1, rows_pos.2.2.2]

theorem pos_get (i : Nat) (hi : i < 73728) : pos.1.flatten.flatten[i]? = some (Cert.KernelIdeal.lit7t i) :=
  top_get pos.2 rows_pos.1 rows_pos.2.1 i (by rw [pos_length]; exact hi)

theorem pos_bg (i : Nat) (hi : i < 36864) : (pos.1.flatten.take 288).flatten[i]? = some (Cert.KernelIdeal.lit7t i) := by
  have := pos_get i (by omega)
  rwa [← List.take_append_drop 288 pos.1.flatten, List.flatten_append, List.getElem?_append_left (by rw [rows_pos.2.2.1]; exact hi)] at this

theorem pos_fg (i : Nat) (hi : i < 36864) : (pos.1.flatten.drop 288).flatten[i]? = some (Cert.KernelIdeal.lit7t (36864 + i)) := by
  have := pos_get (36864 + i) (by omega)
  rwa [← List.take_append_drop 288 pos.1.flatten, List.flatten_append, List.getElem?_append_right (by rw [rows_pos.2.2.1]; omega),
    rows_pos.2.2.1, Nat.add_sub_cancel_left] at this

theorem bg_get (i : Nat) (hi : i < 36864) : bg.1.flatten.flatten[i]? = some (Cert.ReferenceIdeal.lit7t i) :=
  top_get bg.2 rows_bg.1 rows_bg.2.1 i (by rw [rows_bg.2.2]; exact hi)
theorem fg_get (i : Nat) (hi : i < 36864) : fg.1.flatten.flatten[i]? = some (Cert.ReferenceIdeal.lit8t i) :=
  top_get fg.2 rows_fg.1 rows_fg.2.1 i (by rw [rows_fg.2.2]; exact hi)

/-- What the test says of two entries. -/
theorem order_of_check {ps us : List (BitVec 32)} (h : codes ps (fun _ acc => sorted digits acc []) us 0 [] = true)
    {i j : Nat} {p q u v : BitVec 32} (hp : ps[i]? = some p) (hq : ps[j]? = some q) (hu : us[i]? = some u) (hv : us[j]? = some v)
    (hi : i < 36864) (hj : j < 36864) : p.toNat < q.toNat ↔ u.toNat * 65536 + i < v.toNat * 65536 + j := by
  obtain ⟨L, hk, -, hm⟩ := codes_spec _ _ _ _ _ h
  have ho := (sorted_spec _ digits L [] le_rfl).1 hk
  have := ho _ _ (.inl (hm i p u hp hu)) (.inl (hm j q v hq hv))
  have hu' := u.isLt; have hv' := v.isLt
  have hc : ∀ (p u : BitVec 32) (n : Nat), n < 36864 → code p u (0 + n) / high = p.toNat ∧ code p u (0 + n) % high = u.toNat * 65536 + n := by
    intro p u n hn
    have := u.isLt
    unfold code high
    omega
  rw [(hc p u i hi).1, (hc p u i hi).2, (hc q v j hj).1, (hc q v j hj).2] at this
  exact this

/-- The positions of the negatives, by the first draw; -/
theorem order_bg (i j : Nat) (hi : i < 36864) (hj : j < 36864) :
    (Cert.KernelIdeal.lit7t i).toNat < (Cert.KernelIdeal.lit7t j).toNat
      ↔ (Cert.ReferenceIdeal.lit7t i).toNat * 65536 + i < (Cert.ReferenceIdeal.lit7t j).toNat * 65536 + j :=
  order_of_check check_bg (pos_bg i hi) (pos_bg j hj) (bg_get i hi) (bg_get j hj) hi hj

/-- and those of the positives, by the second. -/
theorem order_fg (i j : Nat) (hi : i < 36864) (hj : j < 36864) :
    (Cert.KernelIdeal.lit7t (36864 + i)).toNat < (Cert.KernelIdeal.lit7t (36864 + j)).toNat
      ↔ (Cert.ReferenceIdeal.lit8t i).toNat * 65536 + i < (Cert.ReferenceIdeal.lit8t j).toNat * 65536 + j :=
  order_of_check check_fg (pos_fg i hi) (pos_fg j hj) (fg_get i hi) (fg_get j hj) hi hj

theorem pos_lt (i : Nat) (hi : i < 73728) : (Cert.KernelIdeal.lit7t i).toNat < 36864 := lt_of_below below_pos (pos_get i hi)
theorem bg_lt (i : Nat) (hi : i < 36864) : (Cert.ReferenceIdeal.lit7t i).toNat < 1065353216 := lt_of_below below_bg (bg_get i hi)
theorem fg_lt (i : Nat) (hi : i < 36864) : (Cert.ReferenceIdeal.lit8t i).toNat < 1065353216 := lt_of_below below_fg (fg_get i hi)

end Cert.Proof.Table
-- ==== Proof.Subsample.lean ====
/-
  Subsampling: the anchors whose position passes the kernel's threshold are those whose place in the reference's order of
  the draw reaches the quota, so the labels are one.
-/
module

public import proofs.«01_k».proof.Proof.Label0
public import proofs.«01_k».proof.Proof.Rank
public import proofs.«01_k».proof.Proof.Draws
public import proofs.«01_k».proof.Proof.TableOrder

@[expose] public section

set_option maxRecDepth 16384

noncomputable section

namespace Cert.Proof

open Idealize.ShloMosaic Idealize.ShloMosaic.ValueIdx

theorem bit_ext {p q : Prop} [Decidable p] [Decidable q] (h : p ↔ q) : BitVec.ofBool (decide p) = BitVec.ofBool (decide q) := by
  rw [decide_eq_decide.mpr h]

theorem slt_bit (x y : BitVec 32) : BitVec.ofBool (x.slt y) = BitVec.ofBool (decide (x.toInt < y.toInt)) := rfl
theorem sle_bit (x y : BitVec 32) : BitVec.ofBool (x.sle y) = BitVec.ofBool (decide (x.toInt ≤ y.toInt)) := rfl

variable [Cert.KernelIdeal.Facts] [Cert.ReferenceIdeal.Facts]

theorem isLabel_iff (lab : IVec SK 32) (v : BitVec 32) (i : SK.Idx) : KI.isLabel lab v i = 1#1 ↔ lab i = v := by
  show BitVec.ofBool (decide (lab i = v)) = 1#1 ↔ lab i = v
  exact KI.bit_eq_one

/-- A draw, its positions, and the values compared. -/
structure Drawn (pos : IVec SK 32) (u : FVec Ideal SR .f32) (w : Nat → BitVec 32) : Prop where
  val : ∀ k : Fin 36864, u (ix1 k) = (Ideal.ofBits .f32 (w k.val) : EReal)
  small : ∀ k, k < 36864 → (w k).toNat < 1065353216
  lt : ∀ i, (pos i).toNat < 36864
  order : ∀ a c a' c', (pos (ix2 a c)).toNat < (pos (ix2 a' c')).toNat
    ↔ (w (num a c).val).toNat * 65536 + (num a c).val < (w (num a' c').val).toNat * 65536 + (num a' c').val

section One
variable {pos : IVec SK 32} {u : FVec Ideal SR .f32} {w : Nat → BitVec 32} (D : Drawn pos u w) (lab : IVec SR 32) (v : BitVec 32)
include D

theorem keyOf_eq (k : Fin 36864) : R.keyOf lab v u k = if lab (ix1 k) = v then (Ideal.ofBits .f32 (w k.val) : EReal) else Ideal.ofBits .f32 0x7F800000#32 := by
  unfold R.keyOf
  rw [← D.val k]
  exact select_of _ _ _

/-- Before an anchor of the label come those of the label whose position is less. -/
theorem before_iff (a : Fin 288) (c : Fin 128) (a' : Fin 288) (c' : Fin 128) (h : lab (ix1 (num a' c')) = v) :
    R.Before (R.keyOf lab v u) (num a c) (num a' c') ↔ lab (ix1 (num a c)) = v ∧ (pos (ix2 a c)).toNat < (pos (ix2 a' c')).toNat := by
  have s := D.small _ (num a c).isLt
  have s' := D.small _ (num a' c').isLt
  have k' : R.keyOf lab v u (num a' c') = (Ideal.ofBits .f32 (w (num a' c').val) : EReal) := (keyOf_eq D lab v _).trans (if_pos h)
  have b := (num a c).isLt
  have b' := (num a' c').isLt
  unfold R.Before
  rw [k', D.order]
  by_cases hl : lab (ix1 (num a c)) = v
  · have k : R.keyOf lab v u (num a c) = (Ideal.ofBits .f32 (w (num a c).val) : EReal) := (keyOf_eq D lab v _).trans (if_pos hl)
    rw [k, Draws.lt_iff s s', Fin.lt_def]
    have he : (Ideal.ofBits .f32 (w (num a c).val) : EReal) = Ideal.ofBits .f32 (w (num a' c').val) ↔ (w (num a c).val).toNat = (w (num a' c').val).toNat := by
      constructor
      · intro e
        have h1 := mt (Draws.lt_iff s s').mpr (e ▸ lt_irrefl _)
        have h2 := mt (Draws.lt_iff s' s).mpr (e ▸ lt_irrefl _)
        omega
      · intro e
        rw [BitVec.eq_of_toNat_eq e]
    rw [he]
    constructor
    · intro hh; exact ⟨hl, by omega⟩
    · rintro ⟨-, hh⟩; omega
  · have k : R.keyOf lab v u (num a c) = (Ideal.ofBits .f32 0x7F800000#32 : EReal) := (keyOf_eq D lab v _).trans (if_neg hl)
    have ht := Draws.lt_top s'
    rw [k]
    constructor
    · rintro (hh | ⟨hh, -⟩)
      · exact absurd hh (lt_asymm ht)
      · exact absurd hh ht.ne'
    · exact fun hh => absurd hh.1 hl

/-- The two tests agree. -/
theorem past_iff (mk : IVec SK 1) (hmk : ∀ a c, mk (ix2 a c) = 1#1 ↔ lab (ix1 (num a c)) = v) (k : Nat) (hk : 1 ≤ k) (hk' : k ≤ 36864)
    (a : Fin 288) (c : Fin 128) (hi : mk (ix2 a c) = 1#1) :
    (KI.searchOne mk pos (Scalar.minsi (KI.countOf mk) (BitVec.ofNat 32 k)) 16).2.toInt < (pos (ix2 a c)).toInt
      ↔ (BitVec.ofNat 32 k).toInt ≤ (R.ranks (R.order lab v u) (ix1 (num a c))).toInt := by
  classical
  rw [KI.search_spec mk pos D.lt k hk hk' (ix2 a c) hi, R.ranks_apply, KI.toInt_of_lt (by omega), KI.toInt_of_lt (by omega), R.perm_count]
  rw [Nat.cast_le]
  have e : (Finset.univ.filter fun j : SK.Idx => mk j = 1#1 ∧ (pos j).toNat < (pos (ix2 a c)).toNat).card
      = (Finset.univ.filter fun m => R.Before (R.keyOf lab v u) m (num a c)).card := by
    have hc := (hmk a c).mp hi
    refine Finset.card_bij (fun j _ => num (j 0) (j 1)) (fun j hj => ?_) (fun j _ j' _ h => ?_) fun m hm => ?_
    · obtain ⟨a', c', rfl⟩ := KI.ex2 (n0 := 288) (n1 := 128) j
      have hj := (Finset.mem_filter.mp hj).2
      exact Finset.mem_filter.mpr ⟨Finset.mem_univ _, (before_iff D lab v a' c' a c hc).mpr ⟨(hmk a' c').mp hj.1, hj.2⟩⟩
    · obtain ⟨a1, c1, rfl⟩ := KI.ex2 (n0 := 288) (n1 := 128) j
      obtain ⟨a2, c2, rfl⟩ := KI.ex2 (n0 := 288) (n1 := 128) j'
      obtain ⟨h1, h2⟩ := num_inj (a := a1) (a' := a2) (c := c1) (c' := c2) h
      rw [h1, h2]
    · obtain ⟨a', c', rfl⟩ := num_surj m
      have hm := (before_iff D lab v a' c' a c hc).mp (Finset.mem_filter.mp hm).2
      exact ⟨ix2 a' c', Finset.mem_filter.mpr ⟨Finset.mem_univ _, (hmk a' c').mpr hm.1, hm.2⟩, rfl⟩
  rw [e]

/-- One subsampling. -/
theorem dropPast_eq (mk : IVec SK 1) (hmk : ∀ a c, mk (ix2 a c) = 1#1 ↔ lab (ix1 (num a c)) = v) (k : Nat) (hk : 1 ≤ k) (hk' : k ≤ 36864)
    (n : Nat) (hn : n = 16) (x : IVec SK 32) (hx : ∀ a c, x (ix2 a c) = lab (ix1 (num a c))) (a : Fin 288) (c : Fin 128) :
    KI.dropPast mk pos (KI.searchOne mk pos (Scalar.minsi (KI.countOf mk) (BitVec.ofNat 32 k)) n).2 x (ix2 a c)
      = R.subsample lab v (BitVec.ofNat 32 k) u (ix1 (num a c)) := by
  subst hn
  generalize ht : (KI.searchOne mk pos (Scalar.minsi (KI.countOf mk) (BitVec.ofNat 32 k)) 16).2 = t
  have hL : KI.dropPast mk pos t x (ix2 a c)
      = Scalar.select (IntOp.andi (mk (ix2 a c)) (BitVec.ofBool (t.slt (pos (ix2 a c))))) 4294967295#32 (x (ix2 a c)) := rfl
  have hR : R.subsample lab v (BitVec.ofNat 32 k) u (ix1 (num a c))
      = Scalar.select (IntOp.andi (BitVec.ofBool (decide (lab (ix1 (num a c)) = v)))
        (BitVec.ofBool ((BitVec.ofNat 32 k).sle (R.ranks (R.order lab v u) (ix1 (num a c)))))) 4294967295#32 (lab (ix1 (num a c))) := rfl
  rw [hL, hR, hx a c, slt_bit, sle_bit]
  rcases BitVec.eq_zero_or_eq_one (mk (ix2 a c)) with h0 | h1
  · have hn : ¬ lab (ix1 (num a c)) = v := fun h => by
      have := (hmk a c).mpr h
      rw [h0] at this
      exact absurd this (by decide)
    have hz : ∀ y : BitVec 1, IntOp.andi 0#1 y = 0#1 := fun y => by
      rcases BitVec.eq_zero_or_eq_one y with h | h <;> rw [h] <;> rfl
    rw [h0, decide_eq_false hn, show BitVec.ofBool false = 0#1 from rfl, hz, hz]
  · have hv := (hmk a c).mp h1
    have := past_iff D lab v mk hmk k hk hk' a c h1
    rw [ht] at this
    rw [h1, decide_eq_true hv, show BitVec.ofBool true = 1#1 from rfl, bit_ext this]

end One

/-! ## The two draws -/

theorem position_eq (p : Fin 2) (a : Fin 288) (c : Fin 128) :
    KI.planes (n0 := 2) (n1 := 288) (n2 := 128) KI.positions p (ix2 a c) = Cert.KernelIdeal.lit7t (36864 * p.val + (num a c).val) := by
  have e : ∀ k : Fin 73728, Cert.KernelIdeal.lit7 k = Cert.KernelIdeal.lit7t k.val := fun _ => rfl
  show Cert.KernelIdeal.lit7 (Cert.KernelIdeal.S2x288x128.rowMajor (ix3 p a c)) = _
  refine (e _).trans (congrArg Cert.KernelIdeal.lit7t ?_)
  rw [Shape.rowMajor_val_three]
  show (p.val * 288 + a.val) * 128 + c.val = 36864 * p.val + (128 * a.val + c.val)
  omega

theorem line_val (k : Fin 36864) : (SR.rowMajor (ix1 k)).val = k.val := by rw [Shape.rowMajor_val_one]

theorem drawn_bg : Drawn (KI.planes (n0 := 2) (n1 := 288) (n2 := 128) KI.positions 0) R.drawBg Cert.ReferenceIdeal.lit7t where
  val k := by
    have e : ∀ k : Fin 36864, Cert.ReferenceIdeal.lit7 k = Cert.ReferenceIdeal.lit7t k.val := fun _ => rfl
    show Ideal.ofBits .f32 (Cert.ReferenceIdeal.lit7 (SR.rowMajor (ix1 k))) = _
    exact congrArg (Ideal.ofBits .f32) ((e _).trans (congrArg _ (line_val k)))
  small k hk := Table.bg_lt k hk
  lt i := by
    obtain ⟨a, c, rfl⟩ := KI.ex2 (n0 := 288) (n1 := 128) i
    rw [position_eq]
    exact Table.pos_lt _ (by have := (num a c).isLt; show 36864 * 0 + _ < _; omega)
  order a c a' c' := by
    rw [position_eq, position_eq]
    have := Table.order_bg (num a c).val (num a' c').val (num a c).isLt (num a' c').isLt
    simp only [Fin.val_zero, Nat.mul_zero, Nat.zero_add]
    exact this

theorem drawn_fg : Drawn (KI.planes (n0 := 2) (n1 := 288) (n2 := 128) KI.positions 1) R.drawFg Cert.ReferenceIdeal.lit8t where
  val k := by
    have e : ∀ k : Fin 36864, Cert.ReferenceIdeal.lit8 k = Cert.ReferenceIdeal.lit8t k.val := fun _ => rfl
    show Ideal.ofBits .f32 (Cert.ReferenceIdeal.lit8 (SR.rowMajor (ix1 k))) = _
    exact congrArg (Ideal.ofBits .f32) ((e _).trans (congrArg _ (line_val k)))
  small k hk := Table.fg_lt k hk
  lt i := by
    obtain ⟨a, c, rfl⟩ := KI.ex2 (n0 := 288) (n1 := 128) i
    rw [position_eq]
    exact Table.pos_lt _ (by have := (num a c).isLt; show 36864 * 1 + _ < _; omega)
  order a c a' c' := by
    rw [position_eq, position_eq]
    have := Table.order_fg (num a c).val (num a' c').val (num a c).isLt (num a' c').isLt
    simp only [Fin.val_one, Nat.mul_one]
    exact this

/-! ## The labels -/

theorem threshold_bg (Q : KI.Reads Ideal) (lab : IVec SK 32) (n : Nat) :
    (KI.searchAt Q lab n).2.1 = (KI.searchOne (KI.isLabel lab 0#32) Q.pbg (KI.quotaBg lab) n).2 := congrArg Prod.snd (KI.searchAt_eq Q lab n).1
theorem threshold_fg (Q : KI.Reads Ideal) (lab : IVec SK 32) (n : Nat) :
    (KI.searchAt Q lab n).2.2.2 = (KI.searchOne (KI.isLabel lab 1#32) Q.pfg (KI.quotaFg lab) n).2 := congrArg Prod.snd (KI.searchAt_eq Q lab n).2

/-- The labels after both drops, of labels that agree before them. -/
theorem labelOf_eq (Q : KI.Reads Ideal) (hb : Drawn Q.pbg R.drawBg Cert.ReferenceIdeal.lit7t) (hf : Drawn Q.pfg R.drawFg Cert.ReferenceIdeal.lit8t)
    (lab : IVec SK 32) (y : IVec SR 32) (hlab : ∀ a c, lab (ix2 a c) = y (ix1 (num a c))) (n : Nat) (hn : n = 16) (a : Fin 288) (c : Fin 128) :
    KI.labelOf Q lab (KI.searchAt Q lab n) (ix2 a c) = R.subsample (R.subsample y 0#32 170#32 R.drawBg) 1#32 85#32 R.drawFg (ix1 (num a c)) := by
  unfold KI.labelOf
  rw [threshold_bg, threshold_fg]
  unfold KI.quotaBg KI.quotaFg
  have m : ∀ v, ∀ a c, KI.isLabel lab v (ix2 a c) = 1#1 ↔ y (ix1 (num a c)) = v := by
    intro v a c
    rw [← hlab a c]
    exact isLabel_iff lab v _
  have first := dropPast_eq hb y 0#32 (KI.isLabel lab 0#32) (m 0#32) 170 (by decide) (by decide) n hn lab hlab
  refine dropPast_eq hf (R.subsample y 0#32 170#32 R.drawBg) 1#32 (KI.isLabel lab 1#32) (fun a c => ?_) 85 (by decide) (by decide) n hn _ first a c
  rw [m 1#32 a c]
  have hR : R.subsample y 0#32 170#32 R.drawBg (ix1 (num a c)) = Scalar.select (IntOp.andi (BitVec.ofBool (decide (y (ix1 (num a c)) = 0#32)))
        (BitVec.ofBool ((170#32).sle (R.ranks (R.order y 0#32 R.drawBg) (ix1 (num a c)))))) 4294967295#32 (y (ix1 (num a c))) := rfl
  rw [hR]
  generalize BitVec.ofBool ((170#32).sle (R.ranks (R.order y 0#32 R.drawBg) (ix1 (num a c)))) = z
  generalize y (ix1 (num a c)) = x
  by_cases hy : x = 0#32
  · subst hy
    rcases BitVec.eq_zero_or_eq_one z with h | h <;> rw [h] <;> decide
  · have hz : IntOp.andi (BitVec.ofBool (decide (x = 0#32))) z = 0#1 := by
      rw [decide_eq_false hy]
      rcases BitVec.eq_zero_or_eq_one z with h | h <;> rw [h] <;> rfl
    rw [hz, select0]

/-- The labels are one. -/
theorem labels_eq (b : FVec Ideal Cert.ReferenceIdeal.S32x4 .f32) (a : Fin 288) (c : Fin 128) :
    KI.labels b KI.cons KI.positions (ix2 a c) = R.label2 b (ix1 (num a c)) := by
  unfold KI.labels KI.finalLabel R.label2 R.label1
  exact labelOf_eq _ drawn_bg drawn_fg _ _ (label0_eq b KI.positions) 16 rfl a c

end Cert.Proof

end
-- ==== Proof.Targets.lean ====
/-
  The targets, and the two results: the kernel's are the reference's, whatever the boxes.
-/
module

public import proofs.«01_k».proof.Proof.Subsample
public import Idealize.ShloMosaic.Lib.Routing.Ops

@[expose] public section

set_option maxRecDepth 16384

noncomputable section

namespace Cert.Proof

open Idealize.ShloMosaic Idealize.ShloMosaic.ValueIdx

/-- Two arrays of one row-major line, cast to one shape, are one. -/
theorem shapeCast_same {α : Type} {s t u : Shape} (x : s.Idx → α) (y : t.Idx → α) (h : s.ShapeCasts u) (h' : t.ShapeCasts u)
    (e : ∀ j k, (s.rowMajor j).val = (t.rowMajor k).val → x j = y k) : shapeCast u x h = shapeCast u y h' := by
  funext i
  have hs : (u.rowMajor i).val < s.numel := by
    have := (u.rowMajor i).isLt
    have h2 : u.numel = s.numel := h
    omega
  have ht : (u.rowMajor i).val < t.numel := by
    have := (u.rowMajor i).isLt
    have h2 : u.numel = t.numel := h'
    omega
  have es : (s.rowMajor (s.rowMajor.symm ⟨(u.rowMajor i).val, hs⟩)).val = (u.rowMajor i).val := by rw [Equiv.apply_symm_apply]
  have et : (t.rowMajor (t.rowMajor.symm ⟨(u.rowMajor i).val, ht⟩)).val = (u.rowMajor i).val := by rw [Equiv.apply_symm_apply]
  rw [shapeCast_apply x h i _ es, shapeCast_apply y h' i _ et]
  exact e _ _ (es.trans et.symm)

variable [Cert.KernelIdeal.Facts] [Cert.ReferenceIdeal.Facts]

section Columns
variable (g : FVec Ideal Cert.ReferenceIdeal.S36864x4 .f32) (n : Fin 36864)

/-- A column of the gathered boxes. -/
theorem columnOf_apply (j : Fin 4) (h : Cert.ReferenceIdeal.S36864x4.Slices ![0, j.val] Cert.ReferenceIdeal.S36864x1)
    (h' : Cert.ReferenceIdeal.S36864x1.ShapeCasts SR) :
    shapeCast SR (extractStridedSlice Cert.ReferenceIdeal.S36864x1 ![0, j.val] g h) h' (ix1 n) = g (ix2 n j) := by
  refine (shapeCast_apply _ h' _ (ix2 (n0 := 36864) (n1 := 1) n 0) ?_).trans (extractStridedSlice_apply _ _ _ _ _ fun d => ?_)
  · rw [Shape.rowMajor_val_two, Shape.rowMajor_val_one]
    show n.val * 1 + 0 = n.val
    omega
  · match d with
    | ⟨0, _⟩ => show n.val = 0 + n.val; omega
    | ⟨1, _⟩ => show j.val = j.val + 0; omega

theorem cx_apply : R.cx g (ix1 n) = g (ix2 n 0) := columnOf_apply g n 0 _ _
theorem cy_apply : R.cy g (ix1 n) = g (ix2 n 1) := columnOf_apply g n 1 _ _
theorem cw_apply : R.cw g (ix1 n) = g (ix2 n 2) := columnOf_apply g n 2 _ _
theorem ch_apply : R.ch g (ix1 n) = g (ix2 n 3) := columnOf_apply g n 3 _ _

theorem column_apply {α : Type} (v : SR.Idx → α) : R.column v (ix2 (n0 := 36864) (n1 := 1) n 0) = v (ix1 n) :=
  broadcastInDim_apply _ _ _ _ _ fun d => by
    match d with
    | ⟨0, _⟩ => rfl

/-- A column of the differences. -/
theorem deltas_apply (p : Fin 4) (v : FVec Ideal SR .f32)
    (h : ([Host.divf (subf (R.cx g) R.ax) R.aw, Host.divf (subf (R.cy g) R.ay) R.ah, Host.log (Host.divf (R.cw g) R.aw), Host.log (Host.divf (R.ch g) R.ah)] :
      List (FVec Ideal SR .f32))[p.val]? = some v) : R.deltas g (ix2 n p) = v (ix1 n) := by
  have e : R.deltas g = concatenate Cert.ReferenceIdeal.S36864x4 1 (List.ofFn fun q : Fin 4 =>
      (⟨Cert.ReferenceIdeal.S36864x1, R.column (([Host.divf (subf (R.cx g) R.ax) R.aw, Host.divf (subf (R.cy g) R.ay) R.ah, Host.log (Host.divf (R.cw g) R.aw),
        Host.log (Host.divf (R.ch g) R.ah)] : List (FVec Ideal SR .f32)).getD q.val R.ax)⟩ : (s : Shape) × (s.Idx → Ideal .f32)))
      Cert.ReferenceIdeal.Facts₀.concatenates_S36864x1_S36864x1_S36864x1_S36864x1_S36864x4_d1 := rfl
  rw [e]
  refine (concatenate_ofFn_unit_apply (t := Cert.ReferenceIdeal.S36864x4) (s₁ := Cert.ReferenceIdeal.S36864x1) 1 (fun q : Fin 4 => R.column
    (([Host.divf (subf (R.cx g) R.ax) R.aw, Host.divf (subf (R.cy g) R.ay) R.ah, Host.log (Host.divf (R.cw g) R.aw),
        Host.log (Host.divf (R.ch g) R.ah)] : List (FVec Ideal SR .f32)).getD q.val R.ax)) _ rfl rfl (ix2 (n0 := 36864) (n1 := 4) n p) p rfl
        (ix2 (n0 := 36864) (n1 := 1) n 0) ?_).trans ?_
  · intro b
    match b with
    | ⟨0, _⟩ => intro _; rfl
    | ⟨1, _⟩ => intro h; exact absurd rfl h
  · rw [List.getD_eq_getElem?_getD, h]
    exact column_apply n v

end Columns

section Boxes
variable (b : FVec Ideal Cert.ReferenceIdeal.S32x4 .f32)

/-- The box gathered for an anchor. -/
theorem chosen_apply (n : Fin 36864) (g : Fin 32) (h : R.bestBox b (ix1 n) = BitVec.ofNat 32 g.val) (j : Fin 4) : R.chosen b (ix2 n j) = b (ix2 g j) := by
  unfold R.chosen
  refine Routing.gather_row (nb := 32) (B := 4) (n := 36864) _ rfl rfl rfl rfl rfl b _ n j g ?_ (by decide)
  refine (column_apply n _).trans ?_
  show Scalar.select (BitVec.ofBool ((R.bestBox b (ix1 n)).slt 0#32)) (IntOp.addi (R.bestBox b (ix1 n)) 32#32) (R.bestBox b (ix1 n)) = _
  rw [h]
  have hs : ∀ g : Fin 32, (BitVec.ofNat 32 g.val).slt 0#32 = false := by decide
  rw [hs]
  exact select0 _ _

/-- The reference's target of an anchor. -/
theorem target_apply (n : Fin 36864) (p : Fin 4) : R.target b (ix2 n p)
    = Scalar.select (BitVec.ofBool (decide (R.label2 b (ix1 n) = 1#32))) (R.deltas (R.chosen b) (ix2 n p)) (Ideal.ofBits .f32 0x00000000#32) := by
  unfold R.target
  refine congrArg (fun z => Scalar.select z _ _) ?_
  refine (broadcastInDim_apply _ _ _ _ (ix2 (n0 := 36864) (n1 := 1) n 0) fun d => ?_).trans (column_apply _ _)
  match d with
  | ⟨0, _⟩ => rfl
  | ⟨1, _⟩ => rfl

/-- The targets of an anchor, the box's numbers and the anchor's being the same on both sides. -/
theorem finalTarget_eq (Q : KI.Reads Ideal) (L : IVec SK 32) (G : FVec Ideal Cert.ReferenceIdeal.S36864x4 .f32) (l : BitVec 32) (a : Fin 288) (c : Fin 128) (n : Fin 36864)
    (hl : L (ix2 a c) = l) (hx : Q.x (ix2 a c) = G (ix2 n 0)) (hy : Q.y (ix2 a c) = G (ix2 n 1)) (hw : Q.w (ix2 a c) = G (ix2 n 2))
    (hh : Q.h (ix2 a c) = G (ix2 n 3)) (kax : Q.ax (ix2 a c) = R.ax (ix1 n)) (kay : Q.ay (ix2 a c) = R.ay (ix1 n))
    (kaw : Q.aw (ix2 a c) = R.aw (ix1 n)) (kah : Q.ah (ix2 a c) = R.ah (ix1 n)) (p : Fin 4) :
    KI.finalTarget Q L p (ix2 a c) = Scalar.select (BitVec.ofBool (decide (l = 1#32))) (R.deltas G (ix2 n p)) (Ideal.ofBits .f32 0x00000000#32) := by
  have hK : ∀ v : FVec Ideal SK .f32, KI.maskedTarget (KI.isLabel L 1#32) v (ix2 a c)
      = Scalar.select (BitVec.ofBool (decide (L (ix2 a c) = 1#32))) (v (ix2 a c)) (Ideal.ofBits .f32 0x00000000#32) := fun _ => rfl
  subst hl
  match p with
  | ⟨0, _⟩ =>
    refine (hK _).trans (congrArg (fun z => Scalar.select _ z _) ?_)
    rw [deltas_apply G n ⟨0, by decide⟩ _ rfl]
    show FloatOps.divf (FloatOps.subf (Q.x (ix2 a c)) (Q.ax (ix2 a c))) (Q.aw (ix2 a c))
      = FloatOps.hostDivf (FloatOps.subf (R.cx G (ix1 n)) (R.ax (ix1 n))) (R.aw (ix1 n))
    rw [hx, kax, kaw, cx_apply]; rfl
  | ⟨1, _⟩ =>
    refine (hK _).trans (congrArg (fun z => Scalar.select _ z _) ?_)
    rw [deltas_apply G n ⟨1, by decide⟩ _ rfl]
    show FloatOps.divf (FloatOps.subf (Q.y (ix2 a c)) (Q.ay (ix2 a c))) (Q.ah (ix2 a c))
      = FloatOps.hostDivf (FloatOps.subf (R.cy G (ix1 n)) (R.ay (ix1 n))) (R.ah (ix1 n))
    rw [hy, kay, kah, cy_apply]; rfl
  | ⟨2, _⟩ =>
    refine (hK _).trans (congrArg (fun z => Scalar.select _ z _) ?_)
    rw [deltas_apply G n ⟨2, by decide⟩ _ rfl]
    show FloatOps.log (FloatOps.divf (Q.w (ix2 a c)) (Q.aw (ix2 a c)))
      = FloatOps.hostUnary .log (FloatOps.hostDivf (R.cw G (ix1 n)) (R.aw (ix1 n)))
    rw [hw, kaw, cw_apply]; rfl
  | ⟨3, _⟩ =>
    refine (hK _).trans (congrArg (fun z => Scalar.select _ z _) ?_)
    rw [deltas_apply G n ⟨3, by decide⟩ _ rfl]
    show FloatOps.log (FloatOps.divf (Q.h (ix2 a c)) (Q.ah (ix2 a c)))
      = FloatOps.hostUnary .log (FloatOps.hostDivf (R.ch G (ix1 n)) (R.ah (ix1 n)))
    rw [hh, kah, ch_apply]; rfl

/-- The targets are one. -/
theorem targets_eq (a : Fin 288) (c : Fin 128) (p : Fin 4) :
    KI.finalTarget (KI.readsOf b KI.cons KI.positions) (KI.labels b KI.cons KI.positions) p (ix2 a c) = R.target b (ix2 (num a c) p) := by
  obtain ⟨g, -, hx, hy, hw, hh, -, hb⟩ := reads_best b KI.positions a c
  have hc := chosen_apply b (num a c) g hb
  rw [target_apply]
  exact finalTarget_eq _ _ (R.chosen b) _ a c (num a c) (labels_eq b a c) (hx.trans (hc 0).symm) (hy.trans (hc 1).symm) (hw.trans (hc 2).symm)
    (hh.trans (hc 3).symm) (plane_ax a c) (plane_ay a c) (plane_aw a c) (plane_ah a c) p

end Boxes

/-! ## The results -/

section Results
variable (b : FVec Ideal Cert.ReferenceIdeal.S1x32x4 .f32)

theorem outLabel_eq : KI.outLabel b = R.outLabel b := by
  unfold KI.outLabel R.outLabel
  refine shapeCast_same _ _ _ _ fun j k h => ?_
  obtain ⟨a, c, rfl⟩ := KI.ex2 (n0 := 288) (n1 := 128) j
  obtain ⟨n, rfl⟩ : ∃ n : Fin 36864, k = ix1 n := ⟨k 0, eq_ix1 k⟩
  have hn : num a c = n := by
    refine Fin.ext ?_
    rw [Shape.rowMajor_val_two, Shape.rowMajor_val_one] at h
    change a.val * 128 + c.val = n.val at h
    unfold num
    dsimp only
    omega
  rw [← hn]
  exact labels_eq (R.boxes b) a c

theorem outTarget_eq : KI.outTarget b = R.outTarget b := by
  unfold KI.outTarget R.outTarget
  refine shapeCast_same _ _ _ _ fun j k h => ?_
  obtain ⟨a, c, p, rfl⟩ := KI.ex3 (n0 := 288) (n1 := 128) (n2 := 4) j
  obtain ⟨n, p', rfl⟩ := KI.ex2 (n0 := 36864) (n1 := 4) k
  have hn : num a c = n ∧ p = p' := by
    rw [Shape.rowMajor_val_three, Shape.rowMajor_val_two] at h
    change (a.val * 128 + c.val) * 4 + p.val = n.val * 4 + p'.val at h
    refine ⟨Fin.ext ?_, Fin.ext ?_⟩
    · unfold num
      dsimp only
      omega
    · omega
  rw [← hn.1, ← hn.2]
  refine (transpose_apply _ _ _ _ (ix3 (n0 := 4) (n1 := 288) (n2 := 128) p a c) fun d => ?_).trans (targets_eq (R.boxes b) a c p)
  match d with
  | ⟨0, _⟩ => rfl
  | ⟨1, _⟩ => rfl
  | ⟨2, _⟩ => rfl

end Results

end Cert.Proof

end
-- ==== Proof.RefRun.lean ====
/-
  What a run of the reference leaves in its results.
-/
module

public import proofs.«01_k».proof.Proof.RefValues
public import Idealize.ShloMosaic.Lib.StableHlo.RunRead

@[expose] public section

set_option maxRecDepth 16384
set_option maxHeartbeats 4000000

noncomputable section

namespace Cert.Proof.R

open Cert.ReferenceIdeal Cert.ReferenceIdeal.Facts₀
open Idealize.ShloMosaic Idealize.ShloMosaic.TcCoe Idealize.ShloMosaic.Tactic Idealize.SL.Sem

/-- A run of the reference leaves the labels of the boxes in its first result -/
theorem run_label (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v165) = outLabel (m ((c.tc : Thread nD τ).loc main_arg1))) := by
  hlo_run
  sl_kernel_rfl

/-- A line of operations cut in two. -/
theorem line_cut {Val : EltTy → Type} (k : Nat) (ops : List (HloOp τ sig Val)) (V : Valuation τ sig Val) :
    StableHlo.after ops V = StableHlo.after (ops.drop k) (StableHlo.after (ops.take k) V) := by
  induction k generalizing ops V with
  | zero => rfl
  | succ k ih =>
    cases ops with
    | nil => rfl
    | cons op ops => exact ih ops _

/-- The targets of the anchors, the boxes, each anchor's box and the labels. -/
def tailOf (ax ay aw ah : FVec Ideal S36864 .f32) (b : FVec Ideal S32x4 .f32) (best lab : IVec S36864 32) : Vec Ideal S1x9x64x64x4 .f32 :=
  let g := Host.gather gather_S32x4_S36864x1_S36864x4_1_0_n_n_0_1_14 b
    (broadcastInDim S36864x1 ![0] bcast_S36864_S36864x1_0 (select (cmpi .slt best (allI 0#32)) (addi best (allI 32#32)) best))
  shapeCast S1x9x64x64x4 (select (broadcastInDim S36864x4 ![0, 1] bcast_S36864x1_S36864x4_0_1 (column (cmpi .eq lab (allI 1#32))))
    (concatenate S36864x4 1 [⟨S36864x1, column (Host.divf (subf (cx g) ax) aw)⟩, ⟨S36864x1, column (Host.divf (subf (cy g) ay) ah)⟩,
      ⟨S36864x1, column (Host.log (Host.divf (cw g) aw))⟩, ⟨S36864x1, column (Host.log (Host.divf (ch g) ah))⟩]
      concatenates_S36864x1_S36864x1_S36864x1_S36864x1_S36864x4_d1)
    (broadcastInDim S36864x4 ![] bcast_S_S36864x4 (constant S_ .f32 0x00000000#32 : FVec Ideal S_ .f32)) : FVec Ideal S36864x4 .f32) shapeCasts_S36864x4_S1x9x64x64x4

theorem tail_eq (b : FVec Ideal S1x32x4 .f32) :
    tailOf ax ay aw ah (boxes b) (bestBox (boxes b)) (label2 (boxes b)) = outTarget b := by
  unfold tailOf outTarget target deltas chosen
  rfl

/-- The line leaves in its second result the targets of what it leaves in these. -/
theorem run_tail (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v164) = tailOf (r.2.mem ((c.tc : Thread nD τ).loc main_v2))
        (r.2.mem ((c.tc : Thread nD τ).loc main_v5)) (r.2.mem ((c.tc : Thread nD τ).loc main_v14))
        (r.2.mem ((c.tc : Thread nD τ).loc main_v17)) (r.2.mem ((c.tc : Thread nD τ).loc main_v32))
        (r.2.mem ((c.tc : Thread nD τ).loc main_v92)) (r.2.mem ((c.tc : Thread nD τ).loc main_v131))) := by
  refine θ_run_mono (StableHlo.run_hlo _ _ (by hlo_seq) (by decide) (by decide) (by simp)
      (by intro _ h; (repeat (cases h with | head => rfl | tail _ h => ?_)); exact nomatch h) _ _) ?_
  intro r hr c
  have e := fun b => (hr c b).trans (congrFun (line_cut 209 _ _) _)
  refine (e main_v164).trans ?_
  rw [e main_v2, e main_v5, e main_v14, e main_v17, e main_v32, e main_v92, e main_v131]
  clear e hr
  generalize StableHlo.after (List.take 209 _) _ = W
  after_reads_simp
  sl_kernel_rfl

section Reads
variable (m : (ℓ : Loc nD τ sig) → Buf (Elt Ideal) ℓ) (g : Dev nD → PrngReg)

theorem run_ax : θ_run (defs (F := Ideal)) (onTc (τ := τ) (main (F := Ideal))) ⟨m, fun _ => 0, g⟩ (fun r => ∀ c : Dev nD,
    r.2.mem ((c.tc : Thread nD τ).loc main_v2) = ax) := by hlo_run; sl_kernel_rfl
theorem run_ay : θ_run (defs (F := Ideal)) (onTc (τ := τ) (main (F := Ideal))) ⟨m, fun _ => 0, g⟩ (fun r => ∀ c : Dev nD,
    r.2.mem ((c.tc : Thread nD τ).loc main_v5) = ay) := by hlo_run; sl_kernel_rfl
theorem run_aw : θ_run (defs (F := Ideal)) (onTc (τ := τ) (main (F := Ideal))) ⟨m, fun _ => 0, g⟩ (fun r => ∀ c : Dev nD,
    r.2.mem ((c.tc : Thread nD τ).loc main_v14) = aw) := by hlo_run; sl_kernel_rfl
theorem run_ah : θ_run (defs (F := Ideal)) (onTc (τ := τ) (main (F := Ideal))) ⟨m, fun _ => 0, g⟩ (fun r => ∀ c : Dev nD,
    r.2.mem ((c.tc : Thread nD τ).loc main_v17) = ah) := by hlo_run; sl_kernel_rfl
theorem run_boxes : θ_run (defs (F := Ideal)) (onTc (τ := τ) (main (F := Ideal))) ⟨m, fun _ => 0, g⟩ (fun r => ∀ c : Dev nD,
    r.2.mem ((c.tc : Thread nD τ).loc main_v32) = boxes (m ((c.tc : Thread nD τ).loc main_arg1))) := by hlo_run; sl_kernel_rfl
theorem run_bestBox : θ_run (defs (F := Ideal)) (onTc (τ := τ) (main (F := Ideal))) ⟨m, fun _ => 0, g⟩ (fun r => ∀ c : Dev nD,
    r.2.mem ((c.tc : Thread nD τ).loc main_v92) = bestBox (boxes (m ((c.tc : Thread nD τ).loc main_arg1)))) := by hlo_run; sl_kernel_rfl
theorem run_label2 : θ_run (defs (F := Ideal)) (onTc (τ := τ) (main (F := Ideal))) ⟨m, fun _ => 0, g⟩ (fun r => ∀ c : Dev nD,
    r.2.mem ((c.tc : Thread nD τ).loc main_v131) = label2 (boxes (m ((c.tc : Thread nD τ).loc main_arg1)))) := by hlo_run; sl_kernel_rfl

/-- A run leaves the targets of the boxes in the second result. -/
theorem run_target : θ_run (defs (F := Ideal)) (onTc (τ := τ) (main (F := Ideal))) ⟨m, fun _ => 0, g⟩ (fun r => ∀ c : Dev nD,
      r.2.mem ((c.tc : Thread nD τ).loc main_v164) = outTarget (m ((c.tc : Thread nD τ).loc main_arg1))) := by
  refine θ_run_mono (θ_run_and (run_tail m g) (θ_run_and (run_ax m g) (θ_run_and (run_ay m g) (θ_run_and (run_aw m g)
    (θ_run_and (run_ah m g) (θ_run_and (run_boxes m g) (θ_run_and (run_bestBox m g) (run_label2 m g)))))))) ?_
  rintro r ⟨h, h1, h2, h3, h4, h5, h6, h7⟩ c
  rw [h c, h1 c, h2 c, h3 c, h4 c, h5 c, h6 c, h7 c]
  exact tail_eq _

end Reads

end Cert.Proof.R

end
-- ==== Proof.Algebraic.lean ====
/-
  The algebraic claim: on the same boxes both programs run, leave the same labels and the same targets, and
  leave their arguments as they were.
-/
module

public import proofs.«01_k».proof.Proof.Targets
public import proofs.«01_k».proof.Proof.KernelRead
public import proofs.«01_k».proof.Proof.RefRun
public import proofs.«01_k».proof.Proof.Frames

@[expose] public section

noncomputable section

namespace Cert.Proof

open Idealize.ShloMosaic Idealize.SL.Sem

variable [hKernelIdeal : Cert.KernelIdeal.Facts] [hReferenceIdeal : Cert.ReferenceIdeal.Facts]

theorem algebraic : Cert.algebraic_KernelIdeal_ReferenceIdeal := by
  intro m g m' g' _ hm
  refine ⟨fun c => KI.outLabel (m ((c.tc : Thread Cert.KernelIdeal.nD Cert.KernelIdeal.τ).loc Cert.KernelIdeal.main_arg1)),
    fun c => KI.outTarget (m ((c.tc : Thread Cert.KernelIdeal.nD Cert.KernelIdeal.τ).loc Cert.KernelIdeal.main_arg1)), ?_, ?_⟩
  · refine θ_run_mono (θ_run_and (KI.run m g) (KI.unchanged m g)) ?_
    rintro r ⟨h1, h2⟩ c
    exact ⟨(h1 c).1, (h1 c).2, h2 c⟩
  · refine θ_run_mono (θ_run_and (R.run_label m' g') (θ_run_and (R.run_target m' g') (frame_RI m' g' trivial))) ?_
    rintro r ⟨h1, h2, h3⟩ c
    refine ⟨(h1 c).trans ?_, (h2 c).trans ?_, h3.1 c⟩
    · rw [(hm c).2.1]
      exact (outLabel_eq _).symm
    · rw [(hm c).2.1]
      exact (outTarget_eq _).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim := by
  exact ⟨inferInstance, inferInstance, inferInstance, frame_K, frame_KI, frame_RI, trivial, algebraic⟩

end Cert.Proof

end
